-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_core [hPre_finite_core : Cert.Pre_finite_core.Facts] (m : (ℓ : Loc Cert.KernelIdeal.nD Cert.KernelIdeal.τ Cert.KernelIdeal.sig) → Buf (Elt Ideal) ℓ) : Prop :=
  ∀ c : Dev Cert.KernelIdeal.nD,
    (Cert.Pre_finite_core.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite_core.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite_core.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite_core.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_core [hPre_finite_core : Cert.Pre_finite_core.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_core.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite_core.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite_core.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite_core.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_core [hKernelIdeal : Cert.KernelIdeal.Facts] [hPre_finite_core : Cert.Pre_finite_core.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_core m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_core [hReferenceIdeal : Cert.ReferenceIdeal.Facts] [hPre_finite_core : Cert.Pre_finite_core.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_core m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "nbig" .f32 0xFF61B1E6#32 ⊥
  ∧ IdealRules.named_const.Statement Cert.KernelIdeal.κ "big" .f32 0x7F61B1E6#32 ⊤

def algebraic_KernelIdeal_ReferenceIdeal_pre_finite_core [hKernelIdeal : Cert.KernelIdeal.Facts] [hReferenceIdeal : Cert.ReferenceIdeal.Facts] [hPre_finite_core : Cert.Pre_finite_core.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_core m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_core : Cert.Pre_finite_core.Facts),
    quiescent_Kernel (hKernel := hKernel)
    ∧ quiescent_KernelIdeal (hKernelIdeal := hKernelIdeal)
    ∧ quiescent_KernelIdeal_pre_finite_core (hKernelIdeal := hKernelIdeal) (hPre_finite_core := hPre_finite_core)
    ∧ quiescent_ReferenceIdeal (hReferenceIdeal := hReferenceIdeal)
    ∧ quiescent_ReferenceIdeal_pre_finite_core (hReferenceIdeal := hReferenceIdeal) (hPre_finite_core := hPre_finite_core)
    ∧ preserves_Kernel_KernelIdeal
    ∧ algebraic_KernelIdeal_ReferenceIdeal_pre_finite_core (hKernelIdeal := hKernelIdeal) (hReferenceIdeal := hReferenceIdeal) (hPre_finite_core := hPre_finite_core)
-- ==== Pre_finite_core.lean ====
abbrev S4x2048x3 : Shape := ⟨3, ![4, 2048, 3]⟩
abbrev S6x16 : Shape := ⟨2, ![6, 16]⟩
abbrev S16 : Shape := ⟨1, ![16]⟩
abbrev S32x48 : Shape := ⟨2, ![32, 48]⟩
abbrev S48 : Shape := ⟨1, ![48]⟩
abbrev S1x64 : Shape := ⟨2, ![1, 64]⟩
abbrev S64 : Shape := ⟨1, ![64]⟩
abbrev S48x64 : Shape := ⟨2, ![48, 64]⟩
abbrev S128x128 : Shape := ⟨2, ![128, 128]⟩
abbrev S128 : Shape := ⟨1, ![128]⟩
abbrev S480x512 : Shape := ⟨2, ![480, 512]⟩
abbrev S512 : Shape := ⟨1, ![512]⟩
abbrev S512x512 : Shape := ⟨2, ![512, 512]⟩
abbrev S_ : Shape := ⟨0, ![]⟩

class Facts : Prop where
  bcast_S_S4x2048x3 : S_.BroadcastsInDim S4x2048x3 (![] : Fin 0 → Fin S4x2048x3.rank)
  bcast_S_S6x16 : S_.BroadcastsInDim S6x16 (![] : Fin 0 → Fin S6x16.rank)
  bcast_S_S128 : S_.BroadcastsInDim S128 (![] : Fin 0 → Fin S128.rank)

variable [Facts]

def fn {F : FTy → Type} [FloatOps F] (main_arg0 : FVec F S4x2048x3 .f32) (main_arg1 : FVec F S6x16 .f32) (main_arg2 : FVec F S16 .f32) (main_arg3 : FVec F S32x48 .f32) (main_arg4 : FVec F S48 .f32) (main_arg5 : FVec F S1x64 .f32) (main_arg6 : FVec F S64 .f32) (main_arg7 : FVec F S48x64 .f32) (main_arg8 : FVec F S64 .f32) (main_arg9 : FVec F S128x128 .f32) (main_arg10 : FVec F S128 .f32) (main_arg11 : FVec F S128 .f32) (main_arg12 : FVec F S128 .f32) (main_arg13 : FVec F S480x512 .f32) (main_arg14 : FVec F S512 .f32) (main_arg15 : FVec F S512 .f32) (main_arg16 : FVec F S512 .f32) (main_arg17 : FVec F S512x512 .f32) (main_arg18 : FVec F S512 .f32) (main_arg19 : FVec F S512 .f32) (main_arg20 : FVec F S512 .f32) : IVec S4x2048x3 1 × IVec S6x16 1 × IVec S128 1 × IVec S128 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_v3 : FVec F S6x16 .f32 := Host.absf main_arg1
  let main_cst_0 : FVec F S_ .f32 := constant S_ .f32 0x7F800000#32
  let main_v4 : FVec F S6x16 .f32 := broadcastInDim S6x16 ![] bcast_S_S6x16 main_cst_0
  let main_v5 : IVec S6x16 1 := cmpf .olt main_v3 main_v4
  let main_v6 : FVec F S128 .f32 := Host.absf main_arg11
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg12
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Kernel.lean ====
abbrev S4x2048x3 : Shape := ⟨3, ![4, 2048, 3]⟩
abbrev S6x16 : Shape := ⟨2, ![6, 16]⟩
abbrev S16 : Shape := ⟨1, ![16]⟩
abbrev S32x48 : Shape := ⟨2, ![32, 48]⟩
abbrev S48 : Shape := ⟨1, ![48]⟩
abbrev S1x64 : Shape := ⟨2, ![1, 64]⟩
abbrev S64 : Shape := ⟨1, ![64]⟩
abbrev S48x64 : Shape := ⟨2, ![48, 64]⟩
abbrev S128x128 : Shape := ⟨2, ![128, 128]⟩
abbrev S128 : Shape := ⟨1, ![128]⟩
abbrev S480x512 : Shape := ⟨2, ![480, 512]⟩
abbrev S512 : Shape := ⟨1, ![512]⟩
abbrev S512x512 : Shape := ⟨2, ![512, 512]⟩
abbrev S4x3x2048 : Shape := ⟨3, ![4, 3, 2048]⟩
abbrev S1x16 : Shape := ⟨2, ![1, 16]⟩
abbrev S4x2048x33 : Shape := ⟨3, ![4, 2048, 33]⟩
abbrev S4x2048x16 : Shape := ⟨3, ![4, 2048, 16]⟩
abbrev S1x128x3 : Shape := ⟨3, ![1, 128, 3]⟩
abbrev S1x3x2048 : Shape := ⟨3, ![1, 3, 2048]⟩
abbrev S1x2048x3 : Shape := ⟨3, ![1, 2048, 3]⟩
abbrev S1x128x33 : Shape := ⟨3, ![1, 128, 33]⟩
abbrev S1x128x16 : Shape := ⟨3, ![1, 128, 16]⟩
abbrev S128x3 : Shape := ⟨2, ![128, 3]⟩
abbrev S3x2048 : Shape := ⟨2, ![3, 2048]⟩
abbrev S2048x3 : Shape := ⟨2, ![2048, 3]⟩
abbrev S1x2048 : Shape := ⟨2, ![1, 2048]⟩
abbrev S128x1 : Shape := ⟨2, ![128, 1]⟩
abbrev S128x2048 : Shape := ⟨2, ![128, 2048]⟩
abbrev S128x16 : Shape := ⟨2, ![128, 16]⟩
abbrev S128x6 : Shape := ⟨2, ![128, 6]⟩
abbrev S128x33 : Shape := ⟨2, ![128, 33]⟩
abbrev S4x16x2048 : Shape := ⟨3, ![4, 16, 2048]⟩
abbrev S1x48 : Shape := ⟨2, ![1, 48]⟩
abbrev S4x2048x48 : Shape := ⟨3, ![4, 2048, 48]⟩
abbrev S1x16x2048 : Shape := ⟨3, ![1, 16, 2048]⟩
abbrev S1x2048x16 : Shape := ⟨3, ![1, 2048, 16]⟩
abbrev S1x128x48 : Shape := ⟨3, ![1, 128, 48]⟩
abbrev S16x2048 : Shape := ⟨2, ![16, 2048]⟩
abbrev S2048x16 : Shape := ⟨2, ![2048, 16]⟩
abbrev S128x48 : Shape := ⟨2, ![128, 48]⟩
abbrev S128x32 : Shape := ⟨2, ![128, 32]⟩
abbrev S1x128 : Shape := ⟨2, ![1, 128]⟩
abbrev S33x8192x48 : Shape := ⟨3, ![33, 8192, 48]⟩
abbrev S64x1x128 : Shape := ⟨3, ![64, 1, 128]⟩
abbrev S1x2048x48 : Shape := ⟨3, ![1, 2048, 48]⟩
abbrev S33x128x48 : Shape := ⟨3, ![33, 128, 48]⟩
abbrev S1x1x128 : Shape := ⟨3, ![1, 1, 128]⟩
abbrev S4224x128 : Shape := ⟨2, ![4224, 128]⟩
abbrev S2048x48 : Shape := ⟨2, ![2048, 48]⟩
abbrev S128x64 : Shape := ⟨2, ![128, 64]⟩
abbrev S64x128 : Shape := ⟨2, ![64, 128]⟩
abbrev S_ : Shape := ⟨0, ![]⟩
abbrev S1x512 : Shape := ⟨2, ![1, 512]⟩
abbrev S8192x512 : Shape := ⟨2, ![8192, 512]⟩
abbrev S64x1x512 : Shape := ⟨3, ![64, 1, 512]⟩
abbrev S128x512 : Shape := ⟨2, ![128, 512]⟩
abbrev S1x1x512 : Shape := ⟨3, ![1, 1, 512]⟩
abbrev S48x512 : Shape := ⟨2, ![48, 512]⟩
abbrev S64x512 : Shape := ⟨2, ![64, 512]⟩
abbrev S16x1x512 : Shape := ⟨3, ![16, 1, 512]⟩
abbrev S16x512 : Shape := ⟨2, ![16, 512]⟩
abbrev S4x2048x512 : Shape := ⟨3, ![4, 2048, 512]⟩

abbrev nBuf : Space → Nat
  | .hbm => 136
  | .vmem => 91
  | .smem => 0
  | _ => 0

abbrev hbmTy0_0 (i : Nat) : BufTy := match i % 128 with
  | 0 => ⟨S4x2048x3, .f32⟩
  | 1 => ⟨S6x16, .f32⟩
  | 2 => ⟨S16, .f32⟩
  | 3 => ⟨S32x48, .f32⟩
  | 4 => ⟨S48, .f32⟩
  | 5 => ⟨S1x64, .f32⟩
  | 6 => ⟨S64, .f32⟩
  | 7 => ⟨S48x64, .f32⟩
  | 8 => ⟨S64, .f32⟩
  | 9 => ⟨S128x128, .f32⟩
  | 10 => ⟨S128, .f32⟩
  | 11 => ⟨S128, .f32⟩
  | 12 => ⟨S128, .f32⟩
  | 13 => ⟨S480x512, .f32⟩
  | 14 => ⟨S512, .f32⟩
  | 15 => ⟨S512, .f32⟩
  | 16 => ⟨S512, .f32⟩
  | 17 => ⟨S512x512, .f32⟩
  | 18 => ⟨S512, .f32⟩
  | 19 => ⟨S512, .f32⟩
  | 20 => ⟨S512, .f32⟩
  | 21 => ⟨S4x3x2048, .f32⟩
  | 22 => ⟨S1x16, .f32⟩
  | 23 => ⟨S4x2048x33, .f32⟩
  | 24 => ⟨S4x2048x33, .i32⟩
  | 25 => ⟨S4x2048x16, .f32⟩
  | 26 => ⟨S4x16x2048, .f32⟩
  | 27 => ⟨S1x48, .f32⟩
  | 28 => ⟨S4x2048x48, .f32⟩
  | 29 => ⟨S128x128, .f32⟩
  | 30 => ⟨S1x64, .f32⟩
  | 31 => ⟨S1x64, .f32⟩
  | 32 => ⟨S1x128, .f32⟩
  | 33 => ⟨S33x8192x48, .bf16⟩
  | 34 => ⟨S64x1x128, .f32⟩
  | 35 => ⟨S64x1x128, .f32⟩
  | 36 => ⟨S64x128, .f32⟩
  | 37 => ⟨S64x128, .f32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S64x128, .f32⟩
  | 46 => ⟨S64x128, .f32⟩
  | 47 => ⟨S_, .f32⟩
  | 48 => ⟨S128, .f32⟩
  | 49 => ⟨S1x128, .f32⟩
  | 50 => ⟨S64x128, .f32⟩
  | 51 => ⟨S64x128, .f32⟩
  | 52 => ⟨S64x128, .f32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x64, .f32⟩
  | 64 => ⟨S1x64, .f32⟩
  | 65 => ⟨S1x128, .f32⟩
  | 66 => ⟨S1x128, .f32⟩
  | 67 => ⟨S1x128, .f32⟩
  | 68 => ⟨S1x512, .f32⟩
  | 69 => ⟨S8192x512, .f32⟩
  | 70 => ⟨S64x1x512, .f32⟩
  | 71 => ⟨S64x1x512, .f32⟩
  | 72 => ⟨S64x512, .f32⟩
  | 73 => ⟨S64x512, .f32⟩
  | 74 => ⟨S_, .f32⟩
  | 75 => ⟨S512, .f32⟩
  | 76 => ⟨S1x512, .f32⟩
  | 77 => ⟨S_, .f32⟩
  | 78 => ⟨S1x512, .f32⟩
  | 79 => ⟨S1x512, .f32⟩
  | 80 => ⟨S_, .f32⟩
  | 81 => ⟨S64x512, .f32⟩
  | 82 => ⟨S64x512, .f32⟩
  | 83 => ⟨S_, .f32⟩
  | 84 => ⟨S512, .f32⟩
  | 85 => ⟨S1x512, .f32⟩
  | 86 => ⟨S64x512, .f32⟩
  | 87 => ⟨S64x512, .f32⟩
  | 88 => ⟨S64x512, .f32⟩
  | 89 => ⟨S_, .f32⟩
  | 90 => ⟨S512, .f32⟩
  | 91 => ⟨S1x512, .f32⟩
  | 92 => ⟨S_, .f32⟩
  | 93 => ⟨S1x512, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S1x512, .f32⟩
  | 100 => ⟨S1x512, .f32⟩
  | 101 => ⟨S1x512, .f32⟩
  | 102 => ⟨S8192x512, .f32⟩
  | 103 => ⟨S16x1x512, .f32⟩
  | 104 => ⟨S16x1x512, .f32⟩
  | 105 => ⟨S16x512, .f32⟩
  | 106 => ⟨S16x512, .f32⟩
  | 107 => ⟨S_, .f32⟩
  | 108 => ⟨S512, .f32⟩
  | 109 => ⟨S1x512, .f32⟩
  | 110 => ⟨S_, .f32⟩
  | 111 => ⟨S1x512, .f32⟩
  | 112 => ⟨S1x512, .f32⟩
  | 113 => ⟨S_, .f32⟩
  | 114 => ⟨S16x512, .f32⟩
  | 115 => ⟨S16x512, .f32⟩
  | 116 => ⟨S_, .f32⟩
  | 117 => ⟨S512, .f32⟩
  | 118 => ⟨S1x512, .f32⟩
  | 119 => ⟨S16x512, .f32⟩
  | 120 => ⟨S16x512, .f32⟩
  | 121 => ⟨S16x512, .f32⟩
  | 122 => ⟨S_, .f32⟩
  | 123 => ⟨S512, .f32⟩
  | 124 => ⟨S1x512, .f32⟩
  | 125 => ⟨S_, .f32⟩
  | 126 => ⟨S1x512, .f32⟩
  | 127 => ⟨S1x512, .f32⟩
  | _ => ⟨S4x2048x3, .f32⟩

abbrev hbmTy0_1 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S1x512, .f32⟩
  | 6 => ⟨S8192x512, .f32⟩
  | 7 => ⟨S4x2048x512, .f32⟩
  | _ => ⟨S4x2048x3, .f32⟩

abbrev hbmTy (i : Nat) : BufTy := match i / 128 with
  | 0 => hbmTy0_0 i
  | 1 => hbmTy0_1 i
  | _ => ⟨S4x2048x3, .f32⟩

abbrev bufTy : (tb : Table) → Fin (tcTables nBuf tb) → BufTy
  | .hbm, ⟨i, _⟩ => hbmTy i
  | .local _ .vmem, ⟨0, _⟩ => ⟨S1x128x3, .f32⟩
  | .local _ .vmem, ⟨1, _⟩ => ⟨S1x128x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S6x16, .f32⟩
  | .local _ .vmem, ⟨7, _⟩ => ⟨S1x16, .f32⟩
  | .local _ .vmem, ⟨8, _⟩ => ⟨S1x128x33, .f32⟩
  | .local _ .vmem, ⟨9, _⟩ => ⟨S1x128x33, .f32⟩
  | .local _ .vmem, ⟨10, _⟩ => ⟨S1x128x33, .i32⟩
  | .local _ .vmem, ⟨11, _⟩ => ⟨S1x128x33, .i32⟩
  | .local _ .vmem, ⟨12, _⟩ => ⟨S1x128x16, .f32⟩
  | .local _ .vmem, ⟨13, _⟩ => ⟨S1x128x16, .f32⟩
  | .local _ .vmem, ⟨14, _⟩ => ⟨S1x128x16, .f32⟩
  | .local _ .vmem, ⟨15, _⟩ => ⟨S1x128x16, .f32⟩
  | .local _ .vmem, ⟨16, _⟩ => ⟨S1x16x2048, .f32⟩
  | .local _ .vmem, ⟨17, _⟩ => ⟨S1x16x2048, .f32⟩
  | .local _ .vmem, ⟨18, _⟩ => ⟨S1x2048x16, .f32⟩
  | .local _ .vmem, ⟨19, _⟩ => ⟨S1x2048x16, .f32⟩
  | .local _ .vmem, ⟨20, _⟩ => ⟨S32x48, .f32⟩
  | .local _ .vmem, ⟨21, _⟩ => ⟨S1x48, .f32⟩
  | .local _ .vmem, ⟨22, _⟩ => ⟨S1x128x48, .f32⟩
  | .local _ .vmem, ⟨23, _⟩ => ⟨S1x128x48, .f32⟩
  | .local _ .vmem, ⟨24, _⟩ => ⟨S1x128x33, .i32⟩
  | .local _ .vmem, ⟨25, _⟩ => ⟨S1x128x33, .i32⟩
  | .local _ .vmem, ⟨26, _⟩ => ⟨S1x128x33, .f32⟩
  | .local _ .vmem, ⟨27, _⟩ => ⟨S1x128x33, .f32⟩
  | .local _ .vmem, ⟨28, _⟩ => ⟨S1x2048x48, .f32⟩
  | .local _ .vmem, ⟨29, _⟩ => ⟨S1x2048x48, .f32⟩
  | .local _ .vmem, ⟨30, _⟩ => ⟨S48x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S128x128, .f32⟩
  | .local _ .vmem, ⟨35, _⟩ => ⟨S1x128, .f32⟩
  | .local _ .vmem, ⟨36, _⟩ => ⟨S33x128x48, .bf16⟩
  | .local _ .vmem, ⟨37, _⟩ => ⟨S33x128x48, .bf16⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S4224x128, .f32⟩
  | .local _ .vmem, ⟨43, _⟩ => ⟨S33x128x48, .bf16⟩
  | .local _ .vmem, ⟨44, _⟩ => ⟨S33x128x48, .bf16⟩
  | .local _ .vmem, ⟨45, _⟩ => ⟨S1x128x33, .i32⟩
  | .local _ .vmem, ⟨46, _⟩ => ⟨S1x128x33, .i32⟩
  | .local _ .vmem, ⟨47, _⟩ => ⟨S1x128x33, .f32⟩
  | .local _ .vmem, ⟨48, _⟩ => ⟨S1x128x33, .f32⟩
  | .local _ .vmem, ⟨49, _⟩ => ⟨S1x2048x48, .f32⟩
  | .local _ .vmem, ⟨50, _⟩ => ⟨S1x2048x48, .f32⟩
  | .local _ .vmem, ⟨51, _⟩ => ⟨S48x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S128x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S480x512, .f32⟩
  | .local _ .vmem, ⟨62, _⟩ => ⟨S1x512, .f32⟩
  | .local _ .vmem, ⟨63, _⟩ => ⟨S128x512, .f32⟩
  | .local _ .vmem, ⟨64, _⟩ => ⟨S128x512, .f32⟩
  | .local _ .vmem, ⟨65, _⟩ => ⟨S1x1x512, .f32⟩
  | .local _ .vmem, ⟨66, _⟩ => ⟨S1x1x512, .f32⟩
  | .local _ .vmem, ⟨67, _⟩ => ⟨S1x1x512, .f32⟩
  | .local _ .vmem, ⟨68, _⟩ => ⟨S1x1x512, .f32⟩
  | .local _ .vmem, ⟨69, _⟩ => ⟨S512x512, .f32⟩
  | .local _ .vmem, ⟨70, _⟩ => ⟨S512x512, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S1x512, .f32⟩
  | .local _ .vmem, ⟨75, _⟩ => ⟨S512x512, .f32⟩
  | .local _ .vmem, ⟨76, _⟩ => ⟨S1x512, .f32⟩
  | .local _ .vmem, ⟨77, _⟩ => ⟨S512x512, .f32⟩
  | .local _ .vmem, ⟨78, _⟩ => ⟨S512x512, .f32⟩
  | .local _ .vmem, ⟨79, _⟩ => ⟨S1x1x512, .f32⟩
  | .local _ .vmem, ⟨80, _⟩ => ⟨S1x1x512, .f32⟩
  | .local _ .vmem, ⟨81, _⟩ => ⟨S1x1x512, .f32⟩
  | .local _ .vmem, ⟨82, _⟩ => ⟨S1x1x512, .f32⟩
  | .local _ .vmem, ⟨83, _⟩ => ⟨S512x512, .f32⟩
  | .local _ .vmem, ⟨84, _⟩ => ⟨S512x512, .f32⟩
  | .local _ .vmem, ⟨85, _⟩ => ⟨S1x512, .f32⟩
  | .local _ .vmem, ⟨86, _⟩ => ⟨S1x512, .f32⟩
  | .local _ .vmem, ⟨87, _⟩ => ⟨S1x512, .f32⟩
  | .local _ .vmem, ⟨88, _⟩ => ⟨S1x512, .f32⟩
  | .local _ .vmem, ⟨89, _⟩ => ⟨S512x512, .f32⟩
  | .local _ .vmem, ⟨90, _⟩ => ⟨S512x512, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10_0 : Ref sig .tc := ⟨.hbm, 33, rfl⟩
abbrev main_v10_1 : Ref sig .tc := ⟨.hbm, 34, rfl⟩
abbrev main_v10_2 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_cst_0 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37_0 : Ref sig .tc := ⟨.hbm, 69, rfl⟩
abbrev main_v37_1 : Ref sig .tc := ⟨.hbm, 70, rfl⟩
abbrev main_v37_2 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_cst_7 : Ref sig .tc := ⟨.hbm, 77, rfl⟩
abbrev main_v42 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_10 : Ref sig .tc := ⟨.hbm, 89, rfl⟩
abbrev main_v51 : Ref sig .tc := ⟨.hbm, 90, rfl⟩
abbrev main_v52 : Ref sig .tc := ⟨.hbm, 91, rfl⟩
abbrev main_cst_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_12 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61_0 : Ref sig .tc := ⟨.hbm, 102, rfl⟩
abbrev main_v61_1 : Ref sig .tc := ⟨.hbm, 103, rfl⟩
abbrev main_v61_2 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_v65 : Ref sig .tc := ⟨.hbm, 109, rfl⟩
abbrev main_cst_14 : Ref sig .tc := ⟨.hbm, 110, rfl⟩
abbrev main_v66 : Ref sig .tc := ⟨.hbm, 111, rfl⟩
abbrev main_v67 : Ref sig .tc := ⟨.hbm, 112, rfl⟩
abbrev main_cst_15 : Ref sig .tc := ⟨.hbm, 113, rfl⟩
abbrev main_v68 : Ref sig .tc := ⟨.hbm, 114, rfl⟩
abbrev main_v69 : Ref sig .tc := ⟨.hbm, 115, rfl⟩
abbrev main_cst_16 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_cst_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_19 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg11_1 : Ref sig .tc := ⟨.vmem, 41, rfl⟩
abbrev cc2_scratch0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg12_0 : Ref sig .tc := ⟨.vmem, 59, rfl⟩
abbrev cc3_stg13_0 : Ref sig .tc := ⟨.vmem, 60, rfl⟩
abbrev cc3_stg14_0 : Ref sig .tc := ⟨.vmem, 61, rfl⟩
abbrev cc3_stg15_0 : Ref sig .tc := ⟨.vmem, 62, rfl⟩
abbrev cc3_stg16_0 : Ref sig .tc := ⟨.vmem, 63, rfl⟩
abbrev cc3_stg16_1 : Ref sig .tc := ⟨.vmem, 64, rfl⟩
abbrev cc3_stg17_0 : Ref sig .tc := ⟨.vmem, 65, rfl⟩
abbrev cc3_stg17_1 : Ref sig .tc := ⟨.vmem, 66, rfl⟩
abbrev cc3_stg18_0 : Ref sig .tc := ⟨.vmem, 67, rfl⟩
abbrev cc3_stg18_1 : Ref sig .tc := ⟨.vmem, 68, rfl⟩
abbrev cc4_stg0_0 : Ref sig .tc := ⟨.vmem, 69, rfl⟩
abbrev cc4_stg0_1 : Ref sig .tc := ⟨.vmem, 70, rfl⟩
abbrev cc4_stg1_0 : Ref sig .tc := ⟨.vmem, 71, rfl⟩
abbrev cc4_stg2_0 : Ref sig .tc := ⟨.vmem, 72, rfl⟩
abbrev cc4_stg3_0 : Ref sig .tc := ⟨.vmem, 73, rfl⟩
abbrev cc4_stg4_0 : Ref sig .tc := ⟨.vmem, 74, rfl⟩
abbrev cc4_stg5_0 : Ref sig .tc := ⟨.vmem, 75, rfl⟩
abbrev cc4_stg6_0 : Ref sig .tc := ⟨.vmem, 76, rfl⟩
abbrev cc4_stg7_0 : Ref sig .tc := ⟨.vmem, 77, rfl⟩
abbrev cc4_stg7_1 : Ref sig .tc := ⟨.vmem, 78, rfl⟩
abbrev cc4_stg8_0 : Ref sig .tc := ⟨.vmem, 79, rfl⟩
abbrev cc4_stg8_1 : Ref sig .tc := ⟨.vmem, 80, rfl⟩
abbrev cc4_stg9_0 : Ref sig .tc := ⟨.vmem, 81, rfl⟩
abbrev cc4_stg9_1 : Ref sig .tc := ⟨.vmem, 82, rfl⟩
abbrev cc5_stg0_0 : Ref sig .tc := ⟨.vmem, 83, rfl⟩
abbrev cc5_stg0_1 : Ref sig .tc := ⟨.vmem, 84, rfl⟩
abbrev cc5_stg1_0 : Ref sig .tc := ⟨.vmem, 85, rfl⟩
abbrev cc5_stg2_0 : Ref sig .tc := ⟨.vmem, 86, rfl⟩
abbrev cc5_stg3_0 : Ref sig .tc := ⟨.vmem, 87, rfl⟩
abbrev cc5_stg4_0 : Ref sig .tc := ⟨.vmem, 88, rfl⟩
abbrev cc5_stg5_0 : Ref sig .tc := ⟨.vmem, 89, rfl⟩
abbrev cc5_stg5_1 : Ref sig .tc := ⟨.vmem, 90, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc2_sem10_0 : DmaSem sig := 38
abbrev cc2_sem10_1 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc3_sem14_0 : DmaSem sig := 60
abbrev cc3_sem15_0 : DmaSem sig := 61
abbrev cc3_sem16_0 : DmaSem sig := 62
abbrev cc3_sem16_1 : DmaSem sig := 63
abbrev cc3_sem17_0 : DmaSem sig := 64
abbrev cc3_sem17_1 : DmaSem sig := 65
abbrev cc3_sem18_0 : DmaSem sig := 66
abbrev cc3_sem18_1 : DmaSem sig := 67
abbrev cc4_sem0_0 : DmaSem sig := 68
abbrev cc4_sem0_1 : DmaSem sig := 69
abbrev cc4_sem1_0 : DmaSem sig := 70
abbrev cc4_sem2_0 : DmaSem sig := 71
abbrev cc4_sem3_0 : DmaSem sig := 72
abbrev cc4_sem4_0 : DmaSem sig := 73
abbrev cc4_sem5_0 : DmaSem sig := 74
abbrev cc4_sem6_0 : DmaSem sig := 75
abbrev cc4_sem7_0 : DmaSem sig := 76
abbrev cc4_sem7_1 : DmaSem sig := 77
abbrev cc4_sem8_0 : DmaSem sig := 78
abbrev cc4_sem8_1 : DmaSem sig := 79
abbrev cc4_sem9_0 : DmaSem sig := 80
abbrev cc4_sem9_1 : DmaSem sig := 81
abbrev cc5_sem0_0 : DmaSem sig := 82
abbrev cc5_sem0_1 : DmaSem sig := 83
abbrev cc5_sem1_0 : DmaSem sig := 84
abbrev cc5_sem2_0 : DmaSem sig := 85
abbrev cc5_sem3_0 : DmaSem sig := 86
abbrev cc5_sem4_0 : DmaSem sig := 87
abbrev cc5_sem5_0 : DmaSem sig := 88
abbrev cc5_sem5_1 : DmaSem sig := 89

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S6x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x33 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x33 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc2_transform_10 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S1x128x33 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x33 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S48x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S33x128x48 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x1x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x1x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev grid3 : Pipeline.Grid := ⟨2, ![4, 16], ![false, false]⟩

def cc3_transform_0 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_17 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_18 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage3_0 : Fin 2 → Memref sig .tc .vmem S33x128x48 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x33 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x33 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x48 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S48x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S480x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 1 → Memref sig .tc .vmem S1x512 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false, false]

abbrev stage3_16 : Fin 2 → Memref sig .tc .vmem S128x512 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true]

abbrev stage3_17 : Fin 2 → Memref sig .tc .vmem S1x1x512 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true, true]

abbrev stage3_18 : Fin 2 → Memref sig .tc .vmem S1x1x512 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]
-- ==== KernelIdeal.lean ====
variable {F : FTy → Type} [FloatOps F] [Named F]
def κ : String → Option EReal := fun
  | "big" => some ⊤
  | "nbig" => some ⊥
  | _ => none
-- ==== ReferenceIdeal.lean ====
abbrev S4x2048x3 : Shape := ⟨3, ![4, 2048, 3]⟩
abbrev S6x16 : Shape := ⟨2, ![6, 16]⟩
abbrev S16 : Shape := ⟨1, ![16]⟩
abbrev S32x48 : Shape := ⟨2, ![32, 48]⟩
abbrev S48 : Shape := ⟨1, ![48]⟩
abbrev S1x64 : Shape := ⟨2, ![1, 64]⟩
abbrev S64 : Shape := ⟨1, ![64]⟩
abbrev S48x64 : Shape := ⟨2, ![48, 64]⟩
abbrev S128x128 : Shape := ⟨2, ![128, 128]⟩
abbrev S128 : Shape := ⟨1, ![128]⟩
abbrev S480x512 : Shape := ⟨2, ![480, 512]⟩
abbrev S512 : Shape := ⟨1, ![512]⟩
abbrev S512x512 : Shape := ⟨2, ![512, 512]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x33 : Shape := ⟨3, ![4, 2048, 33]⟩
abbrev S4 : Shape := ⟨1, ![4]⟩
abbrev S4x1x1 : Shape := ⟨3, ![4, 1, 1]⟩
abbrev S4x2048x33x1 : Shape := ⟨4, ![4, 2048, 33, 1]⟩
abbrev S4x2048x33x2 : Shape := ⟨4, ![4, 2048, 33, 2]⟩
abbrev S4x2048x33x3 : Shape := ⟨4, ![4, 2048, 33, 3]⟩
abbrev S4x2048x1x3 : Shape := ⟨4, ![4, 2048, 1, 3]⟩
abbrev S4x2048x33x6 : Shape := ⟨4, ![4, 2048, 33, 6]⟩
abbrev S4x2048x33x16 : Shape := ⟨4, ![4, 2048, 33, 16]⟩
abbrev S1x1x1x16 : Shape := ⟨4, ![1, 1, 1, 16]⟩
abbrev S2048 : Shape := ⟨1, ![2048]⟩
abbrev S1x2048x1 : Shape := ⟨3, ![1, 2048, 1]⟩
abbrev S4x2048x16 : Shape := ⟨3, ![4, 2048, 16]⟩
abbrev S4x2048x1x16 : Shape := ⟨4, ![4, 2048, 1, 16]⟩
abbrev S4x2048x33x32 : Shape := ⟨4, ![4, 2048, 33, 32]⟩
abbrev S4x2048x33x48 : Shape := ⟨4, ![4, 2048, 33, 48]⟩
abbrev S1x1x1x48 : Shape := ⟨4, ![1, 1, 1, 48]⟩
abbrev S4x2048x48 : Shape := ⟨3, ![4, 2048, 48]⟩
abbrev S4x2048x33x64 : Shape := ⟨4, ![4, 2048, 33, 64]⟩
abbrev S1x1x1x64 : Shape := ⟨4, ![1, 1, 1, 64]⟩
abbrev S4x2048x33x128 : Shape := ⟨4, ![4, 2048, 33, 128]⟩
abbrev S1x1x1x128 : Shape := ⟨4, ![1, 1, 1, 128]⟩
abbrev S4x2048x10 : Shape := ⟨3, ![4, 2048, 10]⟩
abbrev S4x2048x10x1 : Shape := ⟨4, ![4, 2048, 10, 1]⟩
abbrev S4x2048x10x3 : Shape := ⟨4, ![4, 2048, 10, 3]⟩
abbrev S4x2048x10x2 : Shape := ⟨4, ![4, 2048, 10, 2]⟩
abbrev S4x2048x10x48 : Shape := ⟨4, ![4, 2048, 10, 48]⟩
abbrev S4x2048x480 : Shape := ⟨3, ![4, 2048, 480]⟩
abbrev S4x2048x512 : Shape := ⟨3, ![4, 2048, 512]⟩
abbrev S1x1x512 : Shape := ⟨3, ![1, 1, 512]⟩

abbrev nBuf : Space → Nat
  | .hbm => 367
  | .vmem => 0
  | .smem => 0
  | _ => 0

abbrev hbmTy0_0 (i : Nat) : BufTy := match i % 128 with
  | 0 => ⟨S4x2048x3, .f32⟩
  | 1 => ⟨S6x16, .f32⟩
  | 2 => ⟨S16, .f32⟩
  | 3 => ⟨S32x48, .f32⟩
  | 4 => ⟨S48, .f32⟩
  | 5 => ⟨S1x64, .f32⟩
  | 6 => ⟨S64, .f32⟩
  | 7 => ⟨S48x64, .f32⟩
  | 8 => ⟨S64, .f32⟩
  | 9 => ⟨S128x128, .f32⟩
  | 10 => ⟨S128, .f32⟩
  | 11 => ⟨S128, .f32⟩
  | 12 => ⟨S128, .f32⟩
  | 13 => ⟨S480x512, .f32⟩
  | 14 => ⟨S512, .f32⟩
  | 15 => ⟨S512, .f32⟩
  | 16 => ⟨S512, .f32⟩
  | 17 => ⟨S512x512, .f32⟩
  | 18 => ⟨S512, .f32⟩
  | 19 => ⟨S512, .f32⟩
  | 20 => ⟨S512, .f32⟩
  | 21 => ⟨S4x2048x3, .f32⟩
  | 22 => ⟨S_, .f32⟩
  | 23 => ⟨S4x2048, .f32⟩
  | 24 => ⟨S4x2048x1, .f32⟩
  | 25 => ⟨S4x1x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S_, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x33, .f32⟩
  | 36 => ⟨S4x2048x33, .i32⟩
  | 37 => ⟨S4x2048x33, .f32⟩
  | 38 => ⟨S4, .i32⟩
  | 39 => ⟨S4x1x1, .i32⟩
  | 40 => ⟨S_, .i32⟩
  | 41 => ⟨S4x1x1, .i32⟩
  | 42 => ⟨S4x1x1, .i1⟩
  | 43 => ⟨S_, .i32⟩
  | 44 => ⟨S4x1x1, .i32⟩
  | 45 => ⟨S4x1x1, .i32⟩
  | 46 => ⟨S4x1x1, .i32⟩
  | 47 => ⟨S_, .i32⟩
  | 48 => ⟨S4x2048x33, .i32⟩
  | 49 => ⟨S4x2048x33, .i1⟩
  | 50 => ⟨S_, .i32⟩
  | 51 => ⟨S4x2048x33, .i32⟩
  | 52 => ⟨S4x2048x33, .i32⟩
  | 53 => ⟨S4x2048x33, .i32⟩
  | 54 => ⟨S4x2048x33, .i32⟩
  | 55 => ⟨S4x2048x33x1, .i32⟩
  | 56 => ⟨S4x2048x33x1, .i32⟩
  | 57 => ⟨S4x2048x33x2, .i32⟩
  | 58 => ⟨S4x2048x33x3, .f32⟩
  | 59 => ⟨S4x2048x1x3, .f32⟩
  | 60 => ⟨S4x2048x33x3, .f32⟩
  | 61 => ⟨S4x2048x33x3, .f32⟩
  | 62 => ⟨S4x2048x33x6, .f32⟩
  | 63 => ⟨S4x2048x33x16, .f32⟩
  | 64 => ⟨S1x1x1x16, .f32⟩
  | 65 => ⟨S4x2048x33x16, .f32⟩
  | 66 => ⟨S4x2048x33x16, .f32⟩
  | 67 => ⟨S_, .f32⟩
  | 68 => ⟨S_, .f32⟩
  | 69 => ⟨S4x2048x33x16, .f32⟩
  | 70 => ⟨S4x2048x33x16, .i1⟩
  | 71 => ⟨S_, .f32⟩
  | 72 => ⟨S4x2048x33x16, .f32⟩
  | 73 => ⟨S4x2048x33x16, .f32⟩
  | 74 => ⟨S4x2048x33x16, .f32⟩
  | 75 => ⟨S2048, .i32⟩
  | 76 => ⟨S1x2048x1, .i32⟩
  | 77 => ⟨S4x2048x33, .i32⟩
  | 78 => ⟨S4x2048x33, .i1⟩
  | 79 => ⟨S4x2048x33x1, .i1⟩
  | 80 => ⟨S_, .f32⟩
  | 81 => ⟨S_, .f32⟩
  | 82 => ⟨S4x2048x33x16, .i1⟩
  | 83 => ⟨S4x2048x33x16, .f32⟩
  | 84 => ⟨S4x2048x33x16, .f32⟩
  | 85 => ⟨S_, .f32⟩
  | 86 => ⟨S4x2048x16, .f32⟩
  | 87 => ⟨S4x2048x16, .f32⟩
  | 88 => ⟨S_, .f32⟩
  | 89 => ⟨S4x2048, .f32⟩
  | 90 => ⟨S4x2048x1, .f32⟩
  | 91 => ⟨S4x1x2048, .f32⟩
  | 92 => ⟨S4x2048x2048, .f32⟩
  | 93 => ⟨S4x2048x2048, .f32⟩
  | 94 => ⟨S4x2048x2048, .f32⟩
  | 95 => ⟨S4x2048x2048, .f32⟩
  | 96 => ⟨S_, .f32⟩
  | 97 => ⟨S4x2048x2048, .f32⟩
  | 98 => ⟨S4x2048x2048, .f32⟩
  | 99 => ⟨S4x2048x2048, .f32⟩
  | 100 => ⟨S4x2048x2048, .f32⟩
  | 101 => ⟨S4x2048x33, .f32⟩
  | 102 => ⟨S4x2048x33, .i32⟩
  | 103 => ⟨S4x2048x33, .f32⟩
  | 104 => ⟨S4, .i32⟩
  | 105 => ⟨S4x1x1, .i32⟩
  | 106 => ⟨S_, .i32⟩
  | 107 => ⟨S4x1x1, .i32⟩
  | 108 => ⟨S4x1x1, .i1⟩
  | 109 => ⟨S_, .i32⟩
  | 110 => ⟨S4x1x1, .i32⟩
  | 111 => ⟨S4x1x1, .i32⟩
  | 112 => ⟨S4x1x1, .i32⟩
  | 113 => ⟨S_, .i32⟩
  | 114 => ⟨S4x2048x33, .i32⟩
  | 115 => ⟨S4x2048x33, .i1⟩
  | 116 => ⟨S_, .i32⟩
  | 117 => ⟨S4x2048x33, .i32⟩
  | 118 => ⟨S4x2048x33, .i32⟩
  | 119 => ⟨S4x2048x33, .i32⟩
  | 120 => ⟨S4x2048x33, .i32⟩
  | 121 => ⟨S4x2048x33x1, .i32⟩
  | 122 => ⟨S4x2048x33x1, .i32⟩
  | 123 => ⟨S4x2048x33x2, .i32⟩
  | 124 => ⟨S4x2048x33x16, .f32⟩
  | 125 => ⟨S4x2048x1x16, .f32⟩
  | 126 => ⟨S4x2048x33x16, .f32⟩
  | 127 => ⟨S4x2048x33x16, .f32⟩
  | _ => ⟨S4x2048x3, .f32⟩

abbrev hbmTy0_1 (i : Nat) : BufTy := match i % 128 with
  | 0 => ⟨S4x2048x33x32, .f32⟩
  | 1 => ⟨S4x2048x33x48, .f32⟩
  | 2 => ⟨S1x1x1x48, .f32⟩
  | 3 => ⟨S4x2048x33x48, .f32⟩
  | 4 => ⟨S4x2048x33x48, .f32⟩
  | 5 => ⟨S_, .f32⟩
  | 6 => ⟨S_, .f32⟩
  | 7 => ⟨S4x2048x33x48, .f32⟩
  | 8 => ⟨S4x2048x33x48, .i1⟩
  | 9 => ⟨S_, .f32⟩
  | 10 => ⟨S4x2048x33x48, .f32⟩
  | 11 => ⟨S4x2048x33x48, .f32⟩
  | 12 => ⟨S4x2048x33x48, .f32⟩
  | 13 => ⟨S2048, .i32⟩
  | 14 => ⟨S1x2048x1, .i32⟩
  | 15 => ⟨S4x2048x33, .i32⟩
  | 16 => ⟨S4x2048x33, .i1⟩
  | 17 => ⟨S4x2048x33x1, .i1⟩
  | 18 => ⟨S_, .f32⟩
  | 19 => ⟨S_, .f32⟩
  | 20 => ⟨S4x2048x33x48, .i1⟩
  | 21 => ⟨S4x2048x33x48, .f32⟩
  | 22 => ⟨S4x2048x33x48, .f32⟩
  | 23 => ⟨S_, .f32⟩
  | 24 => ⟨S4x2048x48, .f32⟩
  | 25 => ⟨S4, .i32⟩
  | 26 => ⟨S4x1x1, .i32⟩
  | 27 => ⟨S2048, .i32⟩
  | 28 => ⟨S1x2048x1, .i32⟩
  | 29 => ⟨S_, .i32⟩
  | 30 => ⟨S4x1x1, .i32⟩
  | 31 => ⟨S4x1x1, .i1⟩
  | 32 => ⟨S_, .i32⟩
  | 33 => ⟨S4x1x1, .i32⟩
  | 34 => ⟨S4x1x1, .i32⟩
  | 35 => ⟨S4x1x1, .i32⟩
  | 36 => ⟨S_, .i32⟩
  | 37 => ⟨S4x2048x33, .i32⟩
  | 38 => ⟨S4x2048x33, .i1⟩
  | 39 => ⟨S_, .i32⟩
  | 40 => ⟨S4x2048x33, .i32⟩
  | 41 => ⟨S4x2048x33, .i32⟩
  | 42 => ⟨S4x2048x33, .i32⟩
  | 43 => ⟨S4x2048x33, .i32⟩
  | 44 => ⟨S4x2048x33x1, .i32⟩
  | 45 => ⟨S4x2048x33x1, .i32⟩
  | 46 => ⟨S4x2048x33x2, .i32⟩
  | 47 => ⟨S4x2048x33x48, .f32⟩
  | 48 => ⟨S4x2048x33x64, .f32⟩
  | 49 => ⟨S1x1x1x64, .f32⟩
  | 50 => ⟨S4x2048x33x64, .f32⟩
  | 51 => ⟨S4x2048x33x64, .f32⟩
  | 52 => ⟨S4x2048x33, .f32⟩
  | 53 => ⟨S4x2048x33, .f32⟩
  | 54 => ⟨S4x2048x33x1, .f32⟩
  | 55 => ⟨S4x2048x33x64, .f32⟩
  | 56 => ⟨S1x1x1x64, .f32⟩
  | 57 => ⟨S4x2048x33x64, .f32⟩
  | 58 => ⟨S4x2048x33x64, .f32⟩
  | 59 => ⟨S4x2048x33x128, .f32⟩
  | 60 => ⟨S128x128, .f32⟩
  | 61 => ⟨S4x2048x33x128, .f32⟩
  | 62 => ⟨S1x1x1x128, .f32⟩
  | 63 => ⟨S4x2048x33x128, .f32⟩
  | 64 => ⟨S4x2048x33x128, .f32⟩
  | 65 => ⟨S_, .f32⟩
  | 66 => ⟨S128, .f32⟩
  | 67 => ⟨S1x1x1x128, .f32⟩
  | 68 => ⟨S_, .f32⟩
  | 69 => ⟨S1x1x1x128, .f32⟩
  | 70 => ⟨S1x1x1x128, .f32⟩
  | 71 => ⟨S4x2048x33x128, .f32⟩
  | 72 => ⟨S4x2048x33x128, .f32⟩
  | 73 => ⟨S4x2048x33x128, .f32⟩
  | 74 => ⟨S_, .f32⟩
  | 75 => ⟨S128, .f32⟩
  | 76 => ⟨S1x1x1x128, .f32⟩
  | 77 => ⟨S_, .f32⟩
  | 78 => ⟨S1x1x1x128, .f32⟩
  | 79 => ⟨S1x1x1x128, .f32⟩
  | 80 => ⟨S4x2048x33x128, .f32⟩
  | 81 => ⟨S4x2048x33x128, .f32⟩
  | 82 => ⟨S_, .f32⟩
  | 83 => ⟨S1x1x1x128, .f32⟩
  | 84 => ⟨S1x1x1x128, .f32⟩
  | 85 => ⟨S1x1x1x128, .f32⟩
  | 86 => ⟨S4x2048x33x128, .f32⟩
  | 87 => ⟨S4x2048x33x128, .f32⟩
  | 88 => ⟨S1x1x1x128, .f32⟩
  | 89 => ⟨S4x2048x33x128, .f32⟩
  | 90 => ⟨S4x2048x33x128, .f32⟩
  | 91 => ⟨S1x1x1x128, .f32⟩
  | 92 => ⟨S4x2048x33x128, .f32⟩
  | 93 => ⟨S4x2048x33x128, .f32⟩
  | 94 => ⟨S_, .f32⟩
  | 95 => ⟨S_, .f32⟩
  | 96 => ⟨S4x2048x33x128, .f32⟩
  | 97 => ⟨S4x2048x33x128, .i1⟩
  | 98 => ⟨S_, .f32⟩
  | 99 => ⟨S4x2048x33x128, .f32⟩
  | 100 => ⟨S4x2048x33x128, .f32⟩
  | 101 => ⟨S4x2048x33x128, .f32⟩
  | 102 => ⟨S_, .f32⟩
  | 103 => ⟨S4x2048x33, .f32⟩
  | 104 => ⟨S4x2048x33, .f32⟩
  | 105 => ⟨S4x2048x33, .i32⟩
  | 106 => ⟨S4x2048x33, .f32⟩
  | 107 => ⟨S4x2048x33, .i32⟩
  | 108 => ⟨S4x2048x10, .i32⟩
  | 109 => ⟨S_, .i32⟩
  | 110 => ⟨S4x1x1, .i32⟩
  | 111 => ⟨S4x1x1, .i1⟩
  | 112 => ⟨S_, .i32⟩
  | 113 => ⟨S4x1x1, .i32⟩
  | 114 => ⟨S4x1x1, .i32⟩
  | 115 => ⟨S4x1x1, .i32⟩
  | 116 => ⟨S_, .i32⟩
  | 117 => ⟨S1x2048x1, .i32⟩
  | 118 => ⟨S1x2048x1, .i1⟩
  | 119 => ⟨S_, .i32⟩
  | 120 => ⟨S1x2048x1, .i32⟩
  | 121 => ⟨S1x2048x1, .i32⟩
  | 122 => ⟨S1x2048x1, .i32⟩
  | 123 => ⟨S_, .i32⟩
  | 124 => ⟨S4x2048x10, .i32⟩
  | 125 => ⟨S4x2048x10, .i1⟩
  | 126 => ⟨S_, .i32⟩
  | 127 => ⟨S4x2048x10, .i32⟩
  | _ => ⟨S4x2048x3, .f32⟩

abbrev hbmTy0_2 (i : Nat) : BufTy := match i % 128 with
  | 0 => ⟨S4x2048x10, .i32⟩
  | 1 => ⟨S4x2048x10, .i32⟩
  | 2 => ⟨S4x2048x10, .i32⟩
  | 3 => ⟨S4x2048x10, .i32⟩
  | 4 => ⟨S4x2048x10x1, .i32⟩
  | 5 => ⟨S4x2048x10x1, .i32⟩
  | 6 => ⟨S4x2048x10x1, .i32⟩
  | 7 => ⟨S4x2048x10x3, .i32⟩
  | 8 => ⟨S4x2048x10, .i32⟩
  | 9 => ⟨S_, .i32⟩
  | 10 => ⟨S4x1x1, .i32⟩
  | 11 => ⟨S4x1x1, .i1⟩
  | 12 => ⟨S_, .i32⟩
  | 13 => ⟨S4x1x1, .i32⟩
  | 14 => ⟨S4x1x1, .i32⟩
  | 15 => ⟨S4x1x1, .i32⟩
  | 16 => ⟨S_, .i32⟩
  | 17 => ⟨S4x2048x10, .i32⟩
  | 18 => ⟨S4x2048x10, .i1⟩
  | 19 => ⟨S_, .i32⟩
  | 20 => ⟨S4x2048x10, .i32⟩
  | 21 => ⟨S4x2048x10, .i32⟩
  | 22 => ⟨S4x2048x10, .i32⟩
  | 23 => ⟨S4x2048x10, .i32⟩
  | 24 => ⟨S4x2048x10x1, .i32⟩
  | 25 => ⟨S4x2048x10x1, .i32⟩
  | 26 => ⟨S4x2048x10x2, .i32⟩
  | 27 => ⟨S4x2048x10x48, .f32⟩
  | 28 => ⟨S4x2048x480, .f32⟩
  | 29 => ⟨S4x2048x512, .f32⟩
  | 30 => ⟨S1x1x512, .f32⟩
  | 31 => ⟨S4x2048x512, .f32⟩
  | 32 => ⟨S4x2048x512, .f32⟩
  | 33 => ⟨S_, .f32⟩
  | 34 => ⟨S512, .f32⟩
  | 35 => ⟨S1x1x512, .f32⟩
  | 36 => ⟨S_, .f32⟩
  | 37 => ⟨S1x1x512, .f32⟩
  | 38 => ⟨S1x1x512, .f32⟩
  | 39 => ⟨S4x2048x512, .f32⟩
  | 40 => ⟨S4x2048x512, .f32⟩
  | 41 => ⟨S4x2048x512, .f32⟩
  | 42 => ⟨S_, .f32⟩
  | 43 => ⟨S512, .f32⟩
  | 44 => ⟨S1x1x512, .f32⟩
  | 45 => ⟨S_, .f32⟩
  | 46 => ⟨S1x1x512, .f32⟩
  | 47 => ⟨S1x1x512, .f32⟩
  | 48 => ⟨S4x2048x512, .f32⟩
  | 49 => ⟨S4x2048x512, .f32⟩
  | 50 => ⟨S_, .f32⟩
  | 51 => ⟨S1x1x512, .f32⟩
  | 52 => ⟨S1x1x512, .f32⟩
  | 53 => ⟨S1x1x512, .f32⟩
  | 54 => ⟨S4x2048x512, .f32⟩
  | 55 => ⟨S4x2048x512, .f32⟩
  | 56 => ⟨S1x1x512, .f32⟩
  | 57 => ⟨S4x2048x512, .f32⟩
  | 58 => ⟨S4x2048x512, .f32⟩
  | 59 => ⟨S1x1x512, .f32⟩
  | 60 => ⟨S4x2048x512, .f32⟩
  | 61 => ⟨S4x2048x512, .f32⟩
  | 62 => ⟨S_, .f32⟩
  | 63 => ⟨S_, .f32⟩
  | 64 => ⟨S4x2048x512, .f32⟩
  | 65 => ⟨S4x2048x512, .i1⟩
  | 66 => ⟨S_, .f32⟩
  | 67 => ⟨S4x2048x512, .f32⟩
  | 68 => ⟨S4x2048x512, .f32⟩
  | 69 => ⟨S4x2048x512, .f32⟩
  | 70 => ⟨S4x2048x512, .f32⟩
  | 71 => ⟨S1x1x512, .f32⟩
  | 72 => ⟨S4x2048x512, .f32⟩
  | 73 => ⟨S4x2048x512, .f32⟩
  | 74 => ⟨S_, .f32⟩
  | 75 => ⟨S512, .f32⟩
  | 76 => ⟨S1x1x512, .f32⟩
  | 77 => ⟨S_, .f32⟩
  | 78 => ⟨S1x1x512, .f32⟩
  | 79 => ⟨S1x1x512, .f32⟩
  | 80 => ⟨S4x2048x512, .f32⟩
  | 81 => ⟨S4x2048x512, .f32⟩
  | 82 => ⟨S4x2048x512, .f32⟩
  | 83 => ⟨S_, .f32⟩
  | 84 => ⟨S512, .f32⟩
  | 85 => ⟨S1x1x512, .f32⟩
  | 86 => ⟨S_, .f32⟩
  | 87 => ⟨S1x1x512, .f32⟩
  | 88 => ⟨S1x1x512, .f32⟩
  | 89 => ⟨S4x2048x512, .f32⟩
  | 90 => ⟨S4x2048x512, .f32⟩
  | 91 => ⟨S_, .f32⟩
  | 92 => ⟨S1x1x512, .f32⟩
  | 93 => ⟨S1x1x512, .f32⟩
  | 94 => ⟨S1x1x512, .f32⟩
  | 95 => ⟨S4x2048x512, .f32⟩
  | 96 => ⟨S4x2048x512, .f32⟩
  | 97 => ⟨S1x1x512, .f32⟩
  | 98 => ⟨S4x2048x512, .f32⟩
  | 99 => ⟨S4x2048x512, .f32⟩
  | 100 => ⟨S1x1x512, .f32⟩
  | 101 => ⟨S4x2048x512, .f32⟩
  | 102 => ⟨S4x2048x512, .f32⟩
  | 103 => ⟨S_, .f32⟩
  | 104 => ⟨S_, .f32⟩
  | 105 => ⟨S4x2048x512, .f32⟩
  | 106 => ⟨S4x2048x512, .i1⟩
  | 107 => ⟨S_, .f32⟩
  | 108 => ⟨S4x2048x512, .f32⟩
  | 109 => ⟨S4x2048x512, .f32⟩
  | 110 => ⟨S4x2048x512, .f32⟩
  | _ => ⟨S4x2048x3, .f32⟩

abbrev hbmTy (i : Nat) : BufTy := match i / 128 with
  | 0 => hbmTy0_0 i
  | 1 => hbmTy0_1 i
  | 2 => hbmTy0_2 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_values : Ref sig .tc := ⟨.hbm, 35, rfl⟩
abbrev main_indices : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_2 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_5 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v44 : Ref sig .tc := ⟨.hbm, 84, rfl⟩
abbrev main_cst_6 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_8 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_values_9 : Ref sig .tc := ⟨.hbm, 101, rfl⟩
abbrev main_indices_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_11 : Ref sig .tc := ⟨.hbm, 106, rfl⟩
abbrev main_v61 : Ref sig .tc := ⟨.hbm, 107, rfl⟩
abbrev main_v62 : Ref sig .tc := ⟨.hbm, 108, rfl⟩
abbrev main_c_12 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_13 : Ref sig .tc := ⟨.hbm, 113, rfl⟩
abbrev main_v66 : Ref sig .tc := ⟨.hbm, 114, rfl⟩
abbrev main_v67 : Ref sig .tc := ⟨.hbm, 115, rfl⟩
abbrev main_c_14 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_15 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_16 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v90 : Ref sig .tc := ⟨.hbm, 150, rfl⟩
abbrev main_cst_17 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_c_18 : Ref sig .tc := ⟨.hbm, 157, rfl⟩
abbrev main_v96 : Ref sig .tc := ⟨.hbm, 158, rfl⟩
abbrev main_v97 : Ref sig .tc := ⟨.hbm, 159, rfl⟩
abbrev main_c_19 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_20 : Ref sig .tc := ⟨.hbm, 164, rfl⟩
abbrev main_v101 : Ref sig .tc := ⟨.hbm, 165, rfl⟩
abbrev main_v102 : Ref sig .tc := ⟨.hbm, 166, rfl⟩
abbrev main_c_21 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_22 : Ref sig .tc := ⟨.hbm, 193, rfl⟩
abbrev main_v128 : Ref sig .tc := ⟨.hbm, 194, rfl⟩
abbrev main_v129 : Ref sig .tc := ⟨.hbm, 195, rfl⟩
abbrev main_cst_23 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_24 : Ref sig .tc := ⟨.hbm, 202, rfl⟩
abbrev main_v135 : Ref sig .tc := ⟨.hbm, 203, rfl⟩
abbrev main_v136 : Ref sig .tc := ⟨.hbm, 204, rfl⟩
abbrev main_cst_25 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_cst_26 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_27 : Ref sig .tc := ⟨.hbm, 222, rfl⟩
abbrev main_call4_cst : Ref sig .tc := ⟨.hbm, 223, rfl⟩
abbrev main_call4_v0 : Ref sig .tc := ⟨.hbm, 224, rfl⟩
abbrev main_call4_v1 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_v152 : Ref sig .tc := ⟨.hbm, 229, rfl⟩
abbrev main_cst_28 : Ref sig .tc := ⟨.hbm, 230, rfl⟩
abbrev main_v153 : Ref sig .tc := ⟨.hbm, 231, rfl⟩
abbrev main_v154 : Ref sig .tc := ⟨.hbm, 232, rfl⟩
abbrev main_call5_v0 : Ref sig .tc := ⟨.hbm, 233, rfl⟩
abbrev main_call5_v1_0 : Ref sig .tc := ⟨.hbm, 234, rfl⟩
abbrev main_v155 : Ref sig .tc := ⟨.hbm, 235, rfl⟩
abbrev main_v156 : Ref sig .tc := ⟨.hbm, 236, rfl⟩
abbrev main_c_29 : Ref sig .tc := ⟨.hbm, 237, rfl⟩
abbrev main_v157 : Ref sig .tc := ⟨.hbm, 238, rfl⟩
abbrev main_v158 : Ref sig .tc := ⟨.hbm, 239, rfl⟩
abbrev main_c_30 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_c_31 : Ref sig .tc := ⟨.hbm, 244, rfl⟩
abbrev main_v162 : Ref sig .tc := ⟨.hbm, 245, rfl⟩
abbrev main_v163 : Ref sig .tc := ⟨.hbm, 246, rfl⟩
abbrev main_c_32 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_c_33 : Ref sig .tc := ⟨.hbm, 251, rfl⟩
abbrev main_v167 : Ref sig .tc := ⟨.hbm, 252, rfl⟩
abbrev main_v168 : Ref sig .tc := ⟨.hbm, 253, rfl⟩
abbrev main_c_34 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_c_35 : Ref sig .tc := ⟨.hbm, 265, rfl⟩
abbrev main_v179 : Ref sig .tc := ⟨.hbm, 266, rfl⟩
abbrev main_v180 : Ref sig .tc := ⟨.hbm, 267, rfl⟩
abbrev main_c_36 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_c_37 : Ref sig .tc := ⟨.hbm, 272, rfl⟩
abbrev main_v184 : Ref sig .tc := ⟨.hbm, 273, rfl⟩
abbrev main_v185 : Ref sig .tc := ⟨.hbm, 274, rfl⟩
abbrev main_c_38 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_cst_39 : Ref sig .tc := ⟨.hbm, 289, rfl⟩
abbrev main_v199 : Ref sig .tc := ⟨.hbm, 290, rfl⟩
abbrev main_v200 : Ref sig .tc := ⟨.hbm, 291, rfl⟩
abbrev main_cst_40 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_cst_41 : Ref sig .tc := ⟨.hbm, 298, rfl⟩
abbrev main_v206 : Ref sig .tc := ⟨.hbm, 299, rfl⟩
abbrev main_v207 : Ref sig .tc := ⟨.hbm, 300, rfl⟩
abbrev main_cst_42 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_cst_43 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_cst_44 : Ref sig .tc := ⟨.hbm, 318, rfl⟩
abbrev main_call6_cst : Ref sig .tc := ⟨.hbm, 319, rfl⟩
abbrev main_call6_v0 : Ref sig .tc := ⟨.hbm, 320, rfl⟩
abbrev main_call6_v1 : Ref sig .tc := ⟨.hbm, 321, rfl⟩
abbrev main_call6_v2 : Ref sig .tc := ⟨.hbm, 322, rfl⟩
abbrev main_call6_v3 : Ref sig .tc := ⟨.hbm, 323, rfl⟩
abbrev main_call6_v4 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_cst_45 : Ref sig .tc := ⟨.hbm, 330, rfl⟩
abbrev main_v228 : Ref sig .tc := ⟨.hbm, 331, rfl⟩
abbrev main_v229 : Ref sig .tc := ⟨.hbm, 332, rfl⟩
abbrev main_cst_46 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_cst_47 : Ref sig .tc := ⟨.hbm, 339, rfl⟩
abbrev main_v235 : Ref sig .tc := ⟨.hbm, 340, rfl⟩
abbrev main_v236 : Ref sig .tc := ⟨.hbm, 341, rfl⟩
abbrev main_cst_48 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_cst_49 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_cst_50 : Ref sig .tc := ⟨.hbm, 359, rfl⟩
abbrev main_call7_cst : Ref sig .tc := ⟨.hbm, 360, rfl⟩
abbrev main_call7_v0 : Ref sig .tc := ⟨.hbm, 361, rfl⟩
abbrev main_call7_v1 : Ref sig .tc := ⟨.hbm, 362, rfl⟩
abbrev main_call7_v2 : Ref sig .tc := ⟨.hbm, 363, rfl⟩
abbrev main_call7_v3 : Ref sig .tc := ⟨.hbm, 364, rfl⟩
abbrev main_call7_v4 : Ref sig .tc := ⟨.hbm, 365, rfl⟩
abbrev main_v252 : Ref sig .tc := ⟨.hbm, 366, rfl⟩

abbrev nD : Nat := 1
abbrev τ : Topo := Topo.v7x

variable {F : FTy → Type} [FloatOps F]
-- ==== Proof.Frames.lean ====
/-
  The frame claims of the three programs and the two named constants.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The printed kernel runs to completion and leaves its arguments unchanged. -/
theorem kernel : Cert.quiescent_Kernel := fun m ρ _ => Cert.Kernel.Gen.frame m ρ

/-- So does the kernel over the reals. -/
theorem kernelIdeal : Cert.quiescent_KernelIdeal := fun m ρ _ => Cert.KernelIdeal.Gen.frame m ρ

/-- So does the reference. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two mask constants are the infinities. -/
theorem preserves : Cert.preserves_Kernel_KernelIdeal :=
  ⟨IdealRules.named_const.statement Cert.KernelIdeal.κ "nbig" .f32 0xFF61B1E6#32 ⊥ rfl,
   IdealRules.named_const.statement Cert.KernelIdeal.κ "big" .f32 0x7F61B1E6#32 ⊤ rfl⟩

end Cert.Frames

end
-- ==== Proof.Select.lean ====
/-
  Selection by repeated minimum. `pick v t` is what round `t` of the kernel's loop takes from the row `v`: the least index at
  which the row, with the earlier picks overwritten by `⊤`, is smallest. Where no entry of the row is `⊤`, the first `k` picks
  are the first `k` positions of the stable ascending sort of the row (`sortedFrom_eq_pick`), which is how the reference
  selects.
-/
module

public import Idealize.ShloMosaic.Lib.SortPrefix
public import Mathlib.Data.EReal.Basic
public import Mathlib.Data.Finset.Max

@[expose] public section

noncomputable section

namespace Cert.Spec

open Idealize.ShloMosaic

variable {n : ℕ} [NeZero n]

/-- Some index attains the minimum of a row. -/
theorem exists_min (v : Fin n → EReal) : (Finset.univ.filter fun i => ∀ j, v i ≤ v j).Nonempty := by
  obtain ⟨i, -, hi⟩ := Finset.exists_min_image Finset.univ v ⟨0, Finset.mem_univ _⟩
  exact ⟨i, by simpa using hi⟩

/-- The least index at which the row is smallest. -/
def argMin (v : Fin n → EReal) : Fin n := (Finset.univ.filter fun i => ∀ j, v i ≤ v j).min' (exists_min v)

theorem argMin_le (v : Fin n → EReal) (j : Fin n) : v (argMin v) ≤ v j := by
  have h := Finset.min'_mem _ (exists_min v)
  exact (Finset.mem_filter.mp h).2 j

theorem argMin_least (v : Fin n → EReal) (j : Fin n) (h : v j ≤ v (argMin v)) : argMin v ≤ j := by
  refine Finset.min'_le _ _ ?_
  simp only [Finset.mem_filter, Finset.mem_univ, true_and]
  exact fun i => h.trans (argMin_le v i)

/-- The row after `t` rounds: the picks so far overwritten by `⊤`. -/
def masked (v : Fin n → EReal) : ℕ → Fin n → EReal
  | 0 => v
  | t + 1 => fun i => if i = argMin (masked v t) then ⊤ else masked v t i

theorem masked_succ (v : Fin n → EReal) (t : ℕ) (i : Fin n) :
    masked v (t + 1) i = if i = argMin (masked v t) then ⊤ else masked v t i := rfl

/-- What round `t` picks. -/
def pick (v : Fin n → EReal) (t : ℕ) : Fin n := argMin (masked v t)

/-- An index no earlier round has picked still holds its entry. -/
theorem masked_of_not_picked (v : Fin n → EReal) (t : ℕ) (i : Fin n) (h : ∀ s < t, pick v s ≠ i) : masked v t i = v i := by
  induction t with
  | zero => rfl
  | succ t ih =>
    have h1 : i ≠ argMin (masked v t) := fun e => h t (Nat.lt_succ_self t) e.symm
    rw [masked_succ, if_neg h1]
    exact ih fun s hs => h s (Nat.lt_succ_of_lt hs)

/-- An index some earlier round has picked holds `⊤`. -/
theorem masked_of_picked (v : Fin n → EReal) (t s : ℕ) (h : s < t) : masked v t (pick v s) = ⊤ := by
  induction t with
  | zero => exact absurd h (Nat.not_lt_zero s)
  | succ t ih =>
    by_cases e : pick v s = argMin (masked v t)
    · rw [masked_succ, if_pos e]
    · rw [masked_succ, if_neg e]
      rcases Nat.lt_succ_iff_lt_or_eq.mp h with h | h
      · exact ih h
      · subst h; exact absurd rfl e

/-- With entries below `⊤`, a round takes no index twice. -/
theorem pick_ne (v : Fin n → EReal) (hv : ∀ i, v i ≠ ⊤) (t : ℕ) (ht : t < n) (s : ℕ) (hs : s < t) : pick v s ≠ pick v t := by
  intro e
  obtain ⟨i, hi⟩ : ∃ i : Fin n, ∀ s < t, pick v s ≠ i := by
    by_contra hc
    push Not at hc
    have hsub : (Finset.univ : Finset (Fin n)) ⊆ (Finset.range t).image (pick v) := fun i _ => by
      obtain ⟨s, hs, h⟩ := hc i
      exact Finset.mem_image.mpr ⟨s, Finset.mem_range.mpr hs, h⟩
    have := (Finset.card_le_card hsub).trans Finset.card_image_le
    simp only [Finset.card_univ, Fintype.card_fin, Finset.card_range] at this
    omega
  have h1 := argMin_le (masked v t) i
  rw [masked_of_not_picked v t i hi, show argMin (masked v t) = pick v t from rfl, ← e, masked_of_picked v t s hs] at h1
  exact hv i (top_le_iff.mp h1)

theorem pick_ne_of_lt (v : Fin n → EReal) (hv : ∀ i, v i ≠ ⊤) (t : ℕ) (ht : t < n) : ∀ s < t, pick v s ≠ pick v t :=
  fun s hs => pick_ne v hv t ht s hs

/-- The value a round takes is the row's own entry at its pick. -/
theorem masked_pick (v : Fin n → EReal) (hv : ∀ i, v i ≠ ⊤) (t : ℕ) (ht : t < n) : masked v t (pick v t) = v (pick v t) :=
  masked_of_not_picked v t _ (pick_ne_of_lt v hv t ht)

theorem pick_injective (v : Fin n → EReal) (hv : ∀ i, v i ≠ ⊤) {s t : ℕ} (hs : s < n) (ht : t < n) (h : pick v s = pick v t) :
    s = t := by
  rcases Nat.lt_trichotomy s t with h1 | h1 | h1
  · exact absurd h (pick_ne v hv t ht s h1)
  · exact h1
  · exact absurd h.symm (pick_ne v hv s hs t h1)

/-- A pick comes before every index that no round up to it has taken: by its entry, then by its position. -/
theorem pick_before (v : Fin n → EReal) (hv : ∀ i, v i ≠ ⊤) (t : ℕ) (ht : t < n) (p : Fin n) (hp : ∀ s ≤ t, pick v s ≠ p) :
    v (pick v t) < v p ∨ (v (pick v t) = v p ∧ pick v t < p) := by
  have h1 := argMin_le (masked v t) p
  have hm : masked v t p = v p := masked_of_not_picked v t p fun s hs => hp s hs.le
  rw [hm, show argMin (masked v t) = pick v t from rfl, masked_pick v hv t ht] at h1
  rcases h1.lt_or_eq with h | h
  · exact Or.inl h
  · refine Or.inr ⟨h, lt_of_le_of_ne ?_ (hp t le_rfl)⟩
    refine argMin_least (masked v t) p ?_
    rw [hm, show argMin (masked v t) = pick v t from rfl, masked_pick v hv t ht, h]

/-- Two relations that agree where the first element comes later in an increasing list sort the list alike. -/
theorem stableSort_congr_of_lt {ι : Type} [LinearOrder ι] (R R' : ι → ι → Bool) (l : List ι) (hl : l.Pairwise (· < ·))
    (h : ∀ a b : ι, a < b → R b a = R' b a) : stableSort R l = stableSort R' l := by
  induction l with
  | nil => rfl
  | cons a l ih =>
    rw [List.pairwise_cons] at hl
    unfold stableSort
    rw [ih hl.2]
    refine insertBefore_congr R R' a _ fun b hb => h a b ?_
    exact hl.1 b ((perm_stableSort R' l).mem_iff.mp hb)

/-- A stable sort by the key alone is the sort by the key and then the position. -/
theorem sortedFrom_eq_lex (v : Fin n → EReal) (B : Fin n → Fin n → Bool) (hB : ∀ a b, B a b = decide (v a < v b)) :
    sortedFrom B = sortedFrom fun k k' : Fin n => decide (v k < v k') || (decide (v k = v k') && decide (k < k')) := by
  have h : sortPositions n B
      = sortPositions n fun k k' : Fin n => decide (v k < v k') || (decide (v k = v k') && decide (k < k')) := by
    refine stableSort_congr_of_lt _ _ _ (List.pairwise_lt_finRange n) fun a b hab => ?_
    rw [hB, decide_eq_false (not_lt.mpr hab.le), Bool.and_false, Bool.or_false]
  funext k
  unfold sortedFrom
  rw [List.get_of_eq h]
  rfl

/-- The first `k` positions of the stable ascending sort are the first `k` picks. -/
theorem sortedFrom_eq_pick (v : Fin n → EReal) (hv : ∀ i, v i ≠ ⊤) (B : Fin n → Fin n → Bool)
    (hB : ∀ a b, B a b = decide (v a < v b)) {k : ℕ} (hk : k ≤ n) (i : Fin k) :
    sortedFrom B (i.castLE hk) = pick v i := by
  rw [sortedFrom_eq_lex v B hB]
  have hT : StrictTotalBefore fun k k' : Fin n => decide (v k < v k') || (decide (v k = v k') && decide (k < k')) := by
    classical
    have := StrictTotalBefore.of_key_then_position (n := n) (fun a b : EReal => decide (a < b)) v
      (fun a => by simp) (fun a b c => by simpa using fun h h' => lt_trans h h')
      (fun a b => by simpa using lt_trichotomy a b)
    convert this using 1
  have hlt (i : Fin k) : (i : ℕ) < n := lt_of_lt_of_le i.isLt hk
  refine hT.sortedFrom_eq_of_prefix hk (fun i : Fin k => pick v i) ?_ ?_ ?_ i
  · intro a b h
    exact Fin.ext (pick_injective v hv (hlt a) (hlt b) h)
  · intro a b hab
    refine hT.asymm _ _ ?_
    have := pick_before v hv a (hlt a) (pick v b) fun s hs =>
      pick_ne v hv b (hlt b) s (lt_of_le_of_lt hs hab)
    simpa using this
  · intro a p hp
    refine hT.asymm _ _ ?_
    have := pick_before v hv a (hlt a) p fun s hs => hp ⟨s, lt_of_le_of_lt hs a.isLt⟩
    simpa using this

end Cert.Spec

end
-- ==== Proof.Words.lean ====
/-
  The float constants the programs print, as extended reals, and the two reductions of a selection round: a minimum from
  `+∞` is the entry at the least minimising index, and a signed minimum over the marked positions is the least of them.
-/
module

public import proofs.«01_k».proof.Proof.Select
public import Idealize.ShloMosaic.PureOps.Ideal
public import Idealize.ShloMosaic.PureOps.Ideal.Laws
public import Idealize.ShloMosaic.Lib.SortNet.Extract
public import Mathlib.Tactic.NormNum

@[expose] public section

noncomputable section

namespace Cert.Spec

open Idealize.ShloMosaic

theorem bits_top : (Ideal.ofBits .f32 0x7F800000#32 : EReal) = ⊤ := by
  simp [Ideal.ofBits, Ideal.ieee]

theorem bits_bot : (Ideal.ofBits .f32 0xFF800000#32 : EReal) = ⊥ := by
  simp [Ideal.ofBits, Ideal.ieee]

theorem bits_two : (Ideal.ofBits .f32 0x40000000#32 : EReal) = ((2 : ℝ) : EReal) := by
  simp [Ideal.ofBits, Ideal.ieee]; rw [← EReal.coe_mul]; norm_num

/-- The slope constant is a real number. -/
theorem bits_slope : ∃ r : ℝ, (Ideal.ofBits .f32 0x3E4CCCCD#32 : EReal) = (r : EReal) :=
  ⟨_, by simp [Ideal.ofBits, Ideal.ieee]; rfl⟩

/-- The variance offset is a positive real number. -/
theorem bits_eps : ∃ r : ℝ, 0 < r ∧ (Ideal.ofBits .f32 0x3727C5AC#32 : EReal) = (r : EReal) := by
  refine ⟨2748779 / 274877906944, by positivity, ?_⟩
  simp [Ideal.ofBits, Ideal.ieee]; rw [← EReal.coe_mul]; norm_num

theorem bits_128 : (Ideal.ofBits .f32 0x43000000#32 : EReal) = ((128 : ℝ) : EReal) := by
  simp [Ideal.ofBits, Ideal.ieee]; rw [← EReal.coe_mul]; norm_num
theorem bits_512 : (Ideal.ofBits .f32 0x44000000#32 : EReal) = ((512 : ℝ) : EReal) := by
  simp [Ideal.ofBits, Ideal.ieee]; rw [← EReal.coe_mul]; norm_num
theorem bits_4224 : (Ideal.ofBits .f32 0x45840000#32 : EReal) = ((4224 : ℝ) : EReal) := by
  simp [Ideal.ofBits, Ideal.ieee]; rw [← EReal.coe_mul]; norm_num
theorem bits_8192 : (Ideal.ofBits .f32 0x46000000#32 : EReal) = ((8192 : ℝ) : EReal) := by
  simp [Ideal.ofBits, Ideal.ieee]; rw [← EReal.coe_mul]; norm_num
theorem bits_270336 : (Ideal.ofBits .f32 0x48840000#32 : EReal) = ((270336 : ℝ) : EReal) := by
  simp [Ideal.ofBits, Ideal.ieee]; rw [← EReal.coe_mul]; norm_num

variable {n : ℕ} [NeZero n]

/-- A minimum from `+∞` is the row's entry at its least minimising index. -/
theorem fold_min_eq (f : Fin n → EReal) : Finset.univ.fold min ⊤ f = f (argMin f) := by
  refine le_antisymm ?_ ?_
  · exact (Finset.fold_min_le _).mpr (Or.inr ⟨argMin f, Finset.mem_univ _, le_rfl⟩)
  · exact (Finset.le_fold_min _).mpr ⟨le_top, fun x _ => argMin_le f x⟩

/-- A signed minimum over the positions with a property, the others standing at `n`, is the least of them. -/
theorem fold_minsi_eq (hn : n < 2 ^ 31) (P : Fin n → Prop) [DecidablePred P] (a : Fin n) (ha : P a)
    (hle : ∀ j, P j → a ≤ j) :
    Finset.univ.fold IntOp.minsi (2147483647#32) (fun x : Fin n => if P x then BitVec.ofNat 32 x.val else BitVec.ofNat 32 n)
      = BitVec.ofNat 32 a.val := by
  have key (k : ℕ) (hk : k < 2 ^ 31) : (BitVec.ofNat 32 k).toInt = (k : ℤ) := by
    rw [BitVec.toInt_eq_toNat_cond, BitVec.toNat_ofNat]; norm_num at hk ⊢; omega
  refine BitVec.eq_of_toInt_eq ?_
  rw [← Finset.fold_hom (op' := (min : ℤ → ℤ → ℤ)) (m := fun w : BitVec 32 => w.toInt) (hm := SortNet.toInt_minsi)]
  rw [key a.val (lt_trans a.isLt hn)]
  refine le_antisymm ?_ ?_
  · refine (Finset.fold_min_le _).mpr (Or.inr ⟨a, Finset.mem_univ _, ?_⟩)
    rw [if_pos ha, key a.val (lt_trans a.isLt hn)]
  · refine (Finset.le_fold_min _).mpr ⟨?_, fun x _ => ?_⟩
    · have : (2147483647#32 : BitVec 32).toInt = 2147483647 := by decide
      rw [this]; have := a.isLt; norm_num at hn; omega
    · split
      · next h => rw [key x.val (lt_trans x.isLt hn)]; exact_mod_cast hle x h
      · rw [key n hn]; exact_mod_cast a.isLt.le

end Cert.Spec

end
-- ==== Proof.Spec.lean ====
/-
  The network on ordinary functions of extended reals: squared distances, nearest neighbours by repeated selection of the
  least, edge convolutions, the scoring network with its batch statistics, the choice of ten neighbours, and the
  two-layer perceptron. Both programs are shown equal to these.
-/
module

public import proofs.«01_k».proof.Proof.Words

@[expose] public section

noncomputable section

namespace Cert.Spec

open Idealize.ShloMosaic

/-- The slope of the leaky rectifier, as the programs' word decodes. -/
abbrev slope : EReal := Ideal.ofBits .f32 0x3E4CCCCD#32

/-- The variance's guard, as the programs' word decodes. -/
abbrev eps : EReal := Ideal.ofBits .f32 0x3727C5AC#32

/-- The leaky rectifier. -/
def leaky (u : EReal) : EReal := if 0 ≤ u then u else slope * u

/-- The squared distance of two points. -/
def sqDist {F : ℕ} (X : Fin 2048 → Fin F → EReal) (n m : Fin 2048) : EReal :=
  (∑ c, X n c * X n c + ∑ c, X m c * X m c) - 2 * ∑ c, X n c * X m c

/-- The `t`-th nearest point. -/
def nbr {F : ℕ} (X : Fin 2048 → Fin F → EReal) (n : Fin 2048) (t : ℕ) : Fin 2048 := pick (sqDist X n) t

/-- One edge's message: the matrix in two halves, for the point and for the difference to its neighbour. -/
def edge {F O : ℕ} (Wl Wr : Fin F → Fin O → EReal) (b : Fin O → EReal) (xi xj : Fin F → EReal) (o : Fin O) : EReal :=
  leaky (∑ c, xi c * Wl c o + ∑ c, (xj c - xi c) * Wr c o + b o)

/-- The edge convolution: the largest message of the thirty-three nearest points other than the point itself. -/
def edgeConv {F O : ℕ} (Wl Wr : Fin F → Fin O → EReal) (b : Fin O → EReal) (X : Fin 2048 → Fin F → EReal)
    (n : Fin 2048) (o : Fin O) : EReal :=
  Finset.univ.sup fun t : Fin 33 => if nbr X n t ≠ n then edge Wl Wr b (X n) (X (nbr X n t)) o else ⊥

/-- A neighbour's features: its feature row and its distance through the two linear maps, then the 1×1 convolution. -/
def hRow (l2W : Fin 48 → Fin 64 → EReal) (l2b l1W l1b : Fin 64 → EReal) (c3W : Fin 128 → Fin 128 → EReal) (c3b : Fin 128 → EReal)
    (g : Fin 48 → EReal) (d : EReal) (c : Fin 128) : EReal :=
  ∑ j : Fin 64, (∑ f, g f * l2W f j + l2b j) * c3W c ⟨j.val, by omega⟩
    + ∑ j : Fin 64, (Ideal.exp (-d) * l1W j + l1b j) * c3W c ⟨64 + j.val, by omega⟩ + c3b c

/-- A number normalised by a mean and a variance, scaled, shifted and rectified. -/
def bnorm (mu var g be h : EReal) : EReal := leaky (Ideal.div (h - mu) (Ideal.sqrt (var + eps)) * g + be)

/-- The mean over a finite family, the count given. -/
def mean {ι : Type} [Fintype ι] (cnt : EReal) (h : ι → EReal) : EReal := Ideal.div (∑ i, h i) cnt

/-- The mean squared deviation over a finite family, the count given. -/
def variance {ι : Type} [Fintype ι] (cnt : EReal) (h : ι → EReal) : EReal :=
  mean cnt fun i => (h i - mean cnt h) * (h i - mean cnt h)

/-- A running maximum from the bottom is the supremum. -/
theorem sup_of_steps {f g : ℕ → EReal} (h0 : g 0 = ⊥) (hs : ∀ t, g (t + 1) = max (g t) (f t)) (T : ℕ) :
    g T = Finset.univ.sup fun t : Fin T => f t := by
  induction T with
  | zero => rw [h0]; simp
  | succ T ih =>
    rw [hs, ih]
    apply le_antisymm
    · refine max_le (Finset.sup_le fun t _ => ?_) ?_
      · exact Finset.le_sup (f := fun t : Fin (T + 1) => f t) (Finset.mem_univ t.castSucc)
      · exact Finset.le_sup (f := fun t : Fin (T + 1) => f t) (Finset.mem_univ (Fin.last T))
    · refine Finset.sup_le fun t _ => ?_
      refine Fin.lastCases ?_ (fun i => ?_) t
      · exact le_max_right _ _
      · exact le_max_of_le_left (Finset.le_sup (f := fun t : Fin T => f t) (Finset.mem_univ i))

/-- A running sum from zero is the sum. -/
theorem sum_of_steps {f g : ℕ → EReal} (h0 : g 0 = 0) (hs : ∀ t, g (t + 1) = g t + f t) (T : ℕ) :
    g T = ∑ t : Fin T, f t := by
  induction T with
  | zero => rw [h0]; simp
  | succ T ih => rw [hs, ih, Fin.sum_univ_castSucc]; rfl

/-- A one-hot row times a column reads the column at the marked place. -/
theorem sum_hot {n : ℕ} (a : Fin n) (f : Fin n → EReal) : ∑ m, (if m = a then (1 : EReal) else 0) * f m = f a := by
  rw [Finset.sum_eq_single a]
  · simp
  · intro b _ hb; simp [hb]
  · simp

end Cert.Spec

end
-- ==== Proof.Spec2.lean ====
/-
  The network past the neighbours, on numbers: the thirty-three features of every point, their scores, the ten best, the two
  layers of the perceptron, and the normalisations between them.
-/
module

public import proofs.«01_k».proof.Proof.Spec

@[expose] public section

noncomputable section

namespace Cert.Spec

open Idealize.ShloMosaic

/-- A neighbour's score: the largest of its normalised features. -/
def score (mu var g be h : Fin 128 → EReal) : EReal := Finset.univ.sup fun c => bnorm (mu c) (var c) (g c) (be c) (h c)

/-- The `t`-th best of thirty-three scores. -/
def best (s : Fin 33 → EReal) (t : ℕ) : Fin 33 := pick (fun k => -(s k)) t

/-- The perceptron's first layer at a point: the ten best neighbours' features through their blocks of the matrix. -/
def zRow {O : ℕ} (W1 : Fin 10 → Fin 48 → Fin O → EReal) (b1 : Fin O → EReal) (T : Fin 10 → Fin 48 → EReal) (o : Fin O) : EReal :=
  ∑ t : Fin 10, ∑ f : Fin 48, T t f * W1 t f o + b1 o

/-- The perceptron's second layer at a point. -/
def layer {I O : ℕ} (W2 : Fin I → Fin O → EReal) (b2 : Fin O → EReal) (a : Fin I → EReal) (o : Fin O) : EReal :=
  ∑ j, a j * W2 j o + b2 o

/-- A block's sum. -/
def bSum {κ : Type} [Fintype κ] (h : κ → EReal) : EReal := ∑ i, h i

/-- A block's squared deviations about its own mean, the count given. -/
def bDev {κ : Type} [Fintype κ] (m : EReal) (h : κ → EReal) : EReal :=
  ∑ i, (h i - Ideal.div (∑ j, h j) m) * (h i - Ideal.div (∑ j, h j) m)

/-- The mean from the blocks' sums. -/
def cMean {ι : Type} [Fintype ι] (cnt : EReal) (bs : ι → EReal) : EReal := Ideal.div (∑ b, bs b) cnt

/-- The variance from the blocks' sums and squared deviations. -/
def cVar {ι : Type} [Fintype ι] (m cnt : EReal) (bs bd : ι → EReal) : EReal :=
  Ideal.div (∑ b, bd b + m * ∑ b, (Ideal.div (bs b) m - cMean cnt bs) * (Ideal.div (bs b) m - cMean cnt bs)) cnt

end Cert.Spec

end
-- ==== Proof.Reals.lean ====
/-
  Which of the network's numbers are real, given real inputs.
-/
module

public import proofs.«01_k».proof.Proof.Spec2
public import proofs.«01_k».proof.Proof.Words
public import proofs.«01_k».proof.Proof.Select

@[expose] public section

noncomputable section

namespace Cert.Spec

open Idealize.ShloMosaic

/-- The number is real: neither infinity. -/
def Re (x : EReal) : Prop := ∃ r : ℝ, x = (r : EReal)

theorem Re.coe (r : ℝ) : Re (r : EReal) := ⟨r, rfl⟩
theorem Re.zero : Re 0 := ⟨0, rfl⟩
theorem Re.ne_top {x : EReal} (h : Re x) : x ≠ ⊤ := by obtain ⟨r, rfl⟩ := h; exact EReal.coe_ne_top r
theorem Re.ne_bot {x : EReal} (h : Re x) : x ≠ ⊥ := by obtain ⟨r, rfl⟩ := h; exact EReal.coe_ne_bot r
theorem Re.add {x y : EReal} (h : Re x) (h' : Re y) : Re (x + y) := by
  obtain ⟨r, rfl⟩ := h; obtain ⟨s, rfl⟩ := h'; exact ⟨r + s, (EReal.coe_add r s).symm⟩
theorem Re.sub {x y : EReal} (h : Re x) (h' : Re y) : Re (x - y) := by
  obtain ⟨r, rfl⟩ := h; obtain ⟨s, rfl⟩ := h'; exact ⟨r - s, (EReal.coe_sub r s).symm⟩
theorem Re.mul {x y : EReal} (h : Re x) (h' : Re y) : Re (x * y) := by
  obtain ⟨r, rfl⟩ := h; obtain ⟨s, rfl⟩ := h'; exact ⟨r * s, (EReal.coe_mul r s).symm⟩
theorem Re.neg {x : EReal} (h : Re x) : Re (-x) := by
  obtain ⟨r, rfl⟩ := h; exact ⟨-r, (EReal.coe_neg r).symm⟩
theorem Re.exp {x : EReal} (h : Re x) : Re (Ideal.exp x) := by
  obtain ⟨r, rfl⟩ := h; exact ⟨Real.exp r, rfl⟩
theorem Re.sum {ι : Type} (s : Finset ι) {f : ι → EReal} (h : ∀ i, Re (f i)) : Re (∑ i ∈ s, f i) :=
  Finset.sum_induction f Re (fun _ _ => Re.add) Re.zero fun i _ => h i

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number over a nonzero real number. -/
theorem div_real (r : ℝ) {s : ℝ} (hs : s ≠ 0) : Ideal.div (r : EReal) (s : EReal) = ((r / s : ℝ) : EReal) := by
  unfold Ideal.div
  rw [if_neg (by exact_mod_cast hs), ← EReal.coe_inv, ← EReal.coe_mul, div_eq_mul_inv]

theorem Re.div {x : EReal} (h : Re x) {s : ℝ} (hs : s ≠ 0) : Re (Ideal.div x (s : EReal)) := by
  obtain ⟨r, rfl⟩ := h; exact ⟨r / s, div_real r hs⟩

theorem Re.sup {ι : Type} [Fintype ι] {f : ι → EReal} (h : ∀ i, f i = ⊥ ∨ Re (f i)) (hi : ∃ i, Re (f i)) :
    Re (Finset.univ.sup f) := by
  obtain ⟨i, hi⟩ := hi
  obtain ⟨j, -, hj⟩ := Finset.exists_mem_eq_sup Finset.univ ⟨i, Finset.mem_univ i⟩ f
  have hle : f i ≤ Finset.univ.sup f := Finset.le_sup (Finset.mem_univ i)
  rw [hj] at hle ⊢
  refine (h j).resolve_left fun hb => hi.ne_bot ?_
  rw [hb] at hle
  exact le_bot_iff.mp hle

theorem Re.leaky {x : EReal} (h : Re x) : Re (leaky x) := by
  unfold Spec.leaky
  split
  · exact h
  · exact Re.mul (by obtain ⟨r, hr⟩ := bits_slope; exact ⟨r, hr⟩) h

section Cloud

variable {F O : ℕ} {X : Fin 2048 → Fin F → EReal} (hX : ∀ n k, Re (X n k))

include hX

theorem Re.sqDist (n m : Fin 2048) : Re (sqDist X n m) := by
  unfold Spec.sqDist
  refine Re.sub (Re.add (Re.sum _ fun c => ?_) (Re.sum _ fun c => ?_)) (Re.mul ?_ (Re.sum _ fun c => ?_))
  · exact Re.mul (hX n c) (hX n c)
  · exact Re.mul (hX m c) (hX m c)
  · exact ⟨2, rfl⟩
  · exact Re.mul (hX n c) (hX m c)

/-- One of the two nearest points is another point. -/
theorem exists_other (n : Fin 2048) : ∃ t : Fin 33, nbr X n t.val ≠ n := by
  by_contra hc
  push Not at hc
  have h0 := hc 0
  have h1 := hc 1
  have := pick_injective (sqDist X n) (fun i => (Re.sqDist hX n i).ne_top) (s := 0) (t := 1) (by norm_num) (by norm_num) (h0.trans h1.symm)
  exact absurd this (by norm_num)

end Cloud

/-- The mean of real numbers, the count a nonzero real number. -/
theorem Re.mean {ι : Type} [Fintype ι] {cnt : ℝ} (hc : cnt ≠ 0) {h : ι → EReal} (hh : ∀ i, Re (h i)) : Re (mean (cnt : EReal) h) :=
  Re.div (Re.sum _ hh) hc

/-- The variance of real numbers is a real number, not negative. -/
theorem variance_real {ι : Type} [Fintype ι] {cnt : ℝ} (hc : 0 < cnt) {h : ι → EReal} (hh : ∀ i, Re (h i)) :
    ∃ r : ℝ, 0 ≤ r ∧ variance (cnt : EReal) h = (r : EReal) := by
  obtain ⟨mu, hmu⟩ := Re.mean hc.ne' hh
  choose r hr using hh
  refine ⟨(∑ i, (r i - mu) * (r i - mu)) / cnt, div_nonneg (Finset.sum_nonneg fun i _ => mul_self_nonneg _) hc.le, ?_⟩
  unfold variance
  rw [hmu]
  unfold Spec.mean
  rw [← div_real _ hc.ne']
  refine congrArg (fun s => Ideal.div s _) ?_
  simp only [coe_sum, EReal.coe_mul, EReal.coe_sub, hr]

/-- A normalised real number, the variance not negative. -/
theorem Re.bnorm {mu g be h : EReal} (hm : Re mu) {var : ℝ} (hv : 0 ≤ var) (hg : Re g) (hb : Re be) (hh : Re h) :
    Re (bnorm mu (var : EReal) g be h) := by
  refine Re.leaky (Re.add (Re.mul ?_ hg) hb)
  obtain ⟨e, he, hee⟩ := bits_eps
  have hs : Ideal.sqrt ((var : EReal) + eps) = ((Real.sqrt (var + e) : ℝ) : EReal) := by
    show Ideal.sqrt ((var : EReal) + Ideal.ofBits .f32 0x3727C5AC#32) = _
    rw [hee, ← EReal.coe_add]
    show (if var + e < 0 then _ else _) = _
    rw [if_neg (by linarith)]
  rw [hs]
  exact Re.div (Re.sub hh hm) (Real.sqrt_pos.mpr (by linarith)).ne'

end Cert.Spec

end
-- ==== Proof.PreFacts.lean ====
/-
  The precondition's content: an array whose absolute values are all below infinity has real entries.
-/
module

public import proofs.«01_k».proof.Pre_finite_core
public import proofs.«01_k».proof.Proof.Reals
public import proofs.«01_k».proof.Proof.Words
public import Idealize.ShloMosaic.Lib.Pointwise

@[expose] public section

set_option maxRecDepth 16384

noncomputable section

namespace Cert.PreFacts

open Idealize.ShloMosaic Cert.Spec

/-- The shape conditions of the precondition's broadcasts. -/
theorem facts : Cert.Pre_finite_core.Facts where
  bcast_S_S4x2048x3 := by decide
  bcast_S_S6x16 := by decide
  bcast_S_S128 := by decide

/-- An entry whose absolute value is below infinity is real. -/
theorem re_of_abs_lt {x : EReal} (h : max x (-x) < ⊤) : Re x := by
  induction x with
  | bot => simp at h
  | top => simp at h
  | coe r => exact Re.coe r

/-- The comparison, at an index. -/
theorem re_of_lt {S : Shape} (x : FVec Ideal S .f32) (hb : (⟨0, ![]⟩ : Shape).BroadcastsInDim S (![] : Fin 0 → Fin S.rank))
    (h : cmpf .olt (Host.absf x) (broadcastInDim S ![] hb (constant (F := Ideal) ⟨0, ![]⟩ .f32 0x7F800000#32)) = fun _ => 1#1) (i : S.Idx) :
    Re (x i) := by
  have h1 := congrFun h i
  have h2 : broadcastInDim S ![] hb (constant (F := Ideal) ⟨0, ![]⟩ .f32 0x7F800000#32) i = ⊤ := bits_top
  have h3 : Ideal.cmp .olt (max (x i) (-x i)) (broadcastInDim S ![] hb (constant (F := Ideal) ⟨0, ![]⟩ .f32 0x7F800000#32) i) = 1#1 := h1
  rw [h2] at h3
  apply re_of_abs_lt
  by_contra hn
  simp only [Ideal.cmp, decide_eq_false hn] at h3
  exact absurd h3 (by decide)

end Cert.PreFacts

end
-- ==== Proof.Index.lean ====
/-
  Flat rows and blocks of the point clouds.
-/
module

public import proofs.«01_k».proof.Proof.Spec

@[expose] public section

namespace Cert.Spec

/-- The flat row of a point of a cloud. -/
def flat (b : Fin 4) (n : Fin 2048) : Fin 8192 := ⟨b.val * 2048 + n.val, by omega⟩
/-- A flat row's cloud. -/
def fB (N : Fin 8192) : Fin 4 := ⟨N.val / 2048, by omega⟩
/-- A flat row's point. -/
def fN (N : Fin 8192) : Fin 2048 := ⟨N.val % 2048, by omega⟩
/-- The flat number of a tile. -/
def tileNo (b : Fin 4) (q : Fin 16) : Fin 64 := ⟨b.val * 16 + q.val, by omega⟩
/-- A tile's cloud. -/
def tB (p : Fin 64) : Fin 4 := ⟨p.val / 16, by omega⟩
/-- A tile's number within its cloud. -/
def tQ (p : Fin 64) : Fin 16 := ⟨p.val % 16, by omega⟩
/-- A row of one of the ten blocks of the perceptron's first matrix. -/
def blkRow (t : Fin 10) (f : Fin 48) : Fin 480 := ⟨t.val * 48 + f.val, by omega⟩

@[simp] theorem fB_flat (b : Fin 4) (n : Fin 2048) : fB (flat b n) = b := by
  ext; simp only [fB, flat]; omega
@[simp] theorem fN_flat (b : Fin 4) (n : Fin 2048) : fN (flat b n) = n := by
  ext; simp only [fN, flat]; omega
@[simp] theorem flat_fB_fN (N : Fin 8192) : flat (fB N) (fN N) = N := by
  ext; simp only [fB, fN, flat]; omega
@[simp] theorem tB_tileNo (b : Fin 4) (q : Fin 16) : tB (tileNo b q) = b := by
  ext; simp only [tB, tileNo]; omega
@[simp] theorem tQ_tileNo (b : Fin 4) (q : Fin 16) : tQ (tileNo b q) = q := by
  ext; simp only [tQ, tileNo]; omega

end Cert.Spec
-- ==== Proof.Hosts.lean ====
/-
  The host's stretches between the kernel's regions, read at an index.
-/
module

public import proofs.«01_k».proof.Proof.Gen.KernelIdeal.Frame
public import proofs.«01_k».proof.Proof.Spec2
public import proofs.«01_k».proof.Proof.Words
public import proofs.«01_k».proof.Proof.Index
public import Idealize.ShloMosaic.Lib.Pointwise

@[expose] public section

set_option maxRecDepth 16384

noncomputable section

namespace Cert.KernelIdeal.Val

open Idealize.ShloMosaic Idealize.ShloMosaic.TcCoe Cert.KernelIdeal Cert.KernelIdeal.Gen Cert.Spec

variable (X : Valuation τ sig (Elt Ideal))

/-- The cloud transposed, and the vectors laid out as rows. -/
theorem h0_v0 (b : Fin 4) (k : Fin 3) (n : Fin 2048) : (StableHlo.after (hostOps0 (F := Ideal)) X (Proc.devRef .tc main_v0) : FVec Ideal S4x3x2048 .f32) (ix3 b k n) = (X (Proc.devRef .tc main_arg0) : FVec Ideal S4x2048x3 .f32) (ix3 b n k) := by
  after_results
  pointwise

theorem h0_v1 (o : Fin 16) : (StableHlo.after (hostOps0 (F := Ideal)) X (Proc.devRef .tc main_v1) : FVec Ideal S1x16 .f32) (ix2 0 o) = (X (Proc.devRef .tc main_arg2) : FVec Ideal S16 .f32) (ix1 o) := by
  after_results
  pointwise

theorem h1_v3 (b : Fin 4) (k : Fin 16) (n : Fin 2048) : (StableHlo.after (hostOps1 (F := Ideal)) X (Proc.devRef .tc main_v3) : FVec Ideal S4x16x2048 .f32) (ix3 b k n) = (X (Proc.devRef .tc main_v2_2) : FVec Ideal S4x2048x16 .f32) (ix3 b n k) := by
  after_results
  pointwise

theorem h1_v4 (o : Fin 48) : (StableHlo.after (hostOps1 (F := Ideal)) X (Proc.devRef .tc main_v4) : FVec Ideal S1x48 .f32) (ix2 0 o) = (X (Proc.devRef .tc main_arg4) : FVec Ideal S48 .f32) (ix1 o) := by
  after_results
  pointwise

theorem h2_v6 (j o : Fin 128) : (StableHlo.after (hostOps2 (F := Ideal)) X (Proc.devRef .tc main_v6) : FVec Ideal S128x128 .f32) (ix2 j o) = (X (Proc.devRef .tc main_arg9) : FVec Ideal S128x128 .f32) (ix2 o j) := by
  after_results
  pointwise

theorem h2_v7 (o : Fin 64) : (StableHlo.after (hostOps2 (F := Ideal)) X (Proc.devRef .tc main_v7) : FVec Ideal S1x64 .f32) (ix2 0 o) = (X (Proc.devRef .tc main_arg8) : FVec Ideal S64 .f32) (ix1 o) := by
  after_results
  pointwise

theorem h2_v8 (o : Fin 64) : (StableHlo.after (hostOps2 (F := Ideal)) X (Proc.devRef .tc main_v8) : FVec Ideal S1x64 .f32) (ix2 0 o) = (X (Proc.devRef .tc main_arg6) : FVec Ideal S64 .f32) (ix1 o) := by
  after_results
  pointwise

theorem h2_v9 (o : Fin 128) : (StableHlo.after (hostOps2 (F := Ideal)) X (Proc.devRef .tc main_v9) : FVec Ideal S1x128 .f32) (ix2 0 o) = (X (Proc.devRef .tc main_arg10) : FVec Ideal S128 .f32) (ix1 o) := by
  after_results
  pointwise

theorem h3_v31 (o : Fin 64) : (StableHlo.after (hostOps3 (F := Ideal)) X (Proc.devRef .tc main_v31) : FVec Ideal S1x64 .f32) (ix2 0 o) = (X (Proc.devRef .tc main_arg8) : FVec Ideal S64 .f32) (ix1 o) := by
  after_results
  pointwise

theorem h3_v32 (o : Fin 64) : (StableHlo.after (hostOps3 (F := Ideal)) X (Proc.devRef .tc main_v32) : FVec Ideal S1x64 .f32) (ix2 0 o) = (X (Proc.devRef .tc main_arg6) : FVec Ideal S64 .f32) (ix1 o) := by
  after_results
  pointwise

theorem h3_v33 (o : Fin 128) : (StableHlo.after (hostOps3 (F := Ideal)) X (Proc.devRef .tc main_v33) : FVec Ideal S1x128 .f32) (ix2 0 o) = (X (Proc.devRef .tc main_arg10) : FVec Ideal S128 .f32) (ix1 o) := by
  after_results
  pointwise

theorem h3_v34 (o : Fin 128) : (StableHlo.after (hostOps3 (F := Ideal)) X (Proc.devRef .tc main_v34) : FVec Ideal S1x128 .f32) (ix2 0 o) = (X (Proc.devRef .tc main_arg11) : FVec Ideal S128 .f32) (ix1 o) := by
  after_results
  pointwise

theorem h3_v35 (o : Fin 128) : (StableHlo.after (hostOps3 (F := Ideal)) X (Proc.devRef .tc main_v35) : FVec Ideal S1x128 .f32) (ix2 0 o) = (X (Proc.devRef .tc main_arg12) : FVec Ideal S128 .f32) (ix1 o) := by
  after_results
  pointwise

theorem h3_v36 (o : Fin 512) : (StableHlo.after (hostOps3 (F := Ideal)) X (Proc.devRef .tc main_v36) : FVec Ideal S1x512 .f32) (ix2 0 o) = (X (Proc.devRef .tc main_arg14) : FVec Ideal S512 .f32) (ix1 o) := by
  after_results
  pointwise

theorem h4_v58 (o : Fin 512) : (StableHlo.after (hostOps4 (F := Ideal)) X (Proc.devRef .tc main_v58) : FVec Ideal S1x512 .f32) (ix2 0 o) = (X (Proc.devRef .tc main_arg15) : FVec Ideal S512 .f32) (ix1 o) := by
  after_results
  pointwise

theorem h4_v59 (o : Fin 512) : (StableHlo.after (hostOps4 (F := Ideal)) X (Proc.devRef .tc main_v59) : FVec Ideal S1x512 .f32) (ix2 0 o) = (X (Proc.devRef .tc main_arg16) : FVec Ideal S512 .f32) (ix1 o) := by
  after_results
  pointwise

theorem h4_v60 (o : Fin 512) : (StableHlo.after (hostOps4 (F := Ideal)) X (Proc.devRef .tc main_v60) : FVec Ideal S1x512 .f32) (ix2 0 o) = (X (Proc.devRef .tc main_arg18) : FVec Ideal S512 .f32) (ix1 o) := by
  after_results
  pointwise

theorem h5_v82 (o : Fin 512) : (StableHlo.after (hostOps5 (F := Ideal)) X (Proc.devRef .tc main_v82) : FVec Ideal S1x512 .f32) (ix2 0 o) = (X (Proc.devRef .tc main_arg19) : FVec Ideal S512 .f32) (ix1 o) := by
  after_results
  pointwise

theorem h5_v83 (o : Fin 512) : (StableHlo.after (hostOps5 (F := Ideal)) X (Proc.devRef .tc main_v83) : FVec Ideal S1x512 .f32) (ix2 0 o) = (X (Proc.devRef .tc main_arg20) : FVec Ideal S512 .f32) (ix1 o) := by
  after_results
  pointwise

/-- The mean from the blocks' sums. -/
theorem h3_v16 (o : Fin 128) : (StableHlo.after (hostOps3 (F := Ideal)) X (Proc.devRef .tc main_v16) : FVec Ideal S1x128 .f32) (ix2 0 o) = cMean (Ideal.ofBits .f32 0x48840000#32) (fun b : Fin 64 => (X (Proc.devRef .tc main_v10_1) : FVec Ideal S64x1x128 .f32) (ix3 b 0 o)) := by
  after_results
  pointwise
  rfl

/-- The variance from the blocks' sums and deviations. -/
theorem h3_v30 (o : Fin 128) : (StableHlo.after (hostOps3 (F := Ideal)) X (Proc.devRef .tc main_v30) : FVec Ideal S1x128 .f32) (ix2 0 o) = cVar (Ideal.ofBits .f32 0x45840000#32) (Ideal.ofBits .f32 0x48840000#32) (fun b : Fin 64 => (X (Proc.devRef .tc main_v10_1) : FVec Ideal S64x1x128 .f32) (ix3 b 0 o)) (fun b : Fin 64 => (X (Proc.devRef .tc main_v10_2) : FVec Ideal S64x1x128 .f32) (ix3 b 0 o)) := by
  after_results
  pointwise
  rfl

/-- The mean from the blocks' sums. -/
theorem h4_v43 (o : Fin 512) : (StableHlo.after (hostOps4 (F := Ideal)) X (Proc.devRef .tc main_v43) : FVec Ideal S1x512 .f32) (ix2 0 o) = cMean (Ideal.ofBits .f32 0x46000000#32) (fun b : Fin 64 => (X (Proc.devRef .tc main_v37_1) : FVec Ideal S64x1x512 .f32) (ix3 b 0 o)) := by
  after_results
  pointwise
  rfl

/-- The variance from the blocks' sums and deviations. -/
theorem h4_v57 (o : Fin 512) : (StableHlo.after (hostOps4 (F := Ideal)) X (Proc.devRef .tc main_v57) : FVec Ideal S1x512 .f32) (ix2 0 o) = cVar (Ideal.ofBits .f32 0x43000000#32) (Ideal.ofBits .f32 0x46000000#32) (fun b : Fin 64 => (X (Proc.devRef .tc main_v37_1) : FVec Ideal S64x1x512 .f32) (ix3 b 0 o)) (fun b : Fin 64 => (X (Proc.devRef .tc main_v37_2) : FVec Ideal S64x1x512 .f32) (ix3 b 0 o)) := by
  after_results
  pointwise
  rfl

/-- The mean from the blocks' sums. -/
theorem h5_v67 (o : Fin 512) : (StableHlo.after (hostOps5 (F := Ideal)) X (Proc.devRef .tc main_v67) : FVec Ideal S1x512 .f32) (ix2 0 o) = cMean (Ideal.ofBits .f32 0x46000000#32) (fun b : Fin 16 => (X (Proc.devRef .tc main_v61_1) : FVec Ideal S16x1x512 .f32) (ix3 b 0 o)) := by
  after_results
  pointwise
  rfl

/-- The variance from the blocks' sums and deviations. -/
theorem h5_v81 (o : Fin 512) : (StableHlo.after (hostOps5 (F := Ideal)) X (Proc.devRef .tc main_v81) : FVec Ideal S1x512 .f32) (ix2 0 o) = cVar (Ideal.ofBits .f32 0x44000000#32) (Ideal.ofBits .f32 0x46000000#32) (fun b : Fin 16 => (X (Proc.devRef .tc main_v61_1) : FVec Ideal S16x1x512 .f32) (ix3 b 0 o)) (fun b : Fin 16 => (X (Proc.devRef .tc main_v61_2) : FVec Ideal S16x1x512 .f32) (ix3 b 0 o)) := by
  after_results
  pointwise
  rfl

/-- The rows laid out by cloud. -/
theorem h6_v85 (b : Fin 4) (n : Fin 2048) (o : Fin 512) : (StableHlo.after (hostOps6 (F := Ideal)) X (Proc.devRef .tc main_v85) : FVec Ideal S4x2048x512 .f32) (ix3 b n o) = (X (Proc.devRef .tc main_v84) : FVec Ideal S8192x512 .f32) (ix2 (flat b n) o) := by
  after_results
  pointwise
  rfl

end Cert.KernelIdeal.Val

end
-- ==== Proof.Rounds.lean ====
/-
  The rounds of the nearest-neighbour kernels as functions on vectors: one round reads a row's minimum, the least position
  holding it, and overwrites that position; one edge step turns the round's one-hot row into the neighbour's features and
  maximises the edge message into the accumulator. The printed bodies unroll 33 of them; `Body0`, `Body1` fold the bodies
  into these recursions.
-/
module

public import proofs.«01_k».proof.Proof.Gen.KernelIdeal

@[expose] public section

noncomputable section

namespace Cert.KernelIdeal.Val

open Idealize.ShloMosaic Cert.KernelIdeal Cert.KernelIdeal.Gen

variable {F : FTy → Type} [FloatOps F] [Named F]

/-- The positions along a row. -/
def posns : IVec S128x2048 32 := iota .tc S128x2048 32 [1] iota_S128x2048_d1_w32

/-- Each row's minimum. -/
def rowMin (v : FVec F S128x2048 .f32) : FVec F S128x1 .f32 :=
  shapeCast S128x1 (multiReduction .minimumf [1] S128 v 0x7F800000#32 reduces_S128x2048_S128 (.inl rfl) rfl)
    shapeCasts_S128_S128x1

/-- The least position at which each row holds its minimum. -/
def rowArg (v : FVec F S128x2048 .f32) : IVec S128x1 32 :=
  shapeCast S128x1 (multiReductionI .minsi [1] S128
    (select (cmpf .oeq v (broadcastTo S128x2048 (rowMin v) broadcasts_S128x1_S128x2048)) posns
      (broadcast S128x2048 2048#32)) 2147483647#32 reduces_S128x2048_S128 rfl) shapeCasts_S128_S128x1

/-- That position marked along the row. -/
def rowHot (v : FVec F S128x2048 .f32) : IVec S128x2048 1 :=
  cmpi .eq posns (broadcastTo S128x2048 (rowArg v) broadcasts_S128x1_S128x2048)

/-- The rows with the marked position overwritten by the mask constant. -/
def rowStep (v : FVec F S128x2048 .f32) : FVec F S128x2048 .f32 :=
  select (rowHot v) (broadcast S128x2048 (Named.named κ "big" 0x7F61B1E6#32)) v

/-- The rows after `t` rounds. -/
def rows (v : FVec F S128x2048 .f32) : ℕ → FVec F S128x2048 .f32
  | 0 => v
  | t + 1 => rowStep (rows v t)

/-- The one-hot rows as a matrix of zeros and ones. -/
def hotMat (v : FVec F S128x2048 .f32) : FVec F S128x2048 .bf16 :=
  truncf .bf16 (sitofp .f32 (extui 32 (rowHot v) natLt_1_32)) bitsLt_bf16_f32

/-- Thirty-three columns side by side. -/
def cols {α : Type} (f : ℕ → S128x1.Idx → α) : S128x33.Idx → α :=
  concatenate S128x33 1 (List.ofFn fun t : Fin 33 => ⟨S128x1, f t.val⟩)
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x33_d1

/-- The absolute row numbers of a tile. -/
def rowIds (q : BitVec 32) : IVec S128x1 32 := addi (broadcast S128x1 q) (iota .tc S128x1 32 [0] iota_S128x1_d0_w32)

end Cert.KernelIdeal.Val

end
-- ==== Proof.Body0.lean ====
/-
  The first nearest-neighbour body (3 features in, 16 out) folded into the rounds of `Rounds`.
-/
module

public import proofs.«01_k».proof.Proof.Rounds
public import proofs.«01_k».proof.Proof.Gen.KernelIdeal.Frame.Region0

@[expose] public section

set_option maxRecDepth 16384

noncomputable section

namespace Cert.KernelIdeal.Val

open Idealize.ShloMosaic Cert.KernelIdeal Cert.KernelIdeal.Gen

variable {F : FTy → Type} [FloatOps F] [Named F]

/-- One edge step: the marked rows of the three-part table, the edge message, and its maximum into the accumulator. -/
def edgeStep0 (xr : FVec F S128x3 .f32) (hi mid lo : FVec F S2048x3 .bf16) (W : FVec F S6x16 .bf16) (b : FVec F S1x16 .f32)
    (ids : IVec S128x1 32) (v : FVec F S128x2048 .f32) (acc : FVec F S128x16 .f32) : FVec F S128x16 .f32 :=
  have xj : FVec F S128x3 .f32 := addf (addf
    (matmul dot_S128x2048_S2048x3_S128x3_1_0_0_1_n_n none (hotMat v) hi (constant S128x3 .f32 0x00000000#32))
    (matmul dot_S128x2048_S2048x3_S128x3_1_0_0_1_n_n none (hotMat v) mid (constant S128x3 .f32 0x00000000#32)))
    (matmul dot_S128x2048_S2048x3_S128x3_1_0_0_1_n_n none (hotMat v) lo (constant S128x3 .f32 0x00000000#32))
  have cc : FVec F S128x6 .bf16 := truncf .bf16
    (concatenate S128x6 1 [⟨S128x3, xr⟩, ⟨S128x3, subf xj xr⟩] concatenates_S128x3_S128x3_S128x6_d1) bitsLt_bf16_f32
  have pre : FVec F S128x16 .f32 := addf
    (matmul dot_S128x6_S6x16_S128x16_1_0_0_1_n_n none cc W (constant S128x16 .f32 0x00000000#32))
    (broadcastTo S128x16 b broadcasts_S1x16_S128x16)
  have msg : FVec F S128x16 .f32 := select (cmpf .oge pre (broadcast S128x16 (Scalar.ofBits .f32 0x00000000#32))) pre
    (mulf (broadcast S128x16 (Scalar.ofBits .f32 0x3E4CCCCD#32)) pre)
  maximumf acc (select
    (broadcastTo S128x16 (shapeCast S128x1 (cmpi .ne (rowArg v) ids) shapeCasts_S128x1_S128x1) broadcasts_S128x1_S128x16)
    msg (broadcast S128x16 (Named.named κ "nbig" 0xFF61B1E6#32)))

/-- The accumulator after `t` edge steps. -/
def edges0 (xr : FVec F S128x3 .f32) (hi mid lo : FVec F S2048x3 .bf16) (W : FVec F S6x16 .bf16) (b : FVec F S1x16 .f32)
    (ids : IVec S128x1 32) (v : FVec F S128x2048 .f32) : ℕ → FVec F S128x16 .f32
  | 0 => broadcast S128x16 (Named.named κ "nbig" 0xFF61B1E6#32)
  | t + 1 => edgeStep0 xr hi mid lo W b ids (rows v t) (edges0 xr hi mid lo W b ids v t)

/-- The squared distances of a tile's rows to every point. -/
abbrev dist0 (x0 : Vec F S1x128x3 .f32) (x1 : Vec F S1x3x2048 .f32) : FVec F S128x2048 .f32 :=
  k0_pay6 (View.ld x0 r0_0) (View.ld x1 r0_1)

theorem out0_5_eq (i : grid0.Coords) (x0 : Vec F S1x128x3 .f32) (x1 : Vec F S1x3x2048 .f32) (x2 : Vec F S1x2048x3 .f32)
    (x3 : Vec F S6x16 .f32) (x4 : Vec F S1x16 .f32) :
    out0_5 i x0 x1 x2 x3 x4 = View.canon [⟨r0_5, shapeCast S1x128x33
      (cols fun t => rowMin (rows (dist0 x0 x1) t)) shapeCasts_S128x33_S1x128x33⟩] := by
  rfl

theorem out0_6_eq (i : grid0.Coords) (x0 : Vec F S1x128x3 .f32) (x1 : Vec F S1x3x2048 .f32) (x2 : Vec F S1x2048x3 .f32)
    (x3 : Vec F S6x16 .f32) (x4 : Vec F S1x16 .f32) :
    out0_6 i x0 x1 x2 x3 x4 = View.canon [⟨r0_5, shapeCast S1x128x33
      (cols fun t => rowArg (rows (dist0 x0 x1) t)) shapeCasts_S128x33_S1x128x33⟩] := by
  rfl

theorem out0_7_eq (i : grid0.Coords) (x0 : Vec F S1x128x3 .f32) (x1 : Vec F S1x3x2048 .f32) (x2 : Vec F S1x2048x3 .f32)
    (x3 : Vec F S6x16 .f32) (x4 : Vec F S1x16 .f32) :
    out0_7 i x0 x1 x2 x3 x4 = View.canon [⟨r0_6, shapeCast S1x128x16
      (edges0 (k0_pay4 (View.ld x0 r0_0)) (k0_pay7 (View.ld x2 r0_2)) (k0_pay9 (View.ld x2 r0_2))
        (k0_pay10 (View.ld x2 r0_2)) (k0_pay11 (View.ld x3 r0_3)) (k0_pay12 (View.ld x4 r0_4))
        (rowIds (Scalar.muli (BitVec.ofNat 32 (i 1).val) 128#32)) (dist0 x0 x1) 33) shapeCasts_S128x16_S1x128x16⟩] := by
  rfl

end Cert.KernelIdeal.Val

end
-- ==== Proof.RoundsAt.lean ====
/-
  The rounds read at an index over the extended reals: a round's mark is the row's pick, and the rows after `t` rounds are
  the masked rows of `Select`.
-/
module

public import proofs.«01_k».proof.Proof.Rounds
public import proofs.«01_k».proof.Proof.Words
public import Idealize.ShloMosaic.Lib.Pointwise
public import Idealize.ShloMosaic.PureOps.Reduce
public import Idealize.ShloMosaic.PureOps.Ideal.Laws

@[expose] public section

set_option maxRecDepth 16384

noncomputable section

namespace Cert.KernelIdeal.Val

open Idealize.ShloMosaic Cert.KernelIdeal Cert.KernelIdeal.Gen Cert.Spec

theorem named_big : (Named.named κ "big" 0x7F61B1E6#32 : Ideal .f32) = (⊤ : EReal) :=
  IdealRules.named_const.ideal_named_scalar _ _ _ _ rfl

theorem named_nbig : (Named.named κ "nbig" 0xFF61B1E6#32 : Ideal .f32) = (⊥ : EReal) :=
  IdealRules.named_const.ideal_named_scalar _ _ _ _ rfl

theorem zero3 : (![0, 0, 0] : Fin 3 → ℕ) = fun _ => 0 := by
  funext a; fin_cases a <;> rfl

theorem zero2 : (![0, 0] : Fin 2 → ℕ) = fun _ => 0 := by
  funext a; fin_cases a <;> rfl

/-- Equality of two small positions as words. -/
theorem cmpi_eq_pos {a b : ℕ} (ha : a < 2048) (hb : b < 2048) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simp only [BitVec.toNat_ofNat] at this
      omega
    · rintro rfl; rfl
  unfold IntOp.cmpi
  simp only [beq_eq_decide, this]

/-- Difference of two small positions as words. -/
theorem cmpi_ne_pos {a b : ℕ} (ha : a < 2048) (hb : b < 2048) :
    IntOp.cmpi .ne (BitVec.ofNat 32 a) (BitVec.ofNat 32 b) = BitVec.ofBool (decide (a ≠ b)) := by
  have : (BitVec.ofNat 32 a = BitVec.ofNat 32 b) ↔ a = b := by
    constructor
    · intro h
      have := congrArg BitVec.toNat h
      simp only [BitVec.toNat_ofNat] at this
      omega
    · rintro rfl; rfl
  unfold IntOp.cmpi
  simp only [bne_iff_ne, ne_eq, this, bne, beq_eq_decide, decide_not]

/-- A truth value as a real number. -/
theorem sitofp_bit (b : Bool) : (FloatOps.sitofp .f32 (BitVec.setWidth 32 (BitVec.ofBool b)) : Ideal .f32)
    = (if b = true then (1 : EReal) else 0) := by
  cases b
  · show (((BitVec.toInt _ : ℤ) : ℝ) : EReal) = _
    have : BitVec.toInt (BitVec.setWidth 32 (BitVec.ofBool false)) = 0 := by decide
    rw [this]; norm_num
  · show (((BitVec.toInt _ : ℤ) : ℝ) : EReal) = _
    have : BitVec.toInt (BitVec.setWidth 32 (BitVec.ofBool true)) = 1 := by decide
    rw [this]; norm_num

/-- A selection on a truth value. -/
theorem select_bit {α : Type} (b : Bool) (x y : α) :
    Scalar.select (BitVec.ofBool b) x y = if b = true then x else y := by
  cases b <;> rfl

theorem rowMin_at (v : FVec Ideal S128x2048 .f32) (r : Fin 128) :
    rowMin v (ix2 r 0) = v (ix2 r (argMin fun n => v (ix2 r n))) := by
  unfold rowMin
  pointwise
  rw [bits_top, fold_min_eq]

theorem rowArg_at (v : FVec Ideal S128x2048 .f32) (r : Fin 128) :
    rowArg v (ix2 r 0) = BitVec.ofNat 32 (argMin fun n => v (ix2 r n)).val := by
  unfold rowArg posns
  pointwise
  rw [rowMin_at]
  exact fold_minsi_eq (by norm_num) (fun x => v (ix2 r x) = _) _ rfl fun j hj => argMin_least _ _ hj.le

theorem rowHot_at (v : FVec Ideal S128x2048 .f32) (r : Fin 128) (n : Fin 2048) :
    rowHot v (ix2 r n) = BitVec.ofBool (decide (n = argMin fun n => v (ix2 r n))) := by
  unfold rowHot posns
  pointwise
  rw [rowArg_at, cmpi_eq_pos n.isLt (Fin.isLt _)]
  simp only [Fin.ext_iff]

theorem hotMat_at (v : FVec Ideal S128x2048 .f32) (r : Fin 128) (n : Fin 2048) :
    hotMat v (ix2 r n) = if n = argMin fun n => v (ix2 r n) then (1 : EReal) else 0 := by
  unfold hotMat
  pointwise
  rw [rowHot_at, sitofp_bit]
  simp only [decide_eq_true_eq]

theorem rowStep_at (v : FVec Ideal S128x2048 .f32) (r : Fin 128) (n : Fin 2048) :
    rowStep v (ix2 r n) = if n = argMin (fun n => v (ix2 r n)) then (⊤ : EReal) else v (ix2 r n) := by
  unfold rowStep
  pointwise
  rw [rowHot_at, named_big, select_bit]
  simp only [decide_eq_true_eq]

theorem rows_at (v : FVec Ideal S128x2048 .f32) (t : ℕ) (r : Fin 128) (n : Fin 2048) :
    rows v t (ix2 r n) = masked (fun n => v (ix2 r n)) t n := by
  induction t generalizing n with
  | zero => rfl
  | succ t ih =>
    rw [rows, rowStep_at, masked_succ]
    simp only [ih]

/-- A tile's row numbers are the tile's number times its height plus the row. -/
theorem rowIds_at (q : ℕ) (r : Fin 128) :
    rowIds (Scalar.muli (BitVec.ofNat 32 q) 128#32) (ix2 r 0) = BitVec.ofNat 32 (q * 128 + r.val) := by
  unfold rowIds
  pointwise
  rw [BitVec.ofNat_add, BitVec.ofNat_mul]
  rfl

/-- Thirty-three columns side by side, read at a column. -/
theorem cols_at {α : Type} (f : ℕ → S128x1.Idx → α) (r : Fin 128) (k : Fin 33) : cols f (ix2 r k) = f k.val (ix2 r 0) := by
  unfold cols
  refine (concatenate_ofFn_unit_apply' (t := S128x33) (s₁ := S128x1) (1 : Fin 2) (fun t : Fin 33 => f t.val) _ rfl
    (ix2 r k)).trans ?_
  refine congrArg (f k.val) ?_
  funext b
  fin_cases b <;> rfl

end Cert.KernelIdeal.Val

end
-- ==== Proof.Edge0.lean ====
/-
  The first nearest-neighbour tile at an index: what one edge step adds, and the tile's outputs.
-/
module

public import proofs.«01_k».proof.Proof.Body0
public import proofs.«01_k».proof.Proof.RoundsAt
public import proofs.«01_k».proof.Proof.Spec

@[expose] public section

noncomputable section

namespace Cert.KernelIdeal.Val

open Idealize.ShloMosaic Cert.KernelIdeal Cert.KernelIdeal.Gen Cert.Spec

section Step0

variable (X : Fin 2048 → Fin 3 → EReal) (Wl Wr : Fin 3 → Fin 16 → EReal) (B : Fin 16 → EReal) (row : Fin 128 → Fin 2048)
  {xr : FVec Ideal S128x3 .f32} {hi mid lo : FVec Ideal S2048x3 .bf16} {W : FVec Ideal S6x16 .bf16}
  {b : FVec Ideal S1x16 .f32} {ids : IVec S128x1 32}
  (hxr : ∀ r c, xr (ix2 r c) = X (row r) c) (hhi : ∀ m c, hi (ix2 m c) = X m c) (hmid : ∀ m c, mid (ix2 m c) = (0 : EReal))
  (hlo : ∀ m c, lo (ix2 m c) = (0 : EReal)) (hWl : ∀ (c : Fin 3) o, W (ix2 ⟨c.val, by omega⟩ o) = Wl c o)
  (hWr : ∀ (c : Fin 3) o, W (ix2 ⟨3 + c.val, by omega⟩ o) = Wr c o) (hb : ∀ o, b (ix2 0 o) = B o)
  (hids : ∀ r, ids (ix2 r 0) = BitVec.ofNat 32 (row r).val)

include hxr hhi hmid hlo hWl hWr hb hids

theorem edgeStep0_at (v : FVec Ideal S128x2048 .f32) (acc : FVec Ideal S128x16 .f32) (r : Fin 128) (o : Fin 16) :
    edgeStep0 xr hi mid lo W b ids v acc (ix2 r o) = max (acc (ix2 r o) : EReal)
      (if argMin (fun n => v (ix2 r n)) ≠ row r then edge Wl Wr B (X (row r)) (X (argMin fun n => v (ix2 r n))) o else ⊥) := by
  unfold edgeStep0
  pointwise
  simp only [hotMat_at, sum_hot, hmid, hlo, hhi, hxr, hWl, hWr, hb, hids, rowArg_at, named_nbig, mul_zero,
    Finset.sum_const_zero, add_zero]
  rw [cmpi_ne_pos (Fin.isLt _) (Fin.isLt _), select_bit]
  simp only [decide_eq_true_eq, ← Fin.ext_iff, ne_eq]
  rfl

/-- The accumulator after the thirty-three steps is the edge convolution. -/
theorem edges0_at (v : FVec Ideal S128x2048 .f32) (hv : ∀ r m, v (ix2 r m) = sqDist X (row r) m) (r : Fin 128) (o : Fin 16) :
    edges0 xr hi mid lo W b ids v 33 (ix2 r o) = edgeConv Wl Wr B X (row r) o := by
  refine sup_of_steps (g := fun t => edges0 xr hi mid lo W b ids v t (ix2 r o))
    (f := fun t => if nbr X (row r) t ≠ row r then edge Wl Wr B (X (row r)) (X (nbr X (row r) t)) o else ⊥) ?_ (fun t => ?_) 33
  · exact named_nbig
  · have h : (fun n => rows v t (ix2 r n)) = masked (sqDist X (row r)) t := by
      funext n; rw [rows_at]; simp only [hv]
    have h' : argMin (fun n => rows v t (ix2 r n)) = nbr X (row r) t := by rw [h]; rfl
    refine (edgeStep0_at X Wl Wr B row hxr hhi hmid hlo hWl hWr hb hids _ _ r o).trans ?_
    rw [h']

end Step0

section Tile0

variable (X : Fin 2048 → Fin 3 → EReal) (row : Fin 128 → Fin 2048)
  {x0 : Vec Ideal S1x128x3 .f32} {x1 : Vec Ideal S1x3x2048 .f32} {x2 : Vec Ideal S1x2048x3 .f32}

theorem dist0_at (h0 : ∀ r c, x0 (ix3 0 r c) = X (row r) c) (h1 : ∀ c m, x1 (ix3 0 c m) = X m c) (r : Fin 128) (m : Fin 2048) :
    dist0 x0 x1 (ix2 r m) = sqDist X (row r) m := by
  unfold dist0 k0_pay6 k0_pay4
  pointwise
  simp only [h0, h1, bits_two]
  unfold sqDist
  simp only [Fin.sum_univ_succ, Fin.sum_univ_zero, Fin.reduceSucc, add_zero, add_assoc]
  rfl

theorem hi0_at (h2 : ∀ m c, x2 (ix3 0 m c) = X m c) (m : Fin 2048) (c : Fin 3) :
    k0_pay7 (View.ld x2 r0_2) (ix2 m c) = X m c := by
  unfold k0_pay7 k0_pay5
  pointwise
  exact h2 m c

theorem mid0_at (hX : ∀ m c, X m c - X m c = 0) (h2 : ∀ m c, x2 (ix3 0 m c) = X m c) (m : Fin 2048) (c : Fin 3) :
    k0_pay9 (View.ld x2 r0_2) (ix2 m c) = (0 : EReal) := by
  unfold k0_pay9 k0_pay8 k0_pay7 k0_pay5
  pointwise
  rw [h2, hX]

theorem lo0_at (hX : ∀ m c, X m c - X m c = 0) (h2 : ∀ m c, x2 (ix3 0 m c) = X m c) (m : Fin 2048) (c : Fin 3) :
    k0_pay10 (View.ld x2 r0_2) (ix2 m c) = (0 : EReal) := by
  unfold k0_pay10 k0_pay9 k0_pay8 k0_pay7 k0_pay5
  pointwise
  rw [h2, hX, sub_zero]

variable (Wl Wr : Fin 3 → Fin 16 → EReal) (B : Fin 16 → EReal) {x3 : Vec Ideal S6x16 .f32} {x4 : Vec Ideal S1x16 .f32}

/-- The tile's edge convolution. -/
theorem tile0_edge (i : grid0.Coords) (hrow : ∀ r : Fin 128, (row r).val = (i 1).val * 128 + r.val)
    (hX : ∀ m c, X m c - X m c = 0) (h0 : ∀ r c, x0 (ix3 0 r c) = X (row r) c)
    (h1 : ∀ c m, x1 (ix3 0 c m) = X m c) (h2 : ∀ m c, x2 (ix3 0 m c) = X m c)
    (h3l : ∀ (c : Fin 3) (hc : c.val < 6) o, x3 (ix2 ⟨c.val, hc⟩ o) = Wl c o) (h3r : ∀ (c : Fin 3) (hc : 3 + c.val < 6) o, x3 (ix2 ⟨3 + c.val, hc⟩ o) = Wr c o)
    (h4 : ∀ o, x4 (ix2 0 o) = B o) (r : Fin 128) (o : Fin 16) :
    out0_7 i x0 x1 x2 x3 x4 (ix3 0 r o) = edgeConv Wl Wr B X (row r) o := by
  rw [out0_7_eq]
  refine (congrFun (View.canon_unit_zero zero3 _ _) _).trans ?_
  pointwise
  refine edges0_at X Wl Wr B row (fun r c => ?_) (hi0_at X h2) (mid0_at X hX h2) (lo0_at X hX h2) (fun c o => ?_)
    (fun c o => ?_) (fun o => ?_) (fun r => ?_) _ (dist0_at X row h0 h1) r o
  · unfold k0_pay4; pointwise; exact h0 r c
  · unfold k0_pay11; pointwise; exact h3l c _ o
  · unfold k0_pay11; pointwise; exact h3r c _ o
  · unfold k0_pay12; pointwise; exact h4 o
  · rw [rowIds_at, hrow]

/-- The tile's distances: the thirty-three least, ascending. -/
theorem tile0_dist (i : grid0.Coords) (hd : ∀ n m, sqDist X n m ≠ ⊤) (h0 : ∀ r c, x0 (ix3 0 r c) = X (row r) c)
    (h1 : ∀ c m, x1 (ix3 0 c m) = X m c) (r : Fin 128) (t : Fin 33) :
    out0_5 i x0 x1 x2 x3 x4 (ix3 0 r t) = sqDist X (row r) (nbr X (row r) t) := by
  rw [out0_5_eq]
  refine (congrFun (View.canon_unit_zero zero3 _ _) _).trans ?_
  pointwise
  have h : (fun n => rows (dist0 x0 x1) t (ix2 r n)) = masked (sqDist X (row r)) t := by
    funext n; rw [rows_at]; simp only [dist0_at X row h0 h1]
  rw [cols_at, rowMin_at, h, rows_at]
  simp only [dist0_at X row h0 h1]
  exact masked_pick _ (hd _) t.val (t.isLt.trans (by norm_num))

/-- The tile's neighbours. -/
theorem tile0_idx (i : grid0.Coords) (h0 : ∀ r c, x0 (ix3 0 r c) = X (row r) c)
    (h1 : ∀ c m, x1 (ix3 0 c m) = X m c) (r : Fin 128) (t : Fin 33) :
    out0_6 i x0 x1 x2 x3 x4 (ix3 0 r t) = BitVec.ofNat 32 (nbr X (row r) t).val := by
  rw [out0_6_eq]
  refine (congrFun (View.canon_unit_zero zero3 _ _) _).trans ?_
  pointwise
  have h : (fun n => rows (dist0 x0 x1) t (ix2 r n)) = masked (sqDist X (row r)) t := by
    funext n; rw [rows_at]; simp only [dist0_at X row h0 h1]
  rw [cols_at, rowArg_at, h]
  rfl

end Tile0

end Cert.KernelIdeal.Val

end
-- ==== Proof.Array0.lean ====
/-
  The first region's arrays after its run: the thirty-three least distances of every point, their neighbours, and the first
  edge convolution.
-/
module

public import proofs.«01_k».proof.Proof.Edge0
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.Spec
open Idealize.ShloMosaic.Pipeline (Dat)

variable (V : (c : Dev nD) → (b : Ref sig .tc) → Buf (Elt Ideal) ((c : Thread nD τ).loc b)) (c : Dev nD)
variable (X : Fin 4 → Fin 2048 → Fin 3 → EReal) (Wl Wr : Fin 3 → Fin 16 → EReal) (B : Fin 16 → EReal)

/-- A tile's rows. -/
def tileRow (q : Fin 16) (r : Fin 128) : Fin 2048 := ⟨q.val * 128 + r.val, by omega⟩

theorem idx0 : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] := by
  decide +kernel

variable (hA : ∀ b n k, V c main_arg0 (ix3 b n k) = X b n k) (hT : ∀ b k n, V c main_v0 (ix3 b k n) = X b n k)

/-- The batch of a grid point. -/
def pB0 (t : Fin cfg0.N) : Fin 4 := ⟨(grid0.coords t 0).val, (grid0.coords t 0).isLt⟩
/-- The row block of a grid point. -/
def pQ0 (t : Fin cfg0.N) : Fin 16 := ⟨(grid0.coords t 1).val, (grid0.coords t 1).isLt⟩

include hA in
theorem in0_0 (t : Fin cfg0.N) (r : Fin 128) (k : Fin 3) :
    iblk0 V c 0 t (ix3 0 r k) = X (pB0 t) (tileRow (pQ0 t) r) k := by
  refine Eq.trans ?_ (hA _ _ _)
  blk_ext [iblk0, idx0 t, tileRow, pB0, pQ0]

include hT in
theorem in0_1 (t : Fin cfg0.N) (r : Fin 2048) (k : Fin 3) :
    iblk0 V c 1 t (ix3 0 k r) = X (pB0 t) r k := by
  refine Eq.trans ?_ (hT _ _ _)
  blk_ext [iblk0, idx0 t, tileRow, pB0, pQ0]

include hA in
theorem in0_2 (t : Fin cfg0.N) (r : Fin 2048) (k : Fin 3) :
    iblk0 V c 2 t (ix3 0 r k) = X (pB0 t) r k := by
  refine Eq.trans ?_ (hA _ _ _)
  blk_ext [iblk0, idx0 t, tileRow, pB0, pQ0]

theorem in0_3 (t : Fin cfg0.N) (r : Fin 6) (k : Fin 16) :
    iblk0 V c 3 t (ix2 r k) = V c main_arg1 (ix2 r k) := by
  blk_ext [iblk0, idx0 t]

theorem in0_4 (t : Fin cfg0.N) (k : Fin 16) :
    iblk0 V c 4 t (ix2 0 k) = V c main_v1 (ix2 0 k) := by
  blk_ext [iblk0, idx0 t]

theorem emb0_5 (t : Fin cfg0.N) (r : Fin 128) (k : Fin 33) :
    (win0_5.blk t).view.emb (ix3 0 r k) = ix3 (pB0 t) (tileRow (pQ0 t) r) k := by
  blk_ext [idx0 t, tileRow, pB0, pQ0]

include hA hT in
theorem pt0_5 (hd : ∀ b n m, sqDist (X b) n m ≠ ⊤) (t : Fin cfg0.N) (r : Fin 128) (k : Fin 33) :
    out0_5 (grid0.coords t) (iblk0 V c 0 t) (iblk0 V c 1 t) (iblk0 V c 2 t) (iblk0 V c 3 t) (iblk0 V c 4 t) (ix3 0 r k)
      = sqDist (X (pB0 t)) (tileRow (pQ0 t) r) (nbr (X (pB0 t)) (tileRow (pQ0 t) r) (k)) :=
  tile0_dist (X (pB0 t)) (tileRow (pQ0 t)) (grid0.coords t) (hd _) (in0_0 V c X hA t) (fun k m => in0_1 V c X hT t m k) r k

include hA hT in
/-- The distances. -/
theorem arr0_5 (hd : ∀ b n m, sqDist (X b) n m ≠ ⊤) :
    (dat0 V c).arrAt 5 cfg0.N = fun j : S4x2048x33.Idx => sqDist (X (j 0)) (j 1) (nbr (X (j 0)) (j 1) (j 2)) := by
  refine (dat0 V c).arrAt_eq_of_covers 5 _ (by decide +kernel) fun t hf => ?_
  suffices h : ∀ z : S1x128x33.Idx, out0_5 (grid0.coords t) (iblk0 V c 0 t) (iblk0 V c 1 t) (iblk0 V c 2 t) (iblk0 V c 3 t)
      (iblk0 V c 4 t) z = (fun j : S4x2048x33.Idx => sqDist (X (j 0)) (j 1) (nbr (X (j 0)) (j 1) (j 2))) ((win0_5.blk t).view.emb z) by
    intro y
    rw [after0_5]
    exact h y
  intro z
  obtain ⟨a, r, k, rfl⟩ : ∃ (a : Fin 1) (r : Fin 128) (k : Fin 33), z = ix3 a r k := ⟨z 0, z 1, z 2, eq_ix3 z⟩
  obtain rfl : a = 0 := Subsingleton.elim _ _
  rw [emb0_5 t r k]
  exact pt0_5 V c X hA hT hd t r k

theorem emb0_6 (t : Fin cfg0.N) (r : Fin 128) (k : Fin 33) :
    (win0_6.blk t).view.emb (ix3 0 r k) = ix3 (pB0 t) (tileRow (pQ0 t) r) k := by
  blk_ext [idx0 t, tileRow, pB0, pQ0]

include hA hT in
theorem pt0_6 (t : Fin cfg0.N) (r : Fin 128) (k : Fin 33) :
    out0_6 (grid0.coords t) (iblk0 V c 0 t) (iblk0 V c 1 t) (iblk0 V c 2 t) (iblk0 V c 3 t) (iblk0 V c 4 t) (ix3 0 r k)
      = BitVec.ofNat 32 (nbr (X (pB0 t)) (tileRow (pQ0 t) r) (k)).val :=
  tile0_idx (X (pB0 t)) (tileRow (pQ0 t)) (grid0.coords t) (in0_0 V c X hA t) (fun k m => in0_1 V c X hT t m k) r k

include hA hT in
/-- The neighbours. -/
theorem arr0_6 :
    (dat0 V c).arrAt 6 cfg0.N = fun j : S4x2048x33.Idx => BitVec.ofNat 32 (nbr (X (j 0)) (j 1) (j 2)).val := by
  refine (dat0 V c).arrAt_eq_of_covers 6 _ (by decide +kernel) fun t hf => ?_
  suffices h : ∀ z : S1x128x33.Idx, out0_6 (grid0.coords t) (iblk0 V c 0 t) (iblk0 V c 1 t) (iblk0 V c 2 t) (iblk0 V c 3 t)
      (iblk0 V c 4 t) z = (fun j : S4x2048x33.Idx => BitVec.ofNat 32 (nbr (X (j 0)) (j 1) (j 2)).val) ((win0_6.blk t).view.emb z) by
    intro y
    rw [after0_6]
    exact h y
  intro z
  obtain ⟨a, r, k, rfl⟩ : ∃ (a : Fin 1) (r : Fin 128) (k : Fin 33), z = ix3 a r k := ⟨z 0, z 1, z 2, eq_ix3 z⟩
  obtain rfl : a = 0 := Subsingleton.elim _ _
  rw [emb0_6 t r k]
  exact pt0_6 V c X hA hT t r k

theorem emb0_7 (t : Fin cfg0.N) (r : Fin 128) (k : Fin 16) :
    (win0_7.blk t).view.emb (ix3 0 r k) = ix3 (pB0 t) (tileRow (pQ0 t) r) k := by
  blk_ext [idx0 t, tileRow, pB0, pQ0]

include hA hT in
theorem pt0_7 (hX : ∀ b m c, X b m c - X b m c = 0)
    (hl : ∀ (k : Fin 3) (hk : k.val < 6) o, V c main_arg1 (ix2 ⟨k.val, hk⟩ o) = Wl k o)
    (hr : ∀ (k : Fin 3) (hk : 3 + k.val < 6) o, V c main_arg1 (ix2 ⟨3 + k.val, hk⟩ o) = Wr k o) (hb : ∀ o, V c main_v1 (ix2 0 o) = B o) (t : Fin cfg0.N) (r : Fin 128) (k : Fin 16) :
    out0_7 (grid0.coords t) (iblk0 V c 0 t) (iblk0 V c 1 t) (iblk0 V c 2 t) (iblk0 V c 3 t) (iblk0 V c 4 t) (ix3 0 r k)
      = edgeConv Wl Wr B (X (pB0 t)) (tileRow (pQ0 t) r) (k) :=
  tile0_edge (X (pB0 t)) (tileRow (pQ0 t)) Wl Wr B (grid0.coords t) (fun _ => rfl) (hX _)
    (in0_0 V c X hA t) (fun k m => in0_1 V c X hT t m k) (in0_2 V c X hA t)
    (fun k h o => (in0_3 V c t _ o).trans (hl k h o)) (fun k h o => (in0_3 V c t _ o).trans (hr k h o))
    (fun o => (in0_4 V c t o).trans (hb o)) r k

include hA hT in
/-- The first edge convolution. -/
theorem arr0_7 (hX : ∀ b m c, X b m c - X b m c = 0)
    (hl : ∀ (k : Fin 3) (hk : k.val < 6) o, V c main_arg1 (ix2 ⟨k.val, hk⟩ o) = Wl k o)
    (hr : ∀ (k : Fin 3) (hk : 3 + k.val < 6) o, V c main_arg1 (ix2 ⟨3 + k.val, hk⟩ o) = Wr k o) (hb : ∀ o, V c main_v1 (ix2 0 o) = B o) :
    (dat0 V c).arrAt 7 cfg0.N = fun j : S4x2048x16.Idx => edgeConv Wl Wr B (X (j 0)) (j 1) (j 2) := by
  refine (dat0 V c).arrAt_eq_of_covers 7 _ (by decide +kernel) fun t hf => ?_
  suffices h : ∀ z : S1x128x16.Idx, out0_7 (grid0.coords t) (iblk0 V c 0 t) (iblk0 V c 1 t) (iblk0 V c 2 t) (iblk0 V c 3 t)
      (iblk0 V c 4 t) z = (fun j : S4x2048x16.Idx => edgeConv Wl Wr B (X (j 0)) (j 1) (j 2)) ((win0_7.blk t).view.emb z) by
    intro y
    rw [after0_7]
    exact h y
  intro z
  obtain ⟨a, r, k, rfl⟩ : ∃ (a : Fin 1) (r : Fin 128) (k : Fin 16), z = ix3 a r k := ⟨z 0, z 1, z 2, eq_ix3 z⟩
  obtain rfl : a = 0 := Subsingleton.elim _ _
  rw [emb0_7 t r k]
  exact pt0_7 V c X Wl Wr B hA hT hX hl hr hb t r k

end Cert.KernelIdeal.Val

end
-- ==== Proof.Body1.lean ====
/-
  The second nearest-neighbour body (16 features in, 48 out) folded into the rounds of `Rounds`.
-/
module

public import proofs.«01_k».proof.Proof.Rounds
public import proofs.«01_k».proof.Proof.Gen.KernelIdeal.Frame.Region1

@[expose] public section

set_option maxRecDepth 16384

noncomputable section

namespace Cert.KernelIdeal.Val

open Idealize.ShloMosaic Cert.KernelIdeal Cert.KernelIdeal.Gen

variable {F : FTy → Type} [FloatOps F] [Named F]

/-- One edge step: the marked rows of the three-part table, the edge message, and its maximum into the accumulator. -/
def edgeStep1 (xr : FVec F S128x16 .f32) (hi mid lo : FVec F S2048x16 .bf16) (W : FVec F S32x48 .bf16) (b : FVec F S1x48 .f32)
    (ids : IVec S128x1 32) (v : FVec F S128x2048 .f32) (acc : FVec F S128x48 .f32) : FVec F S128x48 .f32 :=
  have xj : FVec F S128x16 .f32 := addf (addf
    (matmul dot_S128x2048_S2048x16_S128x16_1_0_0_1_n_n none (hotMat v) hi (constant S128x16 .f32 0x00000000#32))
    (matmul dot_S128x2048_S2048x16_S128x16_1_0_0_1_n_n none (hotMat v) mid (constant S128x16 .f32 0x00000000#32)))
    (matmul dot_S128x2048_S2048x16_S128x16_1_0_0_1_n_n none (hotMat v) lo (constant S128x16 .f32 0x00000000#32))
  have cc : FVec F S128x32 .bf16 := truncf .bf16
    (concatenate S128x32 1 [⟨S128x16, xr⟩, ⟨S128x16, subf xj xr⟩] concatenates_S128x16_S128x16_S128x32_d1) bitsLt_bf16_f32
  have pre : FVec F S128x48 .f32 := addf
    (matmul dot_S128x32_S32x48_S128x48_1_0_0_1_n_n none cc W (constant S128x48 .f32 0x00000000#32))
    (broadcastTo S128x48 b broadcasts_S1x48_S128x48)
  have msg : FVec F S128x48 .f32 := select (cmpf .oge pre (broadcast S128x48 (Scalar.ofBits .f32 0x00000000#32))) pre
    (mulf (broadcast S128x48 (Scalar.ofBits .f32 0x3E4CCCCD#32)) pre)
  maximumf acc (select
    (broadcastTo S128x48 (shapeCast S128x1 (cmpi .ne (rowArg v) ids) shapeCasts_S128x1_S128x1) broadcasts_S128x1_S128x48)
    msg (broadcast S128x48 (Named.named κ "nbig" 0xFF61B1E6#32)))

/-- The accumulator after `t` edge steps. -/
def edges1 (xr : FVec F S128x16 .f32) (hi mid lo : FVec F S2048x16 .bf16) (W : FVec F S32x48 .bf16) (b : FVec F S1x48 .f32)
    (ids : IVec S128x1 32) (v : FVec F S128x2048 .f32) : ℕ → FVec F S128x48 .f32
  | 0 => broadcast S128x48 (Named.named κ "nbig" 0xFF61B1E6#32)
  | t + 1 => edgeStep1 xr hi mid lo W b ids (rows v t) (edges1 xr hi mid lo W b ids v t)

/-- The squared distances of a tile's rows to every point. -/
abbrev dist1 (x0 : Vec F S1x128x16 .f32) (x1 : Vec F S1x16x2048 .f32) : FVec F S128x2048 .f32 :=
  k1_pay7 (k1_pay2 (View.ld x0 r1_0)) (k1_pay3 (View.ld x1 r1_1)) (k1_pay5 (View.ld x1 r1_1)) (k1_pay6 (View.ld x1 r1_1))

theorem out1_5_eq (i : grid1.Coords) (x0 : Vec F S1x128x16 .f32) (x1 : Vec F S1x16x2048 .f32) (x2 : Vec F S1x2048x16 .f32)
    (x3 : Vec F S32x48 .f32) (x4 : Vec F S1x48 .f32) :
    out1_5 i x0 x1 x2 x3 x4 = View.canon [⟨r1_5, shapeCast S1x128x48
      (edges1 (k1_pay2 (View.ld x0 r1_0)) (k1_pay8 (k1_pay4 (View.ld x2 r1_2))) (k1_pay10 (k1_pay4 (View.ld x2 r1_2)))
        (k1_pay11 (k1_pay4 (View.ld x2 r1_2))) (k1_pay12 (View.ld x3 r1_3)) (k1_pay13 (View.ld x4 r1_4))
        (rowIds (Scalar.muli (BitVec.ofNat 32 (i 1).val) 128#32)) (dist1 x0 x1) 33) shapeCasts_S128x48_S1x128x48⟩] := by
  rfl

end Cert.KernelIdeal.Val

end
-- ==== Proof.Infinite.lean ====
/-
  Sums, means and variances where some of the numbers are infinite.
-/
module

public import proofs.«01_k».proof.Proof.Reals

@[expose] public section

noncomputable section

namespace Cert.Spec

open Idealize.ShloMosaic

/-- A number that is not real is one of the infinities. -/
theorem not_re {x : EReal} (h : ¬Re x) : x = ⊤ ∨ x = ⊥ := by
  induction x with
  | bot => exact Or.inr rfl
  | top => exact Or.inl rfl
  | coe r => exact absurd (Re.coe r) h

/-- A square is not negative infinity. -/
theorem sq_ne_bot (z : EReal) : z * z ≠ ⊥ := by
  induction z with
  | bot => rw [EReal.bot_mul_bot]; exact top_ne_bot
  | top => rw [EReal.top_mul_top]; exact top_ne_bot
  | coe r => exact (Re.mul (Re.coe r) (Re.coe r)).ne_bot

theorem sum_ne_bot {ι : Type} (s : Finset ι) {f : ι → EReal} (h : ∀ i, f i ≠ ⊥) : ∑ i ∈ s, f i ≠ ⊥ :=
  Finset.sum_induction f (· ≠ ⊥) (fun _ _ ha hb => EReal.add_ne_bot_iff.mpr ⟨ha, hb⟩) EReal.zero_ne_bot fun i _ => h i

/-- A sum with a term at negative infinity. -/
theorem sum_eq_bot {ι : Type} [Fintype ι] {f : ι → EReal} {i : ι} (h : f i = ⊥) : ∑ j, f j = ⊥ := by
  classical
  rw [← Finset.add_sum_erase Finset.univ f (Finset.mem_univ i), h, EReal.bot_add]

/-- A sum with a term at infinity and none at negative infinity. -/
theorem sum_eq_top {ι : Type} [Fintype ι] {f : ι → EReal} {i : ι} (h : f i = ⊤) (hb : ∀ j, f j ≠ ⊥) : ∑ j, f j = ⊤ := by
  classical
  rw [← Finset.add_sum_erase Finset.univ f (Finset.mem_univ i), h, EReal.top_add_of_ne_bot (sum_ne_bot _ hb)]

/-- A sum with an infinite term is infinite. -/
theorem sum_inf {ι : Type} [Fintype ι] {f : ι → EReal} {i : ι} (h : ¬Re (f i)) : ∑ j, f j = ⊤ ∨ ∑ j, f j = ⊥ := by
  by_cases hb : ∃ j, f j = ⊥
  · obtain ⟨j, hj⟩ := hb
    exact Or.inr (sum_eq_bot hj)
  · push Not at hb
    exact Or.inl (sum_eq_top ((not_re h).resolve_right (hb i)) hb)

theorem div_top_pos {s : ℝ} (hs : 0 < s) : Ideal.div ⊤ (s : EReal) = ⊤ := by
  unfold Ideal.div
  rw [if_neg (by exact_mod_cast hs.ne'), ← EReal.coe_inv, EReal.top_mul_coe_of_pos (inv_pos.mpr hs)]

theorem div_bot_pos {s : ℝ} (hs : 0 < s) : Ideal.div ⊥ (s : EReal) = ⊥ := by
  unfold Ideal.div
  rw [if_neg (by exact_mod_cast hs.ne'), ← EReal.coe_inv, EReal.bot_mul_coe_of_pos (inv_pos.mpr hs)]

/-- The mean of a family with an infinite member is infinite. -/
theorem mean_inf {ι : Type} [Fintype ι] {cnt : ℝ} (hc : 0 < cnt) {h : ι → EReal} {i : ι} (hi : ¬Re (h i)) :
    mean (cnt : EReal) h = ⊤ ∨ mean (cnt : EReal) h = ⊥ := by
  unfold mean
  rcases sum_inf hi with e | e <;> rw [e]
  · exact Or.inl (div_top_pos hc)
  · exact Or.inr (div_bot_pos hc)

/-- The square of a deviation from an infinite mean. -/
theorem sub_inf_sq {mu : EReal} (h : mu = ⊤ ∨ mu = ⊥) (y : EReal) : (y - mu) * (y - mu) = ⊤ := by
  have hd : y - mu = ⊤ ∨ y - mu = ⊥ := by
    rcases h with rfl | rfl
    · exact Or.inr (by rw [sub_eq_add_neg, EReal.neg_top, EReal.add_bot])
    · rw [sub_eq_add_neg, EReal.neg_bot]
      by_cases hy : y = ⊥
      · exact Or.inr (by rw [hy, EReal.bot_add])
      · exact Or.inl (EReal.add_top_of_ne_bot hy)
  rcases hd with e | e <;> rw [e]
  · exact EReal.top_mul_top
  · exact EReal.bot_mul_bot

/-- The squared deviations from an infinite mean add up to infinity. -/
theorem sum_sq_inf {ι : Type} [Fintype ι] {mu : EReal} (h : mu = ⊤ ∨ mu = ⊥) (f : ι → EReal) (i : ι) :
    ∑ j, (f j - mu) * (f j - mu) = ⊤ :=
  sum_eq_top (f := fun j => (f j - mu) * (f j - mu)) (i := i) (sub_inf_sq h _) fun _ => sq_ne_bot _

/-- The variance of a family with an infinite member is infinite. -/
theorem variance_top {ι : Type} [Fintype ι] {cnt : ℝ} (hc : 0 < cnt) {h : ι → EReal} {i : ι} (hi : ¬Re (h i)) :
    variance (cnt : EReal) h = ⊤ := by
  have hm := mean_inf hc hi
  unfold variance
  show Ideal.div (∑ j, (h j - mean (cnt : EReal) h) * (h j - mean (cnt : EReal) h)) _ = ⊤
  rw [sum_sq_inf hm h i, div_top_pos hc]

/-- The same from the blocks' sums and deviations, about an infinite mean. -/
theorem cVar_top {ι κ : Type} [Fintype ι] [Fintype κ] {m cnt : ℝ} (hm : 0 < m) (hc : 0 < cnt) (h : ι → κ → EReal) (b : ι)
    (hmu : cMean (cnt : EReal) (fun b => bSum (h b)) = ⊤ ∨ cMean (cnt : EReal) (fun b => bSum (h b)) = ⊥) :
    cVar (m : EReal) (cnt : EReal) (fun b => bSum (h b)) (fun b => bDev (m : EReal) (h b)) = ⊤ := by
  unfold cVar
  have hd : ∑ b, bDev (m : EReal) (h b) ≠ ⊥ := sum_ne_bot _ fun b => sum_ne_bot _ fun i => sq_ne_bot _
  rw [sum_sq_inf hmu (fun b => Ideal.div (bSum (h b)) m) b, EReal.coe_mul_top_of_pos hm, EReal.add_top_of_ne_bot hd,
    div_top_pos hc]

/-- Normalised by an infinite variance, a number becomes the offset. -/
theorem bnorm_top (mu g be h : EReal) : bnorm mu ⊤ g be h = leaky be := by
  unfold bnorm
  obtain ⟨e, he, hee⟩ := bits_eps
  have hs : Ideal.sqrt (⊤ + eps) = ⊤ := by
    show Ideal.sqrt (⊤ + Ideal.ofBits .f32 0x3727C5AC#32) = _
    rw [hee, EReal.top_add_coe]
    rfl
  have hd : Ideal.div (h - mu) ⊤ = 0 := by
    unfold Ideal.div
    rw [if_neg EReal.top_ne_zero, EReal.inv_top, mul_zero]
  rw [hs, hd, zero_mul, zero_add]

/-- A score is real whatever the features, the scale and the offset real: an infinite channel's variance is infinite. -/
theorem Re.score_any {ι : Type} [Fintype ι] {cnt : ℝ} (hc : 0 < cnt) {H : ι → Fin 128 → EReal} {g be : Fin 128 → EReal}
    (hg : ∀ c, Re (g c)) (hb : ∀ c, Re (be c)) (i : ι) :
    Re (Spec.score (fun c => Spec.mean (cnt : EReal) fun j => H j c) (fun c => variance (cnt : EReal) fun j => H j c) g be (H i)) := by
  have hr : ∀ c, Re (Spec.bnorm (Spec.mean (cnt : EReal) fun j => H j c) (variance (cnt : EReal) fun j => H j c) (g c) (be c) (H i c)) := by
    intro c
    by_cases hh : ∀ j, Re (H j c)
    · obtain ⟨r, hr, e⟩ := variance_real hc hh
      rw [e]
      exact Re.bnorm (Re.mean hc.ne' hh) hr (hg c) (hb c) (hh i)
    · push Not at hh
      obtain ⟨j, hj⟩ := hh
      rw [variance_top hc (h := fun j => H j c) hj, bnorm_top]
      exact Re.leaky (hb c)
  exact Re.sup (fun c => Or.inr (hr c)) ⟨0, hr 0⟩

end Cert.Spec

end
-- ==== Proof.Channels.lean ====
/-
  Features whose channels are each real throughout, or infinite with one sign throughout: what an infinite bias leaves.
-/
module

public import proofs.«01_k».proof.Proof.Infinite

@[expose] public section

noncomputable section

namespace Cert.Spec

open Idealize.ShloMosaic

/-- Each channel is real at every point, or the same infinity at every point. -/
def Level {F : ℕ} (X : Fin 2048 → Fin F → EReal) : Prop :=
  ∀ c, (∀ n, Re (X n c)) ∨ (∀ n, X n c = ⊤) ∨ (∀ n, X n c = ⊥)

/-- The three summands of a looked-up feature are worth the feature alone, once another point's feature is subtracted. -/
theorem Level.split {F : ℕ} {X : Fin 2048 → Fin F → EReal} (hX : Level X) (m n : Fin 2048) (c : Fin F) :
    X m c + (X m c - X m c) + ((X m c - X m c) - (X m c - X m c)) - X n c = X m c - X n c := by
  rcases hX c with h | h | h
  · obtain ⟨r, hr⟩ := h m
    rw [hr, ← EReal.coe_sub, sub_self, EReal.coe_zero, sub_zero, add_zero, add_zero]
  · rw [h m, h n]
    simp [sub_eq_add_neg]
  · rw [h m, h n]
    simp [sub_eq_add_neg]

/-- Distances of such features are never infinity: an infinite channel makes them negative infinity. -/
theorem Level.sqDist_ne_top {F : ℕ} {X : Fin 2048 → Fin F → EReal} (hX : Level X) (n m : Fin 2048) : sqDist X n m ≠ ⊤ := by
  by_cases hr : ∀ n c, Re (X n c)
  · exact (Re.sqDist hr n m).ne_top
  · push Not at hr
    obtain ⟨p, c, hc⟩ := hr
    have hd : ∑ c, X n c * X m c = ⊤ := by
      refine sum_eq_top (i := c) ?_ (fun j => ?_)
      · rcases hX c with h | h | h
        · exact absurd (h p) hc
        · rw [h n, h m, EReal.top_mul_top]
        · rw [h n, h m, EReal.bot_mul_bot]
      · rcases hX j with h | h | h
        · exact (Re.mul (h n) (h m)).ne_bot
        · rw [h n, h m, EReal.top_mul_top]; exact top_ne_bot
        · rw [h n, h m, EReal.bot_mul_bot]; exact top_ne_bot
    have h2 : (2 : EReal) * ⊤ = ⊤ := EReal.coe_mul_top_of_pos (x := 2) (by norm_num)
    unfold sqDist
    rw [hd, h2, sub_eq_add_neg, EReal.neg_top, EReal.add_bot]
    exact bot_ne_top

/-- A real number added to an infinite one. -/
theorem re_add_inf {x y : EReal} (hx : Re x) (hy : ¬Re y) : x + y = y := by
  obtain ⟨r, rfl⟩ := hx
  rcases not_re hy with rfl | rfl
  · exact EReal.coe_add_top r
  · exact EReal.add_bot _

/-- The edge convolution of real features by a real matrix, the bias any. -/
theorem Level.edgeConv {F O : ℕ} {X : Fin 2048 → Fin F → EReal} (hX : ∀ n k, Re (X n k)) {Wl Wr : Fin F → Fin O → EReal} {b : Fin O → EReal}
    (hl : ∀ c o, Re (Wl c o)) (hr : ∀ c o, Re (Wr c o)) : Level (edgeConv Wl Wr b X) := by
  intro o
  have hs : ∀ n xj : Fin 2048, Re (∑ c, X n c * Wl c o + ∑ c, (X xj c - X n c) * Wr c o) := fun n xj =>
    Re.add (Re.sum _ fun c => Re.mul (hX n c) (hl c o)) (Re.sum _ fun c => Re.mul (Re.sub (hX xj c) (hX n c)) (hr c o))
  by_cases hb : Re (b o)
  · left
    intro n
    obtain ⟨t, ht⟩ := exists_other hX n
    have he : ∀ xj : Fin 2048, Re (edge Wl Wr b (X n) (X xj) o) := fun xj => Re.leaky (Re.add (hs n xj) hb)
    refine Re.sup (fun t => ?_) ⟨t, ?_⟩
    · show (if _ then _ else _) = ⊥ ∨ Re (if _ then _ else _)
      split
      · exact Or.inr (he _)
      · exact Or.inl rfl
    · show Re (if _ then _ else _)
      rw [if_pos ht]
      exact he _
  · have key : ∀ n, Spec.edgeConv Wl Wr b X n o = leaky (b o) := by
      intro n
      obtain ⟨t, ht⟩ := exists_other hX n
      have he : ∀ xj : Fin 2048, edge Wl Wr b (X n) (X xj) o = leaky (b o) := fun xj =>
        congrArg leaky (re_add_inf (hs n xj) hb)
      unfold Spec.edgeConv
      simp only [he]
      refine le_antisymm (Finset.sup_le fun t _ => ?_) ?_
      · split
        · exact le_rfl
        · exact bot_le
      · refine le_trans (le_of_eq ?_) (Finset.le_sup (Finset.mem_univ t))
        exact (if_pos ht).symm
    by_cases hv : Re (leaky (b o))
    · exact Or.inl fun n => by rw [key n]; exact hv
    · rcases not_re hv with e | e
      · exact Or.inr (Or.inl fun n => (key n).trans e)
      · exact Or.inr (Or.inr fun n => (key n).trans e)

end Cert.Spec

end
-- ==== Proof.Edge1.lean ====
/-
  The second nearest-neighbour tile at an index: what one edge step adds, and the tile's outputs.
-/
module

public import proofs.«01_k».proof.Proof.Body1
public import proofs.«01_k».proof.Proof.RoundsAt
public import proofs.«01_k».proof.Proof.Spec
public import proofs.«01_k».proof.Proof.Channels

@[expose] public section

noncomputable section

namespace Cert.KernelIdeal.Val

open Idealize.ShloMosaic Cert.KernelIdeal Cert.KernelIdeal.Gen Cert.Spec

section Step1

variable (X : Fin 2048 → Fin 16 → EReal) (Wl Wr : Fin 16 → Fin 48 → EReal) (B : Fin 48 → EReal) (row : Fin 128 → Fin 2048)
  {xr : FVec Ideal S128x16 .f32} {hi mid lo : FVec Ideal S2048x16 .bf16} {W : FVec Ideal S32x48 .bf16}
  {b : FVec Ideal S1x48 .f32} {ids : IVec S128x1 32}
  (hxr : ∀ r c, xr (ix2 r c) = X (row r) c) (hhi : ∀ m c, hi (ix2 m c) = X m c) (hmid : ∀ m c, mid (ix2 m c) = X m c - X m c)
  (hlo : ∀ m c, lo (ix2 m c) = (X m c - X m c) - (X m c - X m c)) (hX : Level X) (hWl : ∀ (c : Fin 16) o, W (ix2 ⟨c.val, by omega⟩ o) = Wl c o)
  (hWr : ∀ (c : Fin 16) o, W (ix2 ⟨16 + c.val, by omega⟩ o) = Wr c o) (hb : ∀ o, b (ix2 0 o) = B o)
  (hids : ∀ r, ids (ix2 r 0) = BitVec.ofNat 32 (row r).val)

include hxr hhi hmid hlo hX hWl hWr hb hids

theorem edgeStep1_at (v : FVec Ideal S128x2048 .f32) (acc : FVec Ideal S128x48 .f32) (r : Fin 128) (o : Fin 48) :
    edgeStep1 xr hi mid lo W b ids v acc (ix2 r o) = max (acc (ix2 r o) : EReal)
      (if argMin (fun n => v (ix2 r n)) ≠ row r then edge Wl Wr B (X (row r)) (X (argMin fun n => v (ix2 r n))) o else ⊥) := by
  unfold edgeStep1
  pointwise
  simp only [hotMat_at, sum_hot, hmid, hlo, hhi, hxr, hWl, hWr, hb, hids, rowArg_at, named_nbig, hX.split]
  rw [cmpi_ne_pos (Fin.isLt _) (Fin.isLt _), select_bit]
  simp only [decide_eq_true_eq, ← Fin.ext_iff, ne_eq]
  rfl

/-- The accumulator after the thirty-three steps is the edge convolution. -/
theorem edges1_at (v : FVec Ideal S128x2048 .f32) (hv : ∀ r m, v (ix2 r m) = sqDist X (row r) m) (r : Fin 128) (o : Fin 48) :
    edges1 xr hi mid lo W b ids v 33 (ix2 r o) = edgeConv Wl Wr B X (row r) o := by
  refine sup_of_steps (g := fun t => edges1 xr hi mid lo W b ids v t (ix2 r o))
    (f := fun t => if nbr X (row r) t ≠ row r then edge Wl Wr B (X (row r)) (X (nbr X (row r) t)) o else ⊥) ?_ (fun t => ?_) 33
  · exact named_nbig
  · have h : (fun n => rows v t (ix2 r n)) = masked (sqDist X (row r)) t := by
      funext n; rw [rows_at]; simp only [hv]
    have h' : argMin (fun n => rows v t (ix2 r n)) = nbr X (row r) t := by rw [h]; rfl
    refine (edgeStep1_at X Wl Wr B row hxr hhi hmid hlo hX hWl hWr hb hids _ _ r o).trans ?_
    rw [h']

end Step1

section Tile1

variable (X : Fin 2048 → Fin 16 → EReal) (row : Fin 128 → Fin 2048)
  {x0 : Vec Ideal S1x128x16 .f32} {x1 : Vec Ideal S1x16x2048 .f32} {x2 : Vec Ideal S1x2048x16 .f32}

theorem dist1_at (h0 : ∀ r c, x0 (ix3 0 r c) = X (row r) c) (h1 : ∀ c m, x1 (ix3 0 c m) = X m c) (r : Fin 128) (m : Fin 2048) :
    dist1 x0 x1 (ix2 r m) = sqDist X (row r) m := by
  unfold dist1 k1_pay7 k1_pay6 k1_pay5 k1_pay3 k1_pay2
  pointwise
  simp only [h0, h1, bits_two]
  unfold sqDist
  simp only [Fin.sum_univ_succ, Fin.sum_univ_zero, Fin.reduceSucc, add_zero, add_assoc]
  rfl

theorem hi1_at (h2 : ∀ m c, x2 (ix3 0 m c) = X m c) (m : Fin 2048) (c : Fin 16) :
    k1_pay8 (k1_pay4 (View.ld x2 r1_2)) (ix2 m c) = X m c := by
  unfold k1_pay8 k1_pay4
  pointwise
  exact h2 m c

theorem mid1_at (h2 : ∀ m c, x2 (ix3 0 m c) = X m c) (m : Fin 2048) (c : Fin 16) :
    k1_pay10 (k1_pay4 (View.ld x2 r1_2)) (ix2 m c) = X m c - X m c := by
  unfold k1_pay10 k1_pay9 k1_pay8 k1_pay4
  pointwise
  rw [h2]

theorem lo1_at (h2 : ∀ m c, x2 (ix3 0 m c) = X m c) (m : Fin 2048) (c : Fin 16) :
    k1_pay11 (k1_pay4 (View.ld x2 r1_2)) (ix2 m c) = (X m c - X m c) - (X m c - X m c) := by
  unfold k1_pay11 k1_pay10 k1_pay9 k1_pay8 k1_pay4
  pointwise
  rw [h2]

variable (Wl Wr : Fin 16 → Fin 48 → EReal) (B : Fin 48 → EReal) {x3 : Vec Ideal S32x48 .f32} {x4 : Vec Ideal S1x48 .f32}

/-- The tile's edge convolution. -/
theorem tile1_edge (i : grid1.Coords) (hrow : ∀ r : Fin 128, (row r).val = (i 1).val * 128 + r.val)
    (hX : Level X) (h0 : ∀ r c, x0 (ix3 0 r c) = X (row r) c)
    (h1 : ∀ c m, x1 (ix3 0 c m) = X m c) (h2 : ∀ m c, x2 (ix3 0 m c) = X m c)
    (h3l : ∀ (c : Fin 16) (hc : c.val < 32) o, x3 (ix2 ⟨c.val, hc⟩ o) = Wl c o) (h3r : ∀ (c : Fin 16) (hc : 16 + c.val < 32) o, x3 (ix2 ⟨16 + c.val, hc⟩ o) = Wr c o)
    (h4 : ∀ o, x4 (ix2 0 o) = B o) (r : Fin 128) (o : Fin 48) :
    out1_5 i x0 x1 x2 x3 x4 (ix3 0 r o) = edgeConv Wl Wr B X (row r) o := by
  rw [out1_5_eq]
  refine (congrFun (View.canon_unit_zero zero3 _ _) _).trans ?_
  pointwise
  refine edges1_at X Wl Wr B row (fun r c => ?_) (hi1_at X h2) (mid1_at X h2) (lo1_at X h2) hX (fun c o => ?_)
    (fun c o => ?_) (fun o => ?_) (fun r => ?_) _ (dist1_at X row h0 h1) r o
  · unfold k1_pay2; pointwise; exact h0 r c
  · unfold k1_pay12; pointwise; exact h3l c _ o
  · unfold k1_pay12; pointwise; exact h3r c _ o
  · unfold k1_pay13; pointwise; exact h4 o
  · rw [rowIds_at, hrow]

end Tile1

end Cert.KernelIdeal.Val

end
-- ==== Proof.Array1.lean ====
/-
  The second region's array after its run: the second edge convolution.
-/
module

public import proofs.«01_k».proof.Proof.Edge1
public import proofs.«01_k».proof.Proof.Array0
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.Spec
open Idealize.ShloMosaic.Pipeline (Dat)

variable (V : (c : Dev nD) → (b : Ref sig .tc) → Buf (Elt Ideal) ((c : Thread nD τ).loc b)) (c : Dev nD)
variable (X : Fin 4 → Fin 2048 → Fin 16 → EReal) (Wl Wr : Fin 16 → Fin 48 → EReal) (B : Fin 48 → EReal)

theorem idx1 : ∀ t : Fin cfg1.N, win1_0.index t = ![(grid1.coords t 0).val, (grid1.coords t 1).val, 0]
    ∧ win1_1.index t = ![(grid1.coords t 0).val, 0, 0] ∧ win1_2.index t = ![(grid1.coords t 0).val, 0, 0]
    ∧ win1_3.index t = ![0, 0] ∧ win1_4.index t = ![0, 0]
    ∧ win1_5.index t = ![(grid1.coords t 0).val, (grid1.coords t 1).val, 0] := by
  decide +kernel

variable (hA : ∀ b n k, V c main_v2_2 (ix3 b n k) = X b n k) (hT : ∀ b k n, V c main_v3 (ix3 b k n) = X b n k)

/-- The batch of a grid point. -/
def pB1 (t : Fin cfg1.N) : Fin 4 := ⟨(grid1.coords t 0).val, (grid1.coords t 0).isLt⟩
/-- The row block of a grid point. -/
def pQ1 (t : Fin cfg1.N) : Fin 16 := ⟨(grid1.coords t 1).val, (grid1.coords t 1).isLt⟩

include hA in
theorem in1_0 (t : Fin cfg1.N) (r : Fin 128) (k : Fin 16) :
    iblk1 V c 0 t (ix3 0 r k) = X (pB1 t) (tileRow (pQ1 t) r) k := by
  refine Eq.trans ?_ (hA _ _ _)
  blk_ext [iblk1, idx1 t, tileRow, pB1, pQ1]

include hT in
theorem in1_1 (t : Fin cfg1.N) (r : Fin 2048) (k : Fin 16) :
    iblk1 V c 1 t (ix3 0 k r) = X (pB1 t) r k := by
  refine Eq.trans ?_ (hT _ _ _)
  blk_ext [iblk1, idx1 t, tileRow, pB1, pQ1]

include hA in
theorem in1_2 (t : Fin cfg1.N) (r : Fin 2048) (k : Fin 16) :
    iblk1 V c 2 t (ix3 0 r k) = X (pB1 t) r k := by
  refine Eq.trans ?_ (hA _ _ _)
  blk_ext [iblk1, idx1 t, tileRow, pB1, pQ1]

theorem in1_3 (t : Fin cfg1.N) (r : Fin 32) (k : Fin 48) :
    iblk1 V c 3 t (ix2 r k) = V c main_arg3 (ix2 r k) := by
  blk_ext [iblk1, idx1 t]

theorem in1_4 (t : Fin cfg1.N) (k : Fin 48) :
    iblk1 V c 4 t (ix2 0 k) = V c main_v4 (ix2 0 k) := by
  blk_ext [iblk1, idx1 t]

theorem emb1_5 (t : Fin cfg1.N) (r : Fin 128) (k : Fin 48) :
    (win1_5.blk t).view.emb (ix3 0 r k) = ix3 (pB1 t) (tileRow (pQ1 t) r) k := by
  blk_ext [idx1 t, tileRow, pB1, pQ1]

include hA hT in
theorem pt1_5 (hX : ∀ b, Level (X b))
    (hl : ∀ (k : Fin 16) (hk : k.val < 32) o, V c main_arg3 (ix2 ⟨k.val, hk⟩ o) = Wl k o)
    (hr : ∀ (k : Fin 16) (hk : 16 + k.val < 32) o, V c main_arg3 (ix2 ⟨16 + k.val, hk⟩ o) = Wr k o) (hb : ∀ o, V c main_v4 (ix2 0 o) = B o) (t : Fin cfg1.N) (r : Fin 128) (k : Fin 48) :
    out1_5 (grid1.coords t) (iblk1 V c 0 t) (iblk1 V c 1 t) (iblk1 V c 2 t) (iblk1 V c 3 t) (iblk1 V c 4 t) (ix3 0 r k)
      = edgeConv Wl Wr B (X (pB1 t)) (tileRow (pQ1 t) r) (k) :=
  tile1_edge (X (pB1 t)) (tileRow (pQ1 t)) Wl Wr B (grid1.coords t) (fun _ => rfl) (hX _)
    (in1_0 V c X hA t) (fun k m => in1_1 V c X hT t m k) (in1_2 V c X hA t)
    (fun k h o => (in1_3 V c t _ o).trans (hl k h o)) (fun k h o => (in1_3 V c t _ o).trans (hr k h o))
    (fun o => (in1_4 V c t o).trans (hb o)) r k

include hA hT in
/-- The second edge convolution. -/
theorem arr1_5 (hX : ∀ b, Level (X b))
    (hl : ∀ (k : Fin 16) (hk : k.val < 32) o, V c main_arg3 (ix2 ⟨k.val, hk⟩ o) = Wl k o)
    (hr : ∀ (k : Fin 16) (hk : 16 + k.val < 32) o, V c main_arg3 (ix2 ⟨16 + k.val, hk⟩ o) = Wr k o) (hb : ∀ o, V c main_v4 (ix2 0 o) = B o) :
    (dat1 V c).arrAt 5 cfg1.N = fun j : S4x2048x48.Idx => edgeConv Wl Wr B (X (j 0)) (j 1) (j 2) := by
  refine (dat1 V c).arrAt_eq_of_covers 5 _ (by decide +kernel) fun t hf => ?_
  suffices h : ∀ z : S1x128x48.Idx, out1_5 (grid1.coords t) (iblk1 V c 0 t) (iblk1 V c 1 t) (iblk1 V c 2 t) (iblk1 V c 3 t)
      (iblk1 V c 4 t) z = (fun j : S4x2048x48.Idx => edgeConv Wl Wr B (X (j 0)) (j 1) (j 2)) ((win1_5.blk t).view.emb z) by
    intro y
    rw [after1_5]
    exact h y
  intro z
  obtain ⟨a, r, k, rfl⟩ : ∃ (a : Fin 1) (r : Fin 128) (k : Fin 48), z = ix3 a r k := ⟨z 0, z 1, z 2, eq_ix3 z⟩
  obtain rfl : a = 0 := Subsingleton.elim _ _
  rw [emb1_5 t r k]
  exact pt1_5 V c X Wl Wr B hA hT hX hl hr hb t r k

end Cert.KernelIdeal.Val

end
-- ==== Proof.RefOps.lean ====
/-
  The reference's row look-ups, selections and reductions over several axes, read at an index.
-/
module

public import proofs.«01_k».proof.Proof.Spec2
public import Idealize.ShloMosaic.Lib.Pointwise
public import Idealize.ShloMosaic.Lib.ValueIdx
public import Idealize.ShloMosaic.Lib.IdealHost
public import Idealize.ShloMosaic.PureOps.Ideal.Laws

@[expose] public section

set_option maxRecDepth 16384

noncomputable section

namespace Cert.Spec

open Idealize.ShloMosaic

/-- A small word read signed. -/
theorem toInt_small (n k : ℕ) (hk : k < n) (hn : n < 2 ^ 31) : (BitVec.ofNat 32 k).toInt.toNat = k := by
  rw [BitVec.toInt_eq_toNat_cond, BitVec.toNat_ofNat]; norm_num at hn ⊢; omega

/-- Rows of clouds looked up by cloud and point: the dimension numbers. -/
def rowDims (A N C K : ℕ)
    (wf : GatherDims.WF ⟨3, ![A, N, C]⟩ ⟨4, ![A, N, K, 2]⟩ ⟨4, ![A, N, K, C]⟩ [3] [0, 1] [] [0, 1] [] 3 ![1, 1, C]) :
    GatherDims ⟨3, ![A, N, C]⟩ ⟨4, ![A, N, K, 2]⟩ ⟨4, ![A, N, K, C]⟩ where
  offsetDims := [3]
  collapsedSliceDims := [0, 1]
  operandBatchingDims := []
  startIndicesBatchingDims := []
  startIndexMap := [0, 1]
  indexVectorDim := 3
  sliceSizes := ![1, 1, C]
  wf := wf

/-- Rows looked up by cloud and point, at an index. -/
theorem rows_at {α : Type} {A N C K : ℕ} (hA : A < 2 ^ 31) (hN : N < 2 ^ 31)
    (wf : GatherDims.WF ⟨3, ![A, N, C]⟩ ⟨4, ![A, N, K, 2]⟩ ⟨4, ![A, N, K, C]⟩ [3] [0, 1] [] [0, 1] [] 3 ![1, 1, C])
    (x : (⟨3, ![A, N, C]⟩ : Shape).Idx → α) (idx : IVec ⟨4, ![A, N, K, 2]⟩ 32) (b : Fin A) (n : Fin N) (k : Fin K) (c : Fin C)
    (p : Fin A) (q : Fin N) (h0 : idx (ix4 b n k 0) = BitVec.ofNat 32 p.val) (h1 : idx (ix4 b n k 1) = BitVec.ofNat 32 q.val) :
    Host.gather (rowDims A N C K wf) x idx (ix4 b n k c) = x (ix3 p q c) := by
  unfold Host.gather
  refine congrArg x ?_
  funext a
  refine Fin.ext ?_
  show (rowDims A N C K wf).start (ix4 b n k c) idx a + (rowDims A N C K wf).batchCoord (ix4 b n k c) a
    + (rowDims A N C K wf).offCoord (ix4 b n k c) a = _
  rw [GatherDims.batchCoord_eq_zero _ _ _ List.not_mem_nil]
  have hm : ∀ e : Fin 2, (e.castLE (by decide) : Fin 3) ∈ (rowDims A N C K wf).startIndexMap := fun e => by
    show e.castLE _ ∈ ([0, 1] : List (Fin 3)); revert e; decide
  have ho : ∀ e : Fin 2, (rowDims A N C K wf).offCoord (ix4 b n k c) (e.castLE (by decide) : Fin 3) = 0 := fun e =>
    GatherDims.offCoord_eq_zero _ _ _ fun h => ((GatherDims.mem_sKept _ _).mp h).1 (hm e)
  have hs : ∀ e : Fin 2, (rowDims A N C K wf).start (ix4 b n k c) idx (e.castLE (by decide) : Fin 3)
      = min (idx (ix4 b n k e)).toInt.toNat ((![A, N, C] : Fin 3 → ℕ) (e.castLE (by decide)) - (![1, 1, C] : Fin 3 → ℕ) (e.castLE (by decide))) := by
    intro e
    unfold GatherDims.start
    rw [dif_pos (hm e)]
    have hsi : (rowDims A N C K wf).siIdx (ix4 b n k c) ⟨List.idxOf (e.castLE (by decide) : Fin 3) (rowDims A N C K wf).startIndexMap,
        List.idxOf_lt_length_iff.2 (hm e)⟩ = ix4 b n k e := by
      funext b; refine Fin.ext ?_
      match b with
      | ⟨0, _⟩ => rfl
      | ⟨1, _⟩ => rfl
      | ⟨2, _⟩ => rfl
      | ⟨3, _⟩ =>
        match e with
        | ⟨0, _⟩ => rfl
        | ⟨1, _⟩ => rfl
    rw [hsi]
    rfl
  match a with
  | ⟨0, _⟩ =>
    refine (congrArg₂ (fun u v : ℕ => u + 0 + v) (hs 0) (ho 0)).trans ?_
    rw [h0, toInt_small A p.val p.isLt hA]
    show min p.val (A - 1) + 0 + 0 = p.val
    have := p.isLt; omega
  | ⟨1, _⟩ =>
    refine (congrArg₂ (fun u v : ℕ => u + 0 + v) (hs 1) (ho 1)).trans ?_
    rw [h1, toInt_small N q.val q.isLt hN]
    show min q.val (N - 1) + 0 + 0 = q.val
    have := q.isLt; omega
  | ⟨2, _⟩ =>
    have hk : (2 : Fin 3) ∈ (rowDims A N C K wf).sKept := by
      rw [GatherDims.mem_sKept]; exact ⟨show ¬ (2 : Fin 3) ∈ ([0, 1] : List (Fin 3)) by decide, List.not_mem_nil⟩
    have h2 : (rowDims A N C K wf).start (ix4 b n k c) idx (2 : Fin 3) = 0 := by
      unfold GatherDims.start; exact dif_neg (show ¬ (2 : Fin 3) ∈ ([0, 1] : List (Fin 3)) by decide)
    have o2 : (rowDims A N C K wf).offCoord (ix4 b n k c) (2 : Fin 3) = c.val := by
      unfold GatherDims.offCoord
      rw [dif_pos hk]
      rfl
    refine (congrArg₂ (fun u v : ℕ => u + 0 + v) h2 o2).trans ?_
    show 0 + 0 + c.val = c.val
    omega

/-- Entries looked up by cloud, point and place: the dimension numbers. -/
def cellDims (A N K T : ℕ)
    (wf : GatherDims.WF ⟨3, ![A, N, K]⟩ ⟨4, ![A, N, T, 3]⟩ ⟨3, ![A, N, T]⟩ [] [0, 1, 2] [] [0, 1, 2] [] 3 ![1, 1, 1]) :
    GatherDims ⟨3, ![A, N, K]⟩ ⟨4, ![A, N, T, 3]⟩ ⟨3, ![A, N, T]⟩ where
  offsetDims := []
  collapsedSliceDims := [0, 1, 2]
  operandBatchingDims := []
  startIndicesBatchingDims := []
  startIndexMap := [0, 1, 2]
  indexVectorDim := 3
  sliceSizes := ![1, 1, 1]
  wf := wf

/-- Entries looked up by cloud, point and place, at an index. -/
theorem cells_at {α : Type} {A N K T : ℕ} (hA : A < 2 ^ 31) (hN : N < 2 ^ 31) (hK : K < 2 ^ 31)
    (wf : GatherDims.WF ⟨3, ![A, N, K]⟩ ⟨4, ![A, N, T, 3]⟩ ⟨3, ![A, N, T]⟩ [] [0, 1, 2] [] [0, 1, 2] [] 3 ![1, 1, 1])
    (x : (⟨3, ![A, N, K]⟩ : Shape).Idx → α) (idx : IVec ⟨4, ![A, N, T, 3]⟩ 32) (b : Fin A) (n : Fin N) (t : Fin T)
    (p : Fin A) (q : Fin N) (r : Fin K) (h0 : idx (ix4 b n t 0) = BitVec.ofNat 32 p.val)
    (h1 : idx (ix4 b n t 1) = BitVec.ofNat 32 q.val) (h2 : idx (ix4 b n t 2) = BitVec.ofNat 32 r.val) :
    Host.gather (cellDims A N K T wf) x idx (ix3 b n t) = x (ix3 p q r) := by
  unfold Host.gather
  refine congrArg x ?_
  funext a
  refine Fin.ext ?_
  have hm : ∀ a : Fin 3, a ∈ (cellDims A N K T wf).startIndexMap := fun a => by
    show a ∈ ([0, 1, 2] : List (Fin 3)); revert a; decide
  show (cellDims A N K T wf).start (ix3 b n t) idx a + (cellDims A N K T wf).batchCoord (ix3 b n t) a
    + (cellDims A N K T wf).offCoord (ix3 b n t) a = _
  rw [GatherDims.batchCoord_eq_zero _ _ _ List.not_mem_nil,
    GatherDims.offCoord_eq_zero _ _ _ (fun h => ((GatherDims.mem_sKept _ _).mp h).1 (hm a))]
  unfold GatherDims.start
  rw [dif_pos (hm a)]
  have hsi : ∀ a : Fin 3, (cellDims A N K T wf).siIdx (ix3 b n t) ⟨List.idxOf a (cellDims A N K T wf).startIndexMap,
      List.idxOf_lt_length_iff.2 (hm a)⟩ = ix4 b n t a := by
    intro a; funext b; refine Fin.ext ?_
    match b with
    | ⟨0, _⟩ => rfl
    | ⟨1, _⟩ => rfl
    | ⟨2, _⟩ => rfl
    | ⟨3, _⟩ =>
      match a with
      | ⟨0, _⟩ => rfl
      | ⟨1, _⟩ => rfl
      | ⟨2, _⟩ => rfl
  rw [hsi a]
  match a with
  | ⟨0, _⟩ =>
    refine (congrArg (fun w : BitVec 32 => min w.toInt.toNat (A - 1) + 0 + 0) h0).trans ?_
    show min (BitVec.ofNat 32 p.val).toInt.toNat (A - 1) + 0 + 0 = p.val
    rw [toInt_small A p.val p.isLt hA]; have := p.isLt; omega
  | ⟨1, _⟩ =>
    refine (congrArg (fun w : BitVec 32 => min w.toInt.toNat (N - 1) + 0 + 0) h1).trans ?_
    show min (BitVec.ofNat 32 q.val).toInt.toNat (N - 1) + 0 + 0 = q.val
    rw [toInt_small N q.val q.isLt hN]; have := q.isLt; omega
  | ⟨2, _⟩ =>
    refine (congrArg (fun w : BitVec 32 => min w.toInt.toNat (K - 1) + 0 + 0) h2).trans ?_
    show min (BitVec.ofNat 32 r.val).toInt.toNat (K - 1) + 0 + 0 = r.val
    rw [toInt_small K r.val r.isLt hK]; have := r.isLt; omega

/-- A small word is not below zero, so a wrap-around leaves it. -/
theorem wrap_small (k : ℕ) (hk : k < 2 ^ 31) (y : BitVec 32) :
    Scalar.select (IntOp.cmpi .slt (BitVec.ofNat 32 k) 0#32) y (BitVec.ofNat 32 k) = BitVec.ofNat 32 k := by
  have h : IntOp.cmpi .slt (BitVec.ofNat 32 k) 0#32 = 0#1 := by
    show BitVec.ofBool (BitVec.slt _ _) = _
    have : BitVec.slt (BitVec.ofNat 32 k) 0#32 = false := by
      rw [BitVec.slt, decide_eq_false_iff_not, BitVec.toInt_eq_toNat_cond, BitVec.toNat_ofNat]
      simp only [BitVec.toInt_zero]; norm_num at hk ⊢; omega
    rw [this]; rfl
  rw [h]; rfl

/-- Two points' words compared for equality choose between two values. -/
theorem mask_small (p q : Fin 2048) (u v : EReal) :
    Scalar.select (IntOp.cmpi .eq (BitVec.ofNat 32 p.val) (BitVec.ofNat 32 q.val)) u v = if p ≠ q then v else u := by
  by_cases h : p = q
  · subst h
    rw [if_neg (not_not.mpr rfl)]
    show Scalar.select (BitVec.ofBool (_ == _)) u v = u
    rw [beq_self_eq_true]; rfl
  · rw [if_pos h]
    have hne : BitVec.ofNat 32 p.val ≠ BitVec.ofNat 32 q.val := fun e => h (Fin.ext (by
      have := congrArg BitVec.toNat e
      simp only [BitVec.toNat_ofNat] at this
      omega))
    show Scalar.select (BitVec.ofBool (_ == _)) u v = v
    rw [beq_false_of_ne hne]; rfl

end Cert.Spec

end
-- ==== Proof.RefTop.lean ====
/-
  The reference's top-k and argsort, read at an index: both are the repeated selection of the least.
-/
module

public import proofs.«01_k».proof.Proof.Spec2
public import Idealize.ShloMosaic.Lib.Pointwise
public import Idealize.ShloMosaic.Lib.ValueIdx
public import Idealize.ShloMosaic.PureOps.Ideal.Laws
public import proofs.«01_k».proof.ReferenceIdeal

@[expose] public section

set_option maxRecDepth 16384

noncomputable section

namespace Cert.Spec

open Idealize.ShloMosaic

/-- A row's stable sort with its companion, at an index. -/
theorem sort2_at {α β : Type} {A N M : ℕ} (cmp : α × β → α × β → BitVec 1) (x : (⟨3, ![A, N, M]⟩ : Shape).Idx → α)
    (y : (⟨3, ![A, N, M]⟩ : Shape).Idx → β) (b : Fin A) (n : Fin N) (i : Fin M) :
    (Host.sort2 ⟨3, ![A, N, M]⟩ 2 cmp x y).1 (ix3 b n i)
        = x (ix3 b n (sortedFrom (fun k k' => cmp (x (ix3 b n k), y (ix3 b n k)) (x (ix3 b n k'), y (ix3 b n k')) == 1#1) i))
      ∧ (Host.sort2 ⟨3, ![A, N, M]⟩ 2 cmp x y).2 (ix3 b n i)
        = y (ix3 b n (sortedFrom (fun k k' => cmp (x (ix3 b n k), y (ix3 b n k)) (x (ix3 b n k'), y (ix3 b n k')) == 1#1) i)) := by
  have ha : ∀ m : Fin M, Shape.Idx.along (s := ⟨3, ![A, N, M]⟩) (ix3 b n i) (2 : Fin 3) m = ix3 b n m := by
    intro m; funext a; fin_cases a <;> rfl
  unfold Host.sort2
  rw [dif_pos (show 2 < 3 by decide)]
  constructor
  · exact (congrArg x (ha _)).trans (congrArg (fun g : Fin M → Fin M → Bool => x (ix3 b n (sortedFrom g i)))
      (by funext k k'; exact congrArg (· == 1#1) (congrArg₂ cmp
        (congrArg₂ Prod.mk (congrArg x (ha k)) (congrArg y (ha k))) (congrArg₂ Prod.mk (congrArg x (ha k')) (congrArg y (ha k'))))))
  · exact (congrArg y (ha _)).trans (congrArg (fun g : Fin M → Fin M → Bool => y (ix3 b n (sortedFrom g i)))
      (by funext k k'; exact congrArg (· == 1#1) (congrArg₂ cmp
        (congrArg₂ Prod.mk (congrArg x (ha k)) (congrArg y (ha k))) (congrArg₂ Prod.mk (congrArg x (ha k')) (congrArg y (ha k'))))))

/-- The rows' first entries, at an index. -/
theorem firsts_at {α : Type} {A N M K : ℕ} (hK : K ≤ M) (x : (⟨3, ![A, N, M]⟩ : Shape).Idx → α)
    (h : (⟨3, ![A, N, M]⟩ : Shape).Slices (fun _ => 0) ⟨3, ![A, N, K]⟩) (b : Fin A) (n : Fin N) (k : Fin K) :
    extractStridedSlice ⟨3, ![A, N, K]⟩ (fun _ => 0) x h (ix3 b n k) = x (ix3 b n (k.castLE hK)) := by
  unfold extractStridedSlice
  refine congrArg x ?_
  funext a; refine Fin.ext ?_
  fin_cases a <;> exact Nat.zero_add _

/-- The greatest of the negated entries are the least entries: values and positions. -/
theorem topk_at {A N M K : ℕ} [NeZero M] (hK : K ≤ M) (x : FVec Ideal ⟨3, ![A, N, M]⟩ .f32)
    (h : (⟨3, ![A, N, M]⟩ : Shape).Slices (fun _ => 0) ⟨3, ![A, N, K]⟩) (d : Fin M → EReal) (b : Fin A) (n : Fin N) (k : Fin K)
    (hx : ∀ m, x (ix3 b n m) = -(d m)) (hd : ∀ m, d m ≠ ⊤) :
    (Host.topK ⟨3, ![A, N, K]⟩ 2 (FloatOps.cmpfTotal (F := Ideal) .gt) x h).1 (ix3 b n k) = -(d (pick d k.val))
      ∧ (Host.topK ⟨3, ![A, N, K]⟩ 2 (FloatOps.cmpfTotal (F := Ideal) .gt) x h).2 (ix3 b n k)
        = BitVec.ofNat 32 (pick d k.val).val := by
  have hs := sortedFrom_eq_pick d hd
    (fun a c => FloatOps.cmpfTotal (F := Ideal) (φ := .f32) .gt (x (ix3 b n a)) (x (ix3 b n c)) == 1#1)
    (fun a c => by
      rw [hx, hx]
      show (Ideal.cmp .ogt (-(d a)) (-(d c)) == 1#1) = _
      by_cases hlt : d a < d c <;> simp [Ideal.cmp, hlt, EReal.neg_lt_neg_iff]) hK k
  rw [← hs]
  constructor
  · exact ((firsts_at hK _ h b n k).trans (sort2_at (fun l r : Ideal .f32 × BitVec 32 => FloatOps.cmpfTotal (F := Ideal) .gt l.1 r.1) x
      (fun i => iotaInDim ⟨3, ![A, N, M]⟩ 32 2 i) b n _).1).trans (hx _)
  · exact ((firsts_at hK _ h b n k).trans (sort2_at (fun l r : Ideal .f32 × BitVec 32 => FloatOps.cmpfTotal (F := Ideal) .gt l.1 r.1) x
      (fun i => iotaInDim ⟨3, ![A, N, M]⟩ 32 2 i) b n _).2)

/-- The comparator of the argsort orders by value. -/
theorem cmp_eq (a b : EReal) (i j : BitVec 32) :
    (Cert.ReferenceIdeal.comparator_f32_i32_d2 (F := Ideal) (a, i) (b, j) == 1#1) = decide (a < b) := by
  unfold Cert.ReferenceIdeal.comparator_f32_i32_d2
  have hz : ∀ u : EReal, Scalar.select (FloatOps.cmpf (F := Ideal) (φ := .f32) .une u u) (FloatOps.ofBits (F := Ideal) .f32 0x7FC00000#32)
      (Scalar.select (FloatOps.cmpf (F := Ideal) (φ := .f32) .oeq u (FloatOps.ofBits (F := Ideal) .f32 0x00000000#32))
        (FloatOps.ofBits (F := Ideal) .f32 0x00000000#32) u) = u := by
    intro u
    have h1 : FloatOps.cmpf (F := Ideal) (φ := .f32) .une u u = 0#1 := by
      show Ideal.cmp .une u u = _
      simp [Ideal.cmp]
    rw [h1]
    show Scalar.select (Ideal.cmp .oeq u _) _ u = u
    by_cases h : u = (FloatOps.ofBits (F := Ideal) .f32 0x00000000#32 : EReal)
    · have : Ideal.cmp .oeq u (FloatOps.ofBits (F := Ideal) .f32 0x00000000#32) = 1#1 := by simp [Ideal.cmp, h]
      rw [this]; exact h.symm
    · have : Ideal.cmp .oeq u (FloatOps.ofBits (F := Ideal) .f32 0x00000000#32) = 0#1 := by
        show BitVec.ofBool (decide (u = _)) = 0#1
        rw [decide_eq_false h]; rfl
      rw [this]; rfl
  refine (congrArg₂ (fun u v : EReal => Ideal.cmp .olt u v == 1#1) (hz a) (hz b)).trans ?_
  by_cases hlt : a < b <;> simp [Ideal.cmp, hlt]

/-- The argsort of the negated scores: the positions of the best. -/
theorem argsort_at {A N M K : ℕ} [NeZero M] (hK : K ≤ M) (x : FVec Ideal ⟨3, ![A, N, M]⟩ .f32) (y : IVec ⟨3, ![A, N, M]⟩ 32)
    (h : (⟨3, ![A, N, M]⟩ : Shape).Slices (fun _ => 0) ⟨3, ![A, N, K]⟩) (d : Fin M → EReal) (b : Fin A) (n : Fin N) (k : Fin K)
    (hx : ∀ m, x (ix3 b n m) = d m) (hy : ∀ m : Fin M, y (ix3 b n m) = BitVec.ofNat 32 m.val) (hd : ∀ m, d m ≠ ⊤) :
    extractStridedSlice ⟨3, ![A, N, K]⟩ (fun _ => 0)
        (Host.sort2 ⟨3, ![A, N, M]⟩ 2 (Cert.ReferenceIdeal.comparator_f32_i32_d2 (F := Ideal)) x y).2 h (ix3 b n k)
      = BitVec.ofNat 32 (pick d k.val).val := by
  have hs := sortedFrom_eq_pick d hd
    (fun a c => Cert.ReferenceIdeal.comparator_f32_i32_d2 (F := Ideal) (x (ix3 b n a), y (ix3 b n a)) (x (ix3 b n c), y (ix3 b n c)) == 1#1)
    (fun a c => by rw [hx, hx, cmp_eq]) hK k
  rw [← hs]
  exact ((firsts_at hK _ h b n k).trans (sort2_at _ _ _ b n _).2).trans (hy _)

end Cert.Spec

end
-- ==== Proof.RefSum.lean ====
/-
  The reference's sums over several axes and its maxima, read at an index.
-/
module

public import proofs.«01_k».proof.Proof.Spec2
public import Idealize.ShloMosaic.Lib.Pointwise
public import Idealize.ShloMosaic.Lib.ValueIdx
public import Idealize.ShloMosaic.Lib.IdealHost
public import Idealize.ShloMosaic.Lib.KernelVsHost
public import Idealize.ShloMosaic.PureOps.Ideal.Laws

@[expose] public section

set_option maxRecDepth 16384

noncomputable section

namespace Cert.Spec

open Idealize.ShloMosaic

/-- A sum over the three leading axes of four. -/
theorem sum012_at {A N K C : ℕ} (x : FVec Ideal ⟨4, ![A, N, K, C]⟩ .f32) (h : (⟨4, ![A, N, K, C]⟩ : Shape).ReducesTo [0, 1, 2] ⟨1, ![C]⟩)
    (hu : 0 < (⟨0, ![]⟩ : Shape).numel) (c : Fin C) :
    Host.reduceAdd (F := Ideal) x (constant ⟨0, ![]⟩ .f32 0x00000000#32) h hu (ix1 c)
      = ∑ p : Fin A × Fin N × Fin K, x (ix4 p.1 p.2.1 p.2.2 c) := by
  unfold Host.reduceAdd
  show Ideal.hostReduceAdd h x _ (ix1 c) = _
  unfold Ideal.hostReduceAdd
  have h0 : (constant (F := Ideal) ⟨0, ![]⟩ .f32 0x00000000#32 (Shape.Idx.first hu) : EReal) = 0 := Ideal.ofBits_zero_f32
  rw [h0, zero_add]
  have hdrop : ∀ i : (⟨4, ![A, N, K, C]⟩ : Shape).Idx, h.drop i = ix1 (i 3) := by
    intro i; funext a; refine Fin.ext ?_
    fin_cases a
    exact Shape.ReducesTo.drop_apply_val_of_eq h i 0 3 Nat.one_pos rfl
  refine Finset.sum_nbij' (fun i => ((i 0 : Fin A), (i 1 : Fin N), (i 2 : Fin K))) (fun p => ix4 p.1 p.2.1 p.2.2 c)
    (fun i _ => Finset.mem_univ _) (fun p _ => ?_) (fun i hi => ?_) (fun p _ => rfl) (fun i hi => ?_)
  · refine Finset.mem_filter.mpr ⟨Finset.mem_univ _, ?_⟩
    rw [hdrop]; rfl
  · have hi' := (Finset.mem_filter.mp hi).2
    rw [hdrop] at hi'
    have hc : (i 3 : Fin C) = c := congrFun hi' 0
    funext a; fin_cases a
    · rfl
    · rfl
    · rfl
    · exact hc.symm
  · have hi' := (Finset.mem_filter.mp hi).2
    rw [hdrop] at hi'
    have hc : (i 3 : Fin C) = c := congrFun hi' 0
    refine congrArg x ?_
    funext a; fin_cases a
    · rfl
    · rfl
    · rfl
    · exact hc

/-- A sum over the two leading axes of three. -/
theorem sum01_at {A N C : ℕ} (x : FVec Ideal ⟨3, ![A, N, C]⟩ .f32) (h : (⟨3, ![A, N, C]⟩ : Shape).ReducesTo [0, 1] ⟨1, ![C]⟩)
    (hu : 0 < (⟨0, ![]⟩ : Shape).numel) (c : Fin C) :
    Host.reduceAdd (F := Ideal) x (constant ⟨0, ![]⟩ .f32 0x00000000#32) h hu (ix1 c)
      = ∑ p : Fin A × Fin N, x (ix3 p.1 p.2 c) := by
  unfold Host.reduceAdd
  show Ideal.hostReduceAdd h x _ (ix1 c) = _
  unfold Ideal.hostReduceAdd
  have h0 : (constant (F := Ideal) ⟨0, ![]⟩ .f32 0x00000000#32 (Shape.Idx.first hu) : EReal) = 0 := Ideal.ofBits_zero_f32
  rw [h0, zero_add]
  have hdrop : ∀ i : (⟨3, ![A, N, C]⟩ : Shape).Idx, h.drop i = ix1 (i 2) := by
    intro i; funext a; refine Fin.ext ?_
    fin_cases a
    exact Shape.ReducesTo.drop_apply_val_of_eq h i 0 2 Nat.one_pos rfl
  refine Finset.sum_nbij' (fun i => ((i 0 : Fin A), (i 1 : Fin N))) (fun p => ix3 p.1 p.2 c)
    (fun i _ => Finset.mem_univ _) (fun p _ => ?_) (fun i hi => ?_) (fun p _ => rfl) (fun i hi => ?_)
  · refine Finset.mem_filter.mpr ⟨Finset.mem_univ _, ?_⟩
    rw [hdrop]; rfl
  · have hi' := (Finset.mem_filter.mp hi).2
    rw [hdrop] at hi'
    have hc : (i 2 : Fin C) = c := congrFun hi' 0
    funext a; fin_cases a
    · rfl
    · rfl
    · exact hc.symm
  · have hi' := (Finset.mem_filter.mp hi).2
    rw [hdrop] at hi'
    have hc : (i 2 : Fin C) = c := congrFun hi' 0
    refine congrArg x ?_
    funext a; fin_cases a
    · rfl
    · rfl
    · exact hc

/-- A fold of maxima from the bottom is the supremum. -/
theorem fold_max_sup {ι : Type} (s : Finset ι) (f : ι → EReal) : s.fold max ⊥ f = s.sup f := rfl

/-- A maximum over the third axis of four. -/
theorem max2_at {A N K C : ℕ} (x : FVec Ideal ⟨4, ![A, N, K, C]⟩ .f32) (h : (⟨4, ![A, N, K, C]⟩ : Shape).ReducesTo [2] ⟨3, ![A, N, C]⟩)
    (h' : (⟨4, ![A, N, K, C]⟩ : Shape).Reduces [2] ⟨3, ![A, N, C]⟩)
    (hu : 0 < (⟨0, ![]⟩ : Shape).numel) (b : Fin A) (n : Fin N) (c : Fin C) :
    Host.reduce FloatOps.maximumf x (constant (F := Ideal) ⟨0, ![]⟩ .f32 0xFF800000#32) h hu (ix3 b n c)
      = Finset.univ.sup fun k : Fin K => x (ix4 b n k c) := by
  rw [hostReduce_maximumf_eq_multiReduction x 0xFF800000#32 h hu h' (by decide) (by decide)]
  pointwise
  rw [← fold_max_sup]
  rfl

/-- A maximum over the last axis of four. -/
theorem max3_at {A N K C : ℕ} (x : FVec Ideal ⟨4, ![A, N, K, C]⟩ .f32) (h : (⟨4, ![A, N, K, C]⟩ : Shape).ReducesTo [3] ⟨3, ![A, N, K]⟩)
    (h' : (⟨4, ![A, N, K, C]⟩ : Shape).Reduces [3] ⟨3, ![A, N, K]⟩)
    (hu : 0 < (⟨0, ![]⟩ : Shape).numel) (b : Fin A) (n : Fin N) (k : Fin K) :
    Host.reduce FloatOps.maximumf x (constant (F := Ideal) ⟨0, ![]⟩ .f32 0xFF800000#32) h hu (ix3 b n k)
      = Finset.univ.sup fun c : Fin C => x (ix4 b n k c) := by
  rw [hostReduce_maximumf_eq_multiReduction x 0xFF800000#32 h hu h' (by decide) (by decide)]
  pointwise
  rw [← fold_max_sup]
  rfl

end Cert.Spec

end
-- ==== Proof.RefKeys3.lean ====
/-
  The reference's scoring stage, operation group by operation group, at an index.
-/
module

public import proofs.«01_k».proof.Proof.RefOps
public import proofs.«01_k».proof.Proof.RefTop
public import proofs.«01_k».proof.Proof.RefSum
public import proofs.«01_k».proof.Proof.Gen.ReferenceIdeal.Read
public import proofs.«01_k».proof.Proof.Index
public import proofs.«01_k».proof.Proof.Spec2

@[expose] public section

set_option maxRecDepth 16384

noncomputable section

namespace Cert.ReferenceIdeal.Val

open Idealize.ShloMosaic Cert.ReferenceIdeal Cert.ReferenceIdeal.Gen Cert.ReferenceIdeal.Read Cert.Spec

/-- The second linear map. -/
theorem lin2_key (y : FVec Ideal S4x2048x33x48 .f32) (x7 : FVec Ideal S48x64 .f32) (x8 : FVec Ideal S64 .f32) (b : Fin 4) (n : Fin 2048) (k : Fin 33) (j : Fin 64) :
    ((addf (Host.dotGeneral dot_S4x2048x33x48_S48x64_S4x2048x33x64_3_0_012_1_n_n none y (x7)) (broadcastInDim S4x2048x33x64 ![0, 1, 2, 3] bcast_S1x1x1x64_S4x2048x33x64_0_1_2_3 (broadcastInDim S1x1x1x64 ![3] bcast_S64_S1x1x1x64_3 (x8)))) : FVec Ideal S4x2048x33x64 .f32) (ix4 b n k j) = ∑ f : Fin 48, y (ix4 b n k f) * x7 (ix2 f j) + x8 (ix1 j) := by
  pointwise

/-- The first linear map. -/
theorem lin1_key (v : FVec Ideal S4x2048x33 .f32) (x5 : FVec Ideal S1x64 .f32) (x6 : FVec Ideal S64 .f32) (b : Fin 4) (n : Fin 2048) (k : Fin 33) (j : Fin 64) :
    ((addf (Host.dotGeneral dot_S4x2048x33x1_S1x64_S4x2048x33x64_3_0_012_1_n_n none (broadcastInDim S4x2048x33x1 ![0, 1, 2] bcast_S4x2048x33_S4x2048x33x1_0_1_2 (Host.exp (Host.negf (Host.negf v)))) (x5)) (broadcastInDim S4x2048x33x64 ![0, 1, 2, 3] bcast_S1x1x1x64_S4x2048x33x64_0_1_2_3 (broadcastInDim S1x1x1x64 ![3] bcast_S64_S1x1x1x64_3 (x6)))) : FVec Ideal S4x2048x33x64 .f32) (ix4 b n k j) = Ideal.exp (-(-(v (ix3 b n k)))) * x5 (ix2 0 j) + x6 (ix1 j) := by
  pointwise
  simp only [Fin.sum_univ_one, Fin.isValue]

/-- The two maps side by side. -/
theorem cat_key (y : FVec Ideal S4x2048x33x64 .f32) (z : FVec Ideal S4x2048x33x64 .f32)  (b : Fin 4) (n : Fin 2048) (k : Fin 33) (j : Fin 64) :
    ((concatenate S4x2048x33x128 3 [⟨S4x2048x33x64, y⟩, ⟨S4x2048x33x64, z⟩] concatenates_S4x2048x33x64_S4x2048x33x64_S4x2048x33x128_d3) : FVec Ideal S4x2048x33x128 .f32) (ix4 b n k (Fin.castAdd 64 j)) = y (ix4 b n k j)
      ∧ ((concatenate S4x2048x33x128 3 [⟨S4x2048x33x64, y⟩, ⟨S4x2048x33x64, z⟩] concatenates_S4x2048x33x64_S4x2048x33x64_S4x2048x33x128_d3) : FVec Ideal S4x2048x33x128 .f32) (ix4 b n k (Fin.natAdd 64 j)) = z (ix4 b n k j) := by
  constructor
  · pointwise
    exact dif_pos j.isLt
  · have e : ∀ p, (⟨(Fin.natAdd 64 j).val - 64, p⟩ : Fin 64) = j := fun p => Fin.ext (Nat.add_sub_cancel_left ..)
    pointwise
    refine (dif_neg (show ¬ 64 + j.val < 64 by omega)).trans ?_
    simp only [e]

/-- The 1×1 convolution. -/
theorem conv_key (y : FVec Ideal S4x2048x33x128 .f32) (x9 : FVec Ideal S128x128 .f32) (x10 : FVec Ideal S128 .f32) (b : Fin 4) (n : Fin 2048) (k : Fin 33) (c : Fin 128) :
    ((addf (Host.dotGeneral dot_S4x2048x33x128_S128x128_S4x2048x33x128_3_0_012_1_n_n none y (transpose S128x128 [1, 0] (x9) transposes_S128x128_S128x128_1_0)) (broadcastInDim S4x2048x33x128 ![0, 1, 2, 3] bcast_S1x1x1x128_S4x2048x33x128_0_1_2_3 (broadcastInDim S1x1x1x128 ![3] bcast_S128_S1x1x1x128_3 (x10)))) : FVec Ideal S4x2048x33x128 .f32) (ix4 b n k c) = ∑ j : Fin 128, y (ix4 b n k j) * x9 (ix2 c j) + x10 (ix1 c) := by
  pointwise

/-- A mean, from the sum. -/
theorem mean3_key (s : FVec Ideal S128 .f32)  (c : Fin 128) :
    ((Host.divf (broadcastInDim S1x1x1x128 ![3] bcast_S128_S1x1x1x128_3 s) (broadcastInDim S1x1x1x128 ![] bcast_S_S1x1x1x128 (constant S_ .f32 0x48840000#32))) : FVec Ideal S1x1x1x128 .f32) (ix4 0 0 0 c) = Ideal.div (s (ix1 c)) (Ideal.ofBits .f32 0x48840000#32) := by
  pointwise

/-- A squared deviation. -/
theorem dev3_key (h : FVec Ideal S4x2048x33x128 .f32) (mu : FVec Ideal S1x1x1x128 .f32)  (b : Fin 4) (n : Fin 2048) (k : Fin 33) (c : Fin 128) :
    ((mulf (subf h (broadcastInDim S4x2048x33x128 ![0, 1, 2, 3] bcast_S1x1x1x128_S4x2048x33x128_0_1_2_3 mu)) (subf h (broadcastInDim S4x2048x33x128 ![0, 1, 2, 3] bcast_S1x1x1x128_S4x2048x33x128_0_1_2_3 mu))) : FVec Ideal S4x2048x33x128 .f32) (ix4 b n k c) = (h (ix4 b n k c) - mu (ix4 0 0 0 c)) * (h (ix4 b n k c) - mu (ix4 0 0 0 c)) := by
  pointwise

/-- A variance, from the sum. -/
theorem var3_key (s : FVec Ideal S128 .f32)  (c : Fin 128) :
    ((Host.divf (broadcastInDim S1x1x1x128 ![3] bcast_S128_S1x1x1x128_3 s) (broadcastInDim S1x1x1x128 ![] bcast_S_S1x1x1x128 (constant S_ .f32 0x48840000#32))) : FVec Ideal S1x1x1x128 .f32) (ix4 0 0 0 c) = Ideal.div (s (ix1 c)) (Ideal.ofBits .f32 0x48840000#32) := by
  pointwise

/-- The normalisation. -/
theorem bn3_key (h : FVec Ideal S4x2048x33x128 .f32) (mu : FVec Ideal S1x1x1x128 .f32) (var : FVec Ideal S1x1x1x128 .f32) (x11 : FVec Ideal S128 .f32) (x12 : FVec Ideal S128 .f32) (b : Fin 4) (n : Fin 2048) (k : Fin 33) (c : Fin 128) :
    ((select (cmpf .oge (addf (mulf (Host.divf (subf h (broadcastInDim S4x2048x33x128 ![0, 1, 2, 3] bcast_S1x1x1x128_S4x2048x33x128_0_1_2_3 mu)) (broadcastInDim S4x2048x33x128 ![0, 1, 2, 3] bcast_S1x1x1x128_S4x2048x33x128_0_1_2_3 (Host.sqrt (addf var (broadcastInDim S1x1x1x128 ![] bcast_S_S1x1x1x128 (constant S_ .f32 0x3727C5AC#32)))))) (broadcastInDim S4x2048x33x128 ![0, 1, 2, 3] bcast_S1x1x1x128_S4x2048x33x128_0_1_2_3 (broadcastInDim S1x1x1x128 ![3] bcast_S128_S1x1x1x128_3 (x11)))) (broadcastInDim S4x2048x33x128 ![0, 1, 2, 3] bcast_S1x1x1x128_S4x2048x33x128_0_1_2_3 (broadcastInDim S1x1x1x128 ![3] bcast_S128_S1x1x1x128_3 (x12)))) (broadcastInDim S4x2048x33x128 ![] bcast_S_S4x2048x33x128 (constant S_ .f32 0x00000000#32))) (addf (mulf (Host.divf (subf h (broadcastInDim S4x2048x33x128 ![0, 1, 2, 3] bcast_S1x1x1x128_S4x2048x33x128_0_1_2_3 mu)) (broadcastInDim S4x2048x33x128 ![0, 1, 2, 3] bcast_S1x1x1x128_S4x2048x33x128_0_1_2_3 (Host.sqrt (addf var (broadcastInDim S1x1x1x128 ![] bcast_S_S1x1x1x128 (constant S_ .f32 0x3727C5AC#32)))))) (broadcastInDim S4x2048x33x128 ![0, 1, 2, 3] bcast_S1x1x1x128_S4x2048x33x128_0_1_2_3 (broadcastInDim S1x1x1x128 ![3] bcast_S128_S1x1x1x128_3 (x11)))) (broadcastInDim S4x2048x33x128 ![0, 1, 2, 3] bcast_S1x1x1x128_S4x2048x33x128_0_1_2_3 (broadcastInDim S1x1x1x128 ![3] bcast_S128_S1x1x1x128_3 (x12)))) (mulf (broadcastInDim S4x2048x33x128 ![] bcast_S_S4x2048x33x128 (id (constant S_ .f32 0x3E4CCCCD#32))) (addf (mulf (Host.divf (subf h (broadcastInDim S4x2048x33x128 ![0, 1, 2, 3] bcast_S1x1x1x128_S4x2048x33x128_0_1_2_3 mu)) (broadcastInDim S4x2048x33x128 ![0, 1, 2, 3] bcast_S1x1x1x128_S4x2048x33x128_0_1_2_3 (Host.sqrt (addf var (broadcastInDim S1x1x1x128 ![] bcast_S_S1x1x1x128 (constant S_ .f32 0x3727C5AC#32)))))) (broadcastInDim S4x2048x33x128 ![0, 1, 2, 3] bcast_S1x1x1x128_S4x2048x33x128_0_1_2_3 (broadcastInDim S1x1x1x128 ![3] bcast_S128_S1x1x1x128_3 (x11)))) (broadcastInDim S4x2048x33x128 ![0, 1, 2, 3] bcast_S1x1x1x128_S4x2048x33x128_0_1_2_3 (broadcastInDim S1x1x1x128 ![3] bcast_S128_S1x1x1x128_3 (x12)))))) : FVec Ideal S4x2048x33x128 .f32) (ix4 b n k c) = bnorm (mu (ix4 0 0 0 c)) (var (ix4 0 0 0 c)) (x11 (ix1 c)) (x12 (ix1 c)) (h (ix4 b n k c)) := by
  pointwise
  rfl

/-- A negation at an index. -/
theorem neg_key (y : FVec Ideal S4x2048x33 .f32) (i : S4x2048x33.Idx) : (Host.negf y : FVec Ideal S4x2048x33 .f32) i = -(y i) := rfl

/-- The places of the ten best scores. -/
theorem best_key (y : FVec Ideal S4x2048x33 .f32)  (b : Fin 4) (n : Fin 2048) (t : Fin 10) (s : Fin 33 → EReal) (h : ∀ m, y (ix3 b n m) = -(s m)) (hs : ∀ m, s m ≠ ⊥) :
    ((extractStridedSlice S4x2048x10 ![0, 0, 0] ((Host.sort2 S4x2048x33 2 comparator_f32_i32_d2 y (iotaInDim S4x2048x33 32 2)).2) slices_S4x2048x33_S4x2048x10_0_0_0) : IVec S4x2048x10 32) (ix3 b n t) = BitVec.ofNat 32 (best s t.val).val := by
  have hn : (![0, 0, 0] : Fin 3 → ℕ) = fun _ => 0 := by decide
  have hm : ∀ m : Fin 33, (iotaInDim S4x2048x33 32 2 : IVec S4x2048x33 32) (ix3 b n m) = BitVec.ofNat 32 m.val := fun m => rfl
  unfold best
  rw [show ∀ (z : IVec S4x2048x33 32) (h : S4x2048x33.Slices ![0, 0, 0] S4x2048x10),
    extractStridedSlice S4x2048x10 ![0, 0, 0] z h = extractStridedSlice S4x2048x10 (fun _ => 0) z (hn ▸ h) from fun z h => by congr 1]
  exact argsort_at (by norm_num) y _ _ (fun k => -(s k)) b n t h hm (fun m hm => hs m (EReal.neg_eq_top_iff.mp hm))

/-- The look-up's coordinates for the scoring stage. -/
theorem lookh_key (y : IVec S4x2048x33 32)  (b : Fin 4) (n : Fin 2048) (k : Fin 33) (m : Fin 2048) (hy : y (ix3 b n k) = BitVec.ofNat 32 m.val) :
    ((concatenate S4x2048x33x2 3 [⟨S4x2048x33x1, (broadcastInDim S4x2048x33x1 ![0, 1, 2] bcast_S4x2048x33_S4x2048x33x1_0_1_2 (broadcastInDim S4x2048x33 ![0, 1, 2] bcast_S4x1x1_S4x2048x33_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x2048x33x1, (broadcastInDim S4x2048x33x1 ![0, 1, 2] bcast_S4x2048x33_S4x2048x33x1_0_1_2 (select (cmpi .slt y (broadcastInDim S4x2048x33 ![] bcast_S_S4x2048x33 (constantI S_ 32 0#32))) (addi y (broadcastInDim S4x2048x33 ![] bcast_S_S4x2048x33 (constantI S_ 32 2048#32))) y))⟩] concatenates_S4x2048x33x1_S4x2048x33x1_S4x2048x33x2_d3) : IVec S4x2048x33x2 32) (ix4 b n k 0) = BitVec.ofNat 32 b.val
      ∧ ((concatenate S4x2048x33x2 3 [⟨S4x2048x33x1, (broadcastInDim S4x2048x33x1 ![0, 1, 2] bcast_S4x2048x33_S4x2048x33x1_0_1_2 (broadcastInDim S4x2048x33 ![0, 1, 2] bcast_S4x1x1_S4x2048x33_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x2048x33x1, (broadcastInDim S4x2048x33x1 ![0, 1, 2] bcast_S4x2048x33_S4x2048x33x1_0_1_2 (select (cmpi .slt y (broadcastInDim S4x2048x33 ![] bcast_S_S4x2048x33 (constantI S_ 32 0#32))) (addi y (broadcastInDim S4x2048x33 ![] bcast_S_S4x2048x33 (constantI S_ 32 2048#32))) y))⟩] concatenates_S4x2048x33x1_S4x2048x33x1_S4x2048x33x2_d3) : IVec S4x2048x33x2 32) (ix4 b n k 1) = BitVec.ofNat 32 m.val := by
  constructor
  · pointwise
    exact wrap_small b.val (lt_trans b.isLt (by norm_num)) _
  · pointwise [hy]
    exact wrap_small m.val (lt_trans m.isLt (by norm_num)) _

end Cert.ReferenceIdeal.Val

end
-- ==== Proof.RefKeys4.lean ====
/-
  The reference's choice of ten and its perceptron, operation group by operation group, at an index.
-/
module

public import proofs.«01_k».proof.Proof.RefOps
public import proofs.«01_k».proof.Proof.RefTop
public import proofs.«01_k».proof.Proof.RefSum
public import proofs.«01_k».proof.Proof.Gen.ReferenceIdeal.Read
public import proofs.«01_k».proof.Proof.Index
public import proofs.«01_k».proof.Proof.Spec2

@[expose] public section

set_option maxRecDepth 16384

noncomputable section

namespace Cert.ReferenceIdeal.Val

open Idealize.ShloMosaic Cert.ReferenceIdeal Cert.ReferenceIdeal.Gen Cert.ReferenceIdeal.Read Cert.Spec

/-- The coordinates of a chosen neighbour's place. -/
theorem lookc_key (y : IVec S4x2048x10 32)  (b : Fin 4) (n : Fin 2048) (t : Fin 10) (r : Fin 33) (hy : y (ix3 b n t) = BitVec.ofNat 32 r.val) :
    (((concatenate S4x2048x10x3 3 [⟨S4x2048x10x1, ((broadcastInDim S4x2048x10x1 ![0, 1, 2] bcast_S4x2048x10_S4x2048x10x1_0_1_2 (broadcastInDim S4x2048x10 ![0, 1, 2] bcast_S4x1x1_S4x2048x10_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))) : (⟨S4x2048x10x1, .i32⟩ : BufTy).Contents (Elt Ideal))⟩, ⟨S4x2048x10x1, ((broadcastInDim S4x2048x10x1 ![0, 1, 2] bcast_S4x2048x10_S4x2048x10x1_0_1_2 (broadcastInDim S4x2048x10 ![0, 1, 2] bcast_S1x2048x1_S4x2048x10_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S4x2048x10x1, .i32⟩ : BufTy).Contents (Elt Ideal))⟩, ⟨S4x2048x10x1, ((broadcastInDim S4x2048x10x1 ![0, 1, 2] bcast_S4x2048x10_S4x2048x10x1_0_1_2 (select (cmpi .slt y (broadcastInDim S4x2048x10 ![] bcast_S_S4x2048x10 (constantI S_ 32 0#32))) (addi y (broadcastInDim S4x2048x10 ![] bcast_S_S4x2048x10 (constantI S_ 32 33#32))) y)) : (⟨S4x2048x10x1, .i32⟩ : BufTy).Contents (Elt Ideal))⟩] concatenates_S4x2048x10x1_S4x2048x10x1_S4x2048x10x1_S4x2048x10x3_d3 : (⟨S4x2048x10x3, .i32⟩ : BufTy).Contents (Elt Ideal))) : IVec S4x2048x10x3 32) (ix4 b n t 0) = BitVec.ofNat 32 b.val
      ∧ (((concatenate S4x2048x10x3 3 [⟨S4x2048x10x1, ((broadcastInDim S4x2048x10x1 ![0, 1, 2] bcast_S4x2048x10_S4x2048x10x1_0_1_2 (broadcastInDim S4x2048x10 ![0, 1, 2] bcast_S4x1x1_S4x2048x10_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))) : (⟨S4x2048x10x1, .i32⟩ : BufTy).Contents (Elt Ideal))⟩, ⟨S4x2048x10x1, ((broadcastInDim S4x2048x10x1 ![0, 1, 2] bcast_S4x2048x10_S4x2048x10x1_0_1_2 (broadcastInDim S4x2048x10 ![0, 1, 2] bcast_S1x2048x1_S4x2048x10_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S4x2048x10x1, .i32⟩ : BufTy).Contents (Elt Ideal))⟩, ⟨S4x2048x10x1, ((broadcastInDim S4x2048x10x1 ![0, 1, 2] bcast_S4x2048x10_S4x2048x10x1_0_1_2 (select (cmpi .slt y (broadcastInDim S4x2048x10 ![] bcast_S_S4x2048x10 (constantI S_ 32 0#32))) (addi y (broadcastInDim S4x2048x10 ![] bcast_S_S4x2048x10 (constantI S_ 32 33#32))) y)) : (⟨S4x2048x10x1, .i32⟩ : BufTy).Contents (Elt Ideal))⟩] concatenates_S4x2048x10x1_S4x2048x10x1_S4x2048x10x1_S4x2048x10x3_d3 : (⟨S4x2048x10x3, .i32⟩ : BufTy).Contents (Elt Ideal))) : IVec S4x2048x10x3 32) (ix4 b n t 1) = BitVec.ofNat 32 n.val
      ∧ (((concatenate S4x2048x10x3 3 [⟨S4x2048x10x1, ((broadcastInDim S4x2048x10x1 ![0, 1, 2] bcast_S4x2048x10_S4x2048x10x1_0_1_2 (broadcastInDim S4x2048x10 ![0, 1, 2] bcast_S4x1x1_S4x2048x10_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))) : (⟨S4x2048x10x1, .i32⟩ : BufTy).Contents (Elt Ideal))⟩, ⟨S4x2048x10x1, ((broadcastInDim S4x2048x10x1 ![0, 1, 2] bcast_S4x2048x10_S4x2048x10x1_0_1_2 (broadcastInDim S4x2048x10 ![0, 1, 2] bcast_S1x2048x1_S4x2048x10_0_1_2 (select (cmpi .slt (broadcastInDim S1x2048x1 ![1] bcast_S2048_S1x2048x1_1 (iotaInDim S2048 32 0)) (broadcastInDim S1x2048x1 ![] bcast_S_S1x2048x1 (constantI S_ 32 0#32))) (addi (broadcastInDim S1x2048x1 ![1] bcast_S2048_S1x2048x1_1 (iotaInDim S2048 32 0)) (broadcastInDim S1x2048x1 ![] bcast_S_S1x2048x1 (constantI S_ 32 2048#32))) (broadcastInDim S1x2048x1 ![1] bcast_S2048_S1x2048x1_1 (iotaInDim S2048 32 0))))) : (⟨S4x2048x10x1, .i32⟩ : BufTy).Contents (Elt Ideal))⟩, ⟨S4x2048x10x1, ((broadcastInDim S4x2048x10x1 ![0, 1, 2] bcast_S4x2048x10_S4x2048x10x1_0_1_2 (select (cmpi .slt y (broadcastInDim S4x2048x10 ![] bcast_S_S4x2048x10 (constantI S_ 32 0#32))) (addi y (broadcastInDim S4x2048x10 ![] bcast_S_S4x2048x10 (constantI S_ 32 33#32))) y)) : (⟨S4x2048x10x1, .i32⟩ : BufTy).Contents (Elt Ideal))⟩] concatenates_S4x2048x10x1_S4x2048x10x1_S4x2048x10x1_S4x2048x10x3_d3 : (⟨S4x2048x10x3, .i32⟩ : BufTy).Contents (Elt Ideal))) : IVec S4x2048x10x3 32) (ix4 b n t 2) = BitVec.ofNat 32 r.val := by
  refine ⟨?_, ?_, ?_⟩
  · pointwise
    exact wrap_small b.val (lt_trans b.isLt (by norm_num)) _
  · pointwise
    exact wrap_small n.val (lt_trans n.isLt (by norm_num)) _
  · pointwise [hy]
    exact wrap_small r.val (lt_trans r.isLt (by norm_num)) _

/-- The coordinates of a chosen neighbour's row. -/
theorem lookr_key (y : IVec S4x2048x10 32)  (b : Fin 4) (n : Fin 2048) (t : Fin 10) (m : Fin 2048) (hy : y (ix3 b n t) = BitVec.ofNat 32 m.val) :
    ((concatenate S4x2048x10x2 3 [⟨S4x2048x10x1, (broadcastInDim S4x2048x10x1 ![0, 1, 2] bcast_S4x2048x10_S4x2048x10x1_0_1_2 (broadcastInDim S4x2048x10 ![0, 1, 2] bcast_S4x1x1_S4x2048x10_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x2048x10x1, (broadcastInDim S4x2048x10x1 ![0, 1, 2] bcast_S4x2048x10_S4x2048x10x1_0_1_2 (select (cmpi .slt y (broadcastInDim S4x2048x10 ![] bcast_S_S4x2048x10 (constantI S_ 32 0#32))) (addi y (broadcastInDim S4x2048x10 ![] bcast_S_S4x2048x10 (constantI S_ 32 2048#32))) y))⟩] concatenates_S4x2048x10x1_S4x2048x10x1_S4x2048x10x2_d3) : IVec S4x2048x10x2 32) (ix4 b n t 0) = BitVec.ofNat 32 b.val
      ∧ ((concatenate S4x2048x10x2 3 [⟨S4x2048x10x1, (broadcastInDim S4x2048x10x1 ![0, 1, 2] bcast_S4x2048x10_S4x2048x10x1_0_1_2 (broadcastInDim S4x2048x10 ![0, 1, 2] bcast_S4x1x1_S4x2048x10_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x2048x10x1, (broadcastInDim S4x2048x10x1 ![0, 1, 2] bcast_S4x2048x10_S4x2048x10x1_0_1_2 (select (cmpi .slt y (broadcastInDim S4x2048x10 ![] bcast_S_S4x2048x10 (constantI S_ 32 0#32))) (addi y (broadcastInDim S4x2048x10 ![] bcast_S_S4x2048x10 (constantI S_ 32 2048#32))) y))⟩] concatenates_S4x2048x10x1_S4x2048x10x1_S4x2048x10x2_d3) : IVec S4x2048x10x2 32) (ix4 b n t 1) = BitVec.ofNat 32 m.val := by
  constructor
  · pointwise
    exact wrap_small b.val (lt_trans b.isLt (by norm_num)) _
  · pointwise [hy]
    exact wrap_small m.val (lt_trans m.isLt (by norm_num)) _

/-- The perceptron's first layer. -/
theorem z1_key (y : FVec Ideal S4x2048x10x48 .f32) (x13 : FVec Ideal S480x512 .f32) (x14 : FVec Ideal S512 .f32) (b : Fin 4) (n : Fin 2048) (o : Fin 512) :
    ((addf (Host.dotGeneral dot_S4x2048x480_S480x512_S4x2048x512_2_0_01_1_n_n none (shapeCast _ y shapeCasts_S4x2048x10x48_S4x2048x480) (x13)) (broadcastInDim S4x2048x512 ![0, 1, 2] bcast_S1x1x512_S4x2048x512_0_1_2 (broadcastInDim S1x1x512 ![2] bcast_S512_S1x1x512_2 (x14)))) : FVec Ideal S4x2048x512 .f32) (ix3 b n o) = ∑ t : Fin 10, ∑ f : Fin 48, y (ix4 b n t f) * x13 (ix2 (blkRow t f) o) + x14 (ix1 o) := by
  pointwise
  refine congrArg (· + _) ?_
  rw [← Fintype.sum_prod_type', ← Equiv.sum_comp (finProdFinEquiv : Fin 10 × Fin 48 ≃ Fin 480)]
  refine Finset.sum_congr rfl fun p _ => ?_
  have h1 : (finProdFinEquiv p).val / 48 = p.1.val := by
    rw [finProdFinEquiv_apply_val, Nat.add_mul_div_left _ _ (by norm_num), Nat.div_eq_of_lt p.2.isLt,
      Nat.zero_add]
  have h2 : (finProdFinEquiv p).val % 48 = p.2.val := by
    rw [finProdFinEquiv_apply_val, Nat.add_mul_mod_self_left, Nat.mod_eq_of_lt p.2.isLt]
  have h3 : finProdFinEquiv p = blkRow p.1 p.2 := Fin.ext (by
    rw [finProdFinEquiv_apply_val]
    show _ = p.1.val * 48 + p.2.val
    ring)
  exact congrArg₂ (· * ·) (congrArg₂ (fun i j => y (ix4 b n i j)) (Fin.ext h1) (Fin.ext h2)) (congrArg (fun i => x13 (ix2 i o)) h3)

/-- A mean, from the sum. -/
theorem mean2_key (s : FVec Ideal S512 .f32)  (o : Fin 512) :
    ((Host.divf (broadcastInDim S1x1x512 ![2] bcast_S512_S1x1x512_2 s) (broadcastInDim S1x1x512 ![] bcast_S_S1x1x512 (constant S_ .f32 0x46000000#32))) : FVec Ideal S1x1x512 .f32) (ix3 0 0 o) = Ideal.div (s (ix1 o)) (Ideal.ofBits .f32 0x46000000#32) := by
  pointwise

/-- A variance, from the sum. -/
theorem var2_key (s : FVec Ideal S512 .f32)  (o : Fin 512) :
    ((Host.divf (broadcastInDim S1x1x512 ![2] bcast_S512_S1x1x512_2 s) (broadcastInDim S1x1x512 ![] bcast_S_S1x1x512 (constant S_ .f32 0x46000000#32))) : FVec Ideal S1x1x512 .f32) (ix3 0 0 o) = Ideal.div (s (ix1 o)) (Ideal.ofBits .f32 0x46000000#32) := by
  pointwise

/-- A squared deviation. -/
theorem dev2_key (h : FVec Ideal S4x2048x512 .f32) (mu : FVec Ideal S1x1x512 .f32)  (b : Fin 4) (n : Fin 2048) (o : Fin 512) :
    ((mulf (subf h (broadcastInDim S4x2048x512 ![0, 1, 2] bcast_S1x1x512_S4x2048x512_0_1_2 mu)) (subf h (broadcastInDim S4x2048x512 ![0, 1, 2] bcast_S1x1x512_S4x2048x512_0_1_2 mu))) : FVec Ideal S4x2048x512 .f32) (ix3 b n o) = (h (ix3 b n o) - mu (ix3 0 0 o)) * (h (ix3 b n o) - mu (ix3 0 0 o)) := by
  pointwise

/-- The normalisation. -/
theorem bn2_key (h : FVec Ideal S4x2048x512 .f32) (mu : FVec Ideal S1x1x512 .f32) (var : FVec Ideal S1x1x512 .f32) (g : FVec Ideal S512 .f32) (be : FVec Ideal S512 .f32) (b : Fin 4) (n : Fin 2048) (o : Fin 512) :
    ((select (cmpf .oge (addf (mulf (Host.divf (subf h (broadcastInDim S4x2048x512 ![0, 1, 2] bcast_S1x1x512_S4x2048x512_0_1_2 mu)) (broadcastInDim S4x2048x512 ![0, 1, 2] bcast_S1x1x512_S4x2048x512_0_1_2 (Host.sqrt (addf var (broadcastInDim S1x1x512 ![] bcast_S_S1x1x512 (constant S_ .f32 0x3727C5AC#32)))))) (broadcastInDim S4x2048x512 ![0, 1, 2] bcast_S1x1x512_S4x2048x512_0_1_2 (broadcastInDim S1x1x512 ![2] bcast_S512_S1x1x512_2 (g)))) (broadcastInDim S4x2048x512 ![0, 1, 2] bcast_S1x1x512_S4x2048x512_0_1_2 (broadcastInDim S1x1x512 ![2] bcast_S512_S1x1x512_2 (be)))) (broadcastInDim S4x2048x512 ![] bcast_S_S4x2048x512 (constant S_ .f32 0x00000000#32))) (addf (mulf (Host.divf (subf h (broadcastInDim S4x2048x512 ![0, 1, 2] bcast_S1x1x512_S4x2048x512_0_1_2 mu)) (broadcastInDim S4x2048x512 ![0, 1, 2] bcast_S1x1x512_S4x2048x512_0_1_2 (Host.sqrt (addf var (broadcastInDim S1x1x512 ![] bcast_S_S1x1x512 (constant S_ .f32 0x3727C5AC#32)))))) (broadcastInDim S4x2048x512 ![0, 1, 2] bcast_S1x1x512_S4x2048x512_0_1_2 (broadcastInDim S1x1x512 ![2] bcast_S512_S1x1x512_2 (g)))) (broadcastInDim S4x2048x512 ![0, 1, 2] bcast_S1x1x512_S4x2048x512_0_1_2 (broadcastInDim S1x1x512 ![2] bcast_S512_S1x1x512_2 (be)))) (mulf (broadcastInDim S4x2048x512 ![] bcast_S_S4x2048x512 (id (constant S_ .f32 0x3E4CCCCD#32))) (addf (mulf (Host.divf (subf h (broadcastInDim S4x2048x512 ![0, 1, 2] bcast_S1x1x512_S4x2048x512_0_1_2 mu)) (broadcastInDim S4x2048x512 ![0, 1, 2] bcast_S1x1x512_S4x2048x512_0_1_2 (Host.sqrt (addf var (broadcastInDim S1x1x512 ![] bcast_S_S1x1x512 (constant S_ .f32 0x3727C5AC#32)))))) (broadcastInDim S4x2048x512 ![0, 1, 2] bcast_S1x1x512_S4x2048x512_0_1_2 (broadcastInDim S1x1x512 ![2] bcast_S512_S1x1x512_2 (g)))) (broadcastInDim S4x2048x512 ![0, 1, 2] bcast_S1x1x512_S4x2048x512_0_1_2 (broadcastInDim S1x1x512 ![2] bcast_S512_S1x1x512_2 (be)))))) : FVec Ideal S4x2048x512 .f32) (ix3 b n o) = bnorm (mu (ix3 0 0 o)) (var (ix3 0 0 o)) (g (ix1 o)) (be (ix1 o)) (h (ix3 b n o)) := by
  pointwise
  rfl

/-- The perceptron's second layer. -/
theorem z2_key (y : FVec Ideal S4x2048x512 .f32) (x17 : FVec Ideal S512x512 .f32) (x18 : FVec Ideal S512 .f32) (b : Fin 4) (n : Fin 2048) (o : Fin 512) :
    ((addf (Host.dotGeneral dot_S4x2048x512_S512x512_S4x2048x512_2_0_01_1_n_n none y (x17)) (broadcastInDim S4x2048x512 ![0, 1, 2] bcast_S1x1x512_S4x2048x512_0_1_2 (broadcastInDim S1x1x512 ![2] bcast_S512_S1x1x512_2 (x18)))) : FVec Ideal S4x2048x512 .f32) (ix3 b n o) = ∑ j : Fin 512, y (ix3 b n j) * x17 (ix2 j o) + x18 (ix1 o) := by
  pointwise

end Cert.ReferenceIdeal.Val

end
-- ==== Proof.Ref1.lean ====
/-
  The reference's first neighbour search read at an index.
-/
module

public import proofs.«01_k».proof.Proof.RefOps
public import proofs.«01_k».proof.Proof.RefTop
public import proofs.«01_k».proof.Proof.RefSum
public import proofs.«01_k».proof.Proof.Gen.ReferenceIdeal.Read

@[expose] public section

set_option maxRecDepth 16384

noncomputable section

namespace Cert.ReferenceIdeal.Val

open Idealize.ShloMosaic Cert.ReferenceIdeal Cert.ReferenceIdeal.Gen Cert.ReferenceIdeal.Read Cert.Spec

variable (x0 : (⟨S4x2048x3, .f32⟩ : BufTy).Contents (Elt Ideal)) (x1 : (⟨S6x16, .f32⟩ : BufTy).Contents (Elt Ideal))
  (x2 : (⟨S16, .f32⟩ : BufTy).Contents (Elt Ideal))

/-- The points. -/
def X0 (b : Fin 4) (n : Fin 2048) (k : Fin 3) : EReal := x0 (ix3 b n k)

theorem dot0_at (b : Fin 4) (n m : Fin 2048) : val_main_v7 (F := Ideal) x0 (ix3 b n m) = ∑ k, X0 x0 b n k * X0 x0 b m k := by
  unfold val_main_v7
  pointwise
  rfl

theorem negd0_at (b : Fin 4) (n m : Fin 2048) : val_main_v11 (F := Ideal) x0 (ix3 b n m) = -(sqDist (X0 x0 b) n m) := by
  have h := dot0_at x0 b n m
  unfold val_main_v11 val_main_v10 val_main_v9 val_main_v8 val_main_cst_0 val_main_v6 val_main_v5 val_main_v4 val_main_v3 val_main_v2
    val_main_v1 val_main_v0 val_main_cst
  generalize val_main_v7 (F := Ideal) x0 = y at h ⊢
  pointwise [h]
  rw [bits_two]
  rfl

theorem nb0_at (hd : ∀ b n m, sqDist (X0 x0 b) n m ≠ ⊤) (b : Fin 4) (n : Fin 2048) (k : Fin 33) :
    val_main_values (F := Ideal) x0 (ix3 b n k) = -(sqDist (X0 x0 b) n (nbr (X0 x0 b) n k.val))
      ∧ val_main_indices (F := Ideal) x0 (ix3 b n k) = BitVec.ofNat 32 (nbr (X0 x0 b) n k.val).val :=
  topk_at (by decide) _ _ (sqDist (X0 x0 b) n) b n k (negd0_at x0 b n) (hd b n)

/-- A cloud's number, wrapped. -/
theorem cloud_at (b : Fin 4) (n : Fin 2048) (k : Fin 33) : val_main_v25 (F := Ideal) (ix3 b n k) = BitVec.ofNat 32 b.val := by
  unfold val_main_v25 val_main_v19 val_main_v16 val_main_v18 val_main_v15 val_main_v17 val_main_v14 val_main_v13 val_main_c val_main_c_1
  pointwise
  exact wrap_small b.val (lt_trans b.isLt (by norm_num)) _

section Stage
variable (hd : ∀ b n m, sqDist (X0 x0 b) n m ≠ ⊤)
include hd

/-- The look-up's coordinates. -/
theorem look0_at (b : Fin 4) (n : Fin 2048) (k : Fin 33) :
    val_main_v28 (F := Ideal) x0 (ix4 b n k 0) = BitVec.ofNat 32 b.val
      ∧ val_main_v28 (F := Ideal) x0 (ix4 b n k 1) = BitVec.ofNat 32 (nbr (X0 x0 b) n k.val).val := by
  have h1 := (nb0_at x0 hd b n k).2
  have h0 := cloud_at b n k
  unfold val_main_v28 val_main_v26 val_main_v27 val_main_v24 val_main_v23 val_main_v22 val_main_v21 val_main_v20 val_main_c_2 val_main_c_3
  generalize val_main_v25 (F := Ideal) = y0 at h0 ⊢
  generalize val_main_indices (F := Ideal) x0 = y1 at h1 ⊢
  constructor
  · pointwise [h0, h1]
  · pointwise [h0, h1]
    exact wrap_small _ (lt_trans (nbr (X0 x0 b) n k.val).isLt (by norm_num)) _

/-- The neighbours' rows. -/
theorem rows0_at (b : Fin 4) (n : Fin 2048) (k : Fin 33) (c : Fin 3) :
    val_main_v29 (F := Ideal) x0 (ix4 b n k c) = X0 x0 b (nbr (X0 x0 b) n k.val) c :=
  rows_at (by norm_num) (by norm_num) _ x0 _ b n k c b _ (look0_at x0 hd b n k).1 (look0_at x0 hd b n k).2

/-- The edge's features: the point, then the difference to its neighbour. -/
theorem pair0_at (b : Fin 4) (n : Fin 2048) (k : Fin 33) (c : Fin 3) :
    val_main_v33 (F := Ideal) x0 (ix4 b n k (Fin.castAdd 3 c)) = X0 x0 b n c
      ∧ val_main_v33 (F := Ideal) x0 (ix4 b n k (Fin.natAdd 3 c)) = X0 x0 b (nbr (X0 x0 b) n k.val) c - X0 x0 b n c := by
  have h := rows0_at x0 hd b n k c
  unfold val_main_v33 val_main_v32 val_main_v31 val_main_v30
  generalize val_main_v29 (F := Ideal) x0 = y at h ⊢
  constructor
  · pointwise
    exact (dif_pos c.isLt).trans rfl
  · have e : ∀ p, (⟨(Fin.natAdd 3 c).val - 3, p⟩ : Fin 3) = c := fun p => Fin.ext (Nat.add_sub_cancel_left ..)
    pointwise
    refine (dif_neg (show ¬ 3 + c.val < 3 by omega)).trans ?_
    simp only [e, h]
    rfl

/-- The edge's message. -/
theorem msg0_at (b : Fin 4) (n : Fin 2048) (k : Fin 33) (o : Fin 16) :
    val_main_v38 (F := Ideal) x0 x1 x2 (ix4 b n k o)
      = edge (fun c o => x1 (ix2 (Fin.castAdd 3 c) o)) (fun c o => x1 (ix2 (Fin.natAdd 3 c) o)) (fun o => x2 (ix1 o))
          (X0 x0 b n) (X0 x0 b (nbr (X0 x0 b) n k.val)) o := by
  have hp := pair0_at x0 hd b n k
  have h34 : val_main_v34 (F := Ideal) x0 x1 (ix4 b n k o) = ∑ c : Fin (3 + 3), val_main_v33 (F := Ideal) x0 (ix4 b n k c) * x1 (ix2 c o) := by
    unfold val_main_v34
    generalize val_main_v33 (F := Ideal) x0 = y
    pointwise
  rw [Fin.sum_univ_add] at h34
  simp only [fun c => (hp c).1, fun c => (hp c).2] at h34
  unfold val_main_v38 val_main_call0_v1 val_main_call0_v4 val_main_call0_v3 val_main_call0_v2 val_main_call0_v0 val_main_call0_cst
    val_main_v37 val_main_v36 val_main_v35 val_main_cst_4
  generalize val_main_v34 (F := Ideal) x0 x1 = y at h34 ⊢
  pointwise [h34]
  rfl

/-- The first edge convolution. -/
theorem x1_at (b : Fin 4) (n : Fin 2048) (o : Fin 16) :
    val_main_v45 (F := Ideal) x0 x1 x2 (ix3 b n o)
      = edgeConv (fun c o => x1 (ix2 (Fin.castAdd 3 c) o)) (fun c o => x1 (ix2 (Fin.natAdd 3 c) o)) (fun o => x2 (ix1 o)) (X0 x0 b) n o := by
  have hm := fun k => msg0_at x0 x1 x2 hd b n k o
  have hn := fun k => (nb0_at x0 hd b n k).2
  refine (max2_at _ _ (by decide) _ b n o).trans ?_
  unfold edgeConv
  refine congrArg (Finset.univ.sup) (funext fun k => ?_)
  unfold val_main_v44 val_main_call1_v1 val_main_call1_v2 val_main_call1_v0 val_main_v43 val_main_v42 val_main_v41 val_main_v40
    val_main_v39 val_main_cst_5
  generalize val_main_v38 (F := Ideal) x0 x1 x2 = y at hm ⊢
  generalize val_main_indices (F := Ideal) x0 = y1 at hn ⊢
  pointwise [hm, hn]
  refine (mask_small _ _ _ _).trans ?_
  exact congrArg (ite _ _) bits_bot

end Stage

end Cert.ReferenceIdeal.Val

end
-- ==== Proof.Ref2.lean ====
/-
  The reference's second neighbour search read at an index.
-/
module

public import proofs.«01_k».proof.Proof.Ref1
public import proofs.«01_k».proof.Proof.RefOps
public import proofs.«01_k».proof.Proof.RefTop
public import proofs.«01_k».proof.Proof.RefSum
public import proofs.«01_k».proof.Proof.Gen.ReferenceIdeal.Read

@[expose] public section

set_option maxRecDepth 16384

noncomputable section

namespace Cert.ReferenceIdeal.Val

open Idealize.ShloMosaic Cert.ReferenceIdeal Cert.ReferenceIdeal.Gen Cert.ReferenceIdeal.Read Cert.Spec

variable (x0 : (⟨S4x2048x3, .f32⟩ : BufTy).Contents (Elt Ideal)) (x1 : (⟨S6x16, .f32⟩ : BufTy).Contents (Elt Ideal))
  (x2 : (⟨S16, .f32⟩ : BufTy).Contents (Elt Ideal)) (x3 : (⟨S32x48, .f32⟩ : BufTy).Contents (Elt Ideal))
  (x4 : (⟨S48, .f32⟩ : BufTy).Contents (Elt Ideal))

/-- The points' features. -/
def X1r (b : Fin 4) (n : Fin 2048) (k : Fin 16) : EReal := val_main_v45 (F := Ideal) x0 x1 x2 (ix3 b n k)

/-- The negated squared distances from one array of features. -/
theorem negd_key (y : FVec Ideal S4x2048x16 .f32) (b : Fin 4) (n m : Fin 2048) :
    (Host.negf (subf
        (addf
          (broadcastInDim S4x2048x2048 ![0, 1, 2] bcast_S4x2048x1_S4x2048x2048_0_1_2
            (broadcastInDim S4x2048x1 ![0, 1] bcast_S4x2048_S4x2048x1_0_1
              (Host.reduceAdd (mulf y y) (constant S_ .f32 0x00000000#32) reducesTo_S4x2048x16_S4x2048_d2 h_S_)))
          (broadcastInDim S4x2048x2048 ![0, 1, 2] bcast_S4x1x2048_S4x2048x2048_0_1_2
            (broadcastInDim S4x1x2048 ![0, 2] bcast_S4x2048_S4x1x2048_0_2
              (Host.reduceAdd (mulf y y) (constant S_ .f32 0x00000000#32) reducesTo_S4x2048x16_S4x2048_d2 h_S_))))
        (mulf (broadcastInDim S4x2048x2048 ![] bcast_S_S4x2048x2048 (constant S_ .f32 0x40000000#32))
          (Host.dotGeneral dot_S4x2048x16_S4x2048x16_S4x2048x2048_2_2_1_1_0_0 none y y))) : FVec Ideal S4x2048x2048 .f32) (ix3 b n m)
      = -(sqDist (fun n k => y (ix3 b n k)) n m) := by
  pointwise
  rw [bits_two]
  rfl

theorem negd1_at (b : Fin 4) (n m : Fin 2048) :
    val_main_v57 (F := Ideal) x0 x1 x2 (ix3 b n m) = -(sqDist (X1r x0 x1 x2 b) n m) := by
  unfold val_main_v57 val_main_v56 val_main_v55 val_main_v54 val_main_v53 val_main_v52 val_main_v51 val_main_v50 val_main_v49
    val_main_v48 val_main_v47 val_main_v46 val_main_cst_8 val_main_cst_7
  exact negd_key (val_main_v45 (F := Ideal) x0 x1 x2) b n m

theorem nb1_at (hd : ∀ b n m, sqDist (X1r x0 x1 x2 b) n m ≠ ⊤) (b : Fin 4) (n : Fin 2048) (k : Fin 33) :
    val_main_indices_10 (F := Ideal) x0 x1 x2 (ix3 b n k) = BitVec.ofNat 32 (nbr (X1r x0 x1 x2 b) n k.val).val := by
  have h := negd1_at x0 x1 x2 b n
  unfold val_main_indices_10
  generalize val_main_v57 (F := Ideal) x0 x1 x2 = y at h ⊢
  exact (topk_at (by decide) _ _ (sqDist (X1r x0 x1 x2 b) n) b n k h (hd b n)).2

/-- A cloud's number, wrapped. -/
theorem cloud1_at (b : Fin 4) (n : Fin 2048) (k : Fin 33) : val_main_v71 (F := Ideal) (ix3 b n k) = BitVec.ofNat 32 b.val := by
  unfold val_main_v71 val_main_v65 val_main_v62 val_main_v64 val_main_v61 val_main_v63 val_main_v60 val_main_v59 val_main_c_11 val_main_c_12
  pointwise
  exact wrap_small b.val (lt_trans b.isLt (by norm_num)) _

/-- The pair of a row and a difference, from the looked-up rows and the rows. -/
theorem pair_key (y : FVec Ideal S4x2048x33x16 .f32) (x : FVec Ideal S4x2048x16 .f32) (b : Fin 4) (n : Fin 2048) (k : Fin 33) (c : Fin 16) :
    (concatenate S4x2048x33x32 3
        [⟨S4x2048x33x16, broadcastInDim S4x2048x33x16 ![0, 1, 2, 3] bcast_S4x2048x1x16_S4x2048x33x16_0_1_2_3
            (broadcastInDim S4x2048x1x16 ![0, 1, 3] bcast_S4x2048x16_S4x2048x1x16_0_1_3 x)⟩,
          ⟨S4x2048x33x16, subf y (broadcastInDim S4x2048x33x16 ![0, 1, 2, 3] bcast_S4x2048x1x16_S4x2048x33x16_0_1_2_3
            (broadcastInDim S4x2048x1x16 ![0, 1, 3] bcast_S4x2048x16_S4x2048x1x16_0_1_3 x))⟩]
        concatenates_S4x2048x33x16_S4x2048x33x16_S4x2048x33x32_d3 : FVec Ideal S4x2048x33x32 .f32) (ix4 b n k (Fin.castAdd 16 c)) = x (ix3 b n c)
      ∧ (concatenate S4x2048x33x32 3
        [⟨S4x2048x33x16, broadcastInDim S4x2048x33x16 ![0, 1, 2, 3] bcast_S4x2048x1x16_S4x2048x33x16_0_1_2_3
            (broadcastInDim S4x2048x1x16 ![0, 1, 3] bcast_S4x2048x16_S4x2048x1x16_0_1_3 x)⟩,
          ⟨S4x2048x33x16, subf y (broadcastInDim S4x2048x33x16 ![0, 1, 2, 3] bcast_S4x2048x1x16_S4x2048x33x16_0_1_2_3
            (broadcastInDim S4x2048x1x16 ![0, 1, 3] bcast_S4x2048x16_S4x2048x1x16_0_1_3 x))⟩]
        concatenates_S4x2048x33x16_S4x2048x33x16_S4x2048x33x32_d3 : FVec Ideal S4x2048x33x32 .f32) (ix4 b n k (Fin.natAdd 16 c))
        = y (ix4 b n k c) - x (ix3 b n c) := by
  constructor
  · pointwise
    exact dif_pos c.isLt
  · have e : ∀ p, (⟨(Fin.natAdd 16 c).val - 16, p⟩ : Fin 16) = c := fun p => Fin.ext (Nat.add_sub_cancel_left ..)
    pointwise
    refine (dif_neg (show ¬ 16 + c.val < 16 by omega)).trans ?_
    simp only [e]

/-- The edges' matrix product. -/
theorem dot_key (y : FVec Ideal S4x2048x33x32 .f32) (w : FVec Ideal S32x48 .f32) (b : Fin 4) (n : Fin 2048) (k : Fin 33) (o : Fin 48) :
    (Host.dotGeneral dot_S4x2048x33x32_S32x48_S4x2048x33x48_3_0_012_1_n_n none y w : FVec Ideal S4x2048x33x48 .f32) (ix4 b n k o)
      = ∑ c : Fin 32, y (ix4 b n k c) * w (ix2 c o) := by
  pointwise

/-- The bias and the rectifier. -/
theorem msg_key (y : FVec Ideal S4x2048x33x48 .f32) (x : FVec Ideal S48 .f32) (b : Fin 4) (n : Fin 2048) (k : Fin 33) (o : Fin 48) :
    (select
        (cmpf .oge (addf y (broadcastInDim S4x2048x33x48 ![0, 1, 2, 3] bcast_S1x1x1x48_S4x2048x33x48_0_1_2_3
            (broadcastInDim S1x1x1x48 ![3] bcast_S48_S1x1x1x48_3 x)))
          (broadcastInDim S4x2048x33x48 ![] bcast_S_S4x2048x33x48 (constant S_ .f32 0x00000000#32)))
        (addf y (broadcastInDim S4x2048x33x48 ![0, 1, 2, 3] bcast_S1x1x1x48_S4x2048x33x48_0_1_2_3
            (broadcastInDim S1x1x1x48 ![3] bcast_S48_S1x1x1x48_3 x)))
        (mulf (broadcastInDim S4x2048x33x48 ![] bcast_S_S4x2048x33x48 (id (constant S_ .f32 0x3E4CCCCD#32)))
          (addf y (broadcastInDim S4x2048x33x48 ![0, 1, 2, 3] bcast_S1x1x1x48_S4x2048x33x48_0_1_2_3
            (broadcastInDim S1x1x1x48 ![3] bcast_S48_S1x1x1x48_3 x)))) : FVec Ideal S4x2048x33x48 .f32) (ix4 b n k o)
      = leaky (y (ix4 b n k o) + x (ix1 o)) := by
  pointwise
  rfl

section Stage
variable (hd : ∀ b n m, sqDist (X1r x0 x1 x2 b) n m ≠ ⊤)
include hd

/-- The look-up's coordinates. -/
theorem look1_at (b : Fin 4) (n : Fin 2048) (k : Fin 33) :
    val_main_v74 (F := Ideal) x0 x1 x2 (ix4 b n k 0) = BitVec.ofNat 32 b.val
      ∧ val_main_v74 (F := Ideal) x0 x1 x2 (ix4 b n k 1) = BitVec.ofNat 32 (nbr (X1r x0 x1 x2 b) n k.val).val := by
  have h1 := nb1_at x0 x1 x2 hd b n k
  have h0 := cloud1_at b n k
  unfold val_main_v74 val_main_v72 val_main_v73 val_main_v70 val_main_v69 val_main_v68 val_main_v67 val_main_v66 val_main_c_13 val_main_c_14
  generalize val_main_v71 (F := Ideal) = y0 at h0 ⊢
  generalize val_main_indices_10 (F := Ideal) x0 x1 x2 = y1 at h1 ⊢
  constructor
  · pointwise [h0, h1]
  · pointwise [h0, h1]
    exact wrap_small _ (lt_trans (nbr (X1r x0 x1 x2 b) n k.val).isLt (by norm_num)) _

/-- The neighbours' rows. -/
theorem rows1_at (b : Fin 4) (n : Fin 2048) (k : Fin 33) (c : Fin 16) :
    val_main_v75 (F := Ideal) x0 x1 x2 (ix4 b n k c) = X1r x0 x1 x2 b (nbr (X1r x0 x1 x2 b) n k.val) c := by
  have h := look1_at x0 x1 x2 hd b n k
  unfold X1r at h ⊢
  unfold val_main_v75
  generalize val_main_v45 (F := Ideal) x0 x1 x2 = x at h ⊢
  generalize val_main_v74 (F := Ideal) x0 x1 x2 = y at h ⊢
  exact rows_at (by norm_num) (by norm_num) _ _ _ b n k c b _ h.1 h.2

/-- The edge's features: the point, then the difference to its neighbour. -/
theorem pair1_at (b : Fin 4) (n : Fin 2048) (k : Fin 33) (c : Fin 16) :
    val_main_v79 (F := Ideal) x0 x1 x2 (ix4 b n k (Fin.castAdd 16 c)) = X1r x0 x1 x2 b n c
      ∧ val_main_v79 (F := Ideal) x0 x1 x2 (ix4 b n k (Fin.natAdd 16 c)) = X1r x0 x1 x2 b (nbr (X1r x0 x1 x2 b) n k.val) c - X1r x0 x1 x2 b n c := by
  rw [← rows1_at x0 x1 x2 hd b n k c]
  unfold val_main_v79 val_main_v78 val_main_v77 val_main_v76
  exact pair_key (val_main_v75 (F := Ideal) x0 x1 x2) (val_main_v45 (F := Ideal) x0 x1 x2) b n k c

/-- The edge's message. -/
theorem msg1_at (b : Fin 4) (n : Fin 2048) (k : Fin 33) (o : Fin 48) :
    val_main_v84 (F := Ideal) x0 x1 x2 x3 x4 (ix4 b n k o)
      = edge (fun c o => x3 (ix2 (Fin.castAdd 16 c) o)) (fun c o => x3 (ix2 (Fin.natAdd 16 c) o)) (fun o => x4 (ix1 o))
          (X1r x0 x1 x2 b n) (X1r x0 x1 x2 b (nbr (X1r x0 x1 x2 b) n k.val)) o := by
  have hp := pair1_at x0 x1 x2 hd b n k
  have h34 : val_main_v80 (F := Ideal) x0 x1 x2 x3 (ix4 b n k o) = ∑ c : Fin (16 + 16), val_main_v79 (F := Ideal) x0 x1 x2 (ix4 b n k c) * x3 (ix2 c o) := by
    unfold val_main_v80
    exact dot_key (val_main_v79 (F := Ideal) x0 x1 x2) x3 b n k o
  rw [Fin.sum_univ_add] at h34
  simp only [fun c => (hp c).1, fun c => (hp c).2] at h34
  unfold edge
  rw [← h34]
  unfold val_main_v84 val_main_call2_v1 val_main_call2_v4 val_main_call2_v3 val_main_call2_v2 val_main_call2_v0 val_main_call2_cst
    val_main_v83 val_main_v82 val_main_v81 val_main_cst_15
  exact msg_key (val_main_v80 (F := Ideal) x0 x1 x2 x3) x4 b n k o

/-- The second edge convolution. -/
theorem x2_at (b : Fin 4) (n : Fin 2048) (o : Fin 48) :
    val_main_v91 (F := Ideal) x0 x1 x2 x3 x4 (ix3 b n o)
      = edgeConv (fun c o => x3 (ix2 (Fin.castAdd 16 c) o)) (fun c o => x3 (ix2 (Fin.natAdd 16 c) o)) (fun o => x4 (ix1 o)) (X1r x0 x1 x2 b) n o := by
  have hm := fun k => msg1_at x0 x1 x2 x3 x4 hd b n k o
  have hn := fun k => nb1_at x0 x1 x2 hd b n k
  refine (max2_at _ _ (by decide) _ b n o).trans ?_
  unfold edgeConv
  refine congrArg (Finset.univ.sup) (funext fun k => ?_)
  unfold val_main_v90 val_main_call3_v1 val_main_call3_v2 val_main_call3_v0 val_main_v89 val_main_v88 val_main_v87 val_main_v86
    val_main_v85 val_main_cst_16
  generalize val_main_v84 (F := Ideal) x0 x1 x2 x3 x4 = y at hm ⊢
  generalize val_main_indices_10 (F := Ideal) x0 x1 x2 = y1 at hn ⊢
  pointwise [hm, hn]
  refine (mask_small _ _ _ _).trans ?_
  exact congrArg (ite _ _) bits_bot

end Stage

end Cert.ReferenceIdeal.Val

end
-- ==== Proof.Ref3.lean ====
/-
  The reference's scoring features, their statistics and the scores, at an index.
-/
module

public import proofs.«01_k».proof.Proof.RefKeys3
public import proofs.«01_k».proof.Proof.RefKeys4
public import proofs.«01_k».proof.Proof.Ref2
public import proofs.«01_k».proof.Proof.Spec2

@[expose] public section

set_option maxRecDepth 16384

noncomputable section

namespace Cert.ReferenceIdeal.Val

open Idealize.ShloMosaic Cert.ReferenceIdeal Cert.ReferenceIdeal.Gen Cert.ReferenceIdeal.Read Cert.Spec

variable (x0 : (⟨S4x2048x3, .f32⟩ : BufTy).Contents (Elt Ideal))
  (x1 : (⟨S6x16, .f32⟩ : BufTy).Contents (Elt Ideal))
  (x2 : (⟨S16, .f32⟩ : BufTy).Contents (Elt Ideal))
  (x3 : (⟨S32x48, .f32⟩ : BufTy).Contents (Elt Ideal))
  (x4 : (⟨S48, .f32⟩ : BufTy).Contents (Elt Ideal))
  (x5 : (⟨S1x64, .f32⟩ : BufTy).Contents (Elt Ideal))
  (x6 : (⟨S64, .f32⟩ : BufTy).Contents (Elt Ideal))
  (x7 : (⟨S48x64, .f32⟩ : BufTy).Contents (Elt Ideal))
  (x8 : (⟨S64, .f32⟩ : BufTy).Contents (Elt Ideal))
  (x9 : (⟨S128x128, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))

/-- The points' features after the second edge convolution. -/
def X2r (b : Fin 4) (n : Fin 2048) (f : Fin 48) : EReal := val_main_v91 (F := Ideal) x0 x1 x2 x3 x4 (ix3 b n f)

/-- The nearest points in the input cloud. -/
def NBr (b : Fin 4) (n : Fin 2048) (k : Fin 33) : Fin 2048 := nbr (X0 x0 b) n k.val

/-- The scoring features. -/
def Hr (b : Fin 4) (n : Fin 2048) (k : Fin 33) (c : Fin 128) : EReal :=
  hRow (fun f j => x7 (ix2 f j)) (fun j => x8 (ix1 j)) (fun j => x5 (ix2 0 j)) (fun j => x6 (ix1 j)) (fun o j => x9 (ix2 o j))
    (fun o => x10 (ix1 o)) (fun f => X2r x0 x1 x2 x3 x4 b (NBr x0 b n k) f) (sqDist (X0 x0 b) n (NBr x0 b n k)) c

/-- The count of the scoring stage's normalisation. -/
def cntH : EReal := Ideal.ofBits .f32 0x48840000#32

/-- The scoring features' mean. -/
def muH (c : Fin 128) : EReal := mean cntH fun p : Fin 4 × Fin 2048 × Fin 33 => Hr x0 x1 x2 x3 x4 x5 x6 x7 x8 x9 x10 p.1 p.2.1 p.2.2 c

/-- The scoring features' variance. -/
def varH (c : Fin 128) : EReal := variance cntH fun p : Fin 4 × Fin 2048 × Fin 33 => Hr x0 x1 x2 x3 x4 x5 x6 x7 x8 x9 x10 p.1 p.2.1 p.2.2 c

/-- A neighbour's score. -/
def Sr (b : Fin 4) (n : Fin 2048) (k : Fin 33) : EReal :=
  score (muH x0 x1 x2 x3 x4 x5 x6 x7 x8 x9 x10) (varH x0 x1 x2 x3 x4 x5 x6 x7 x8 x9 x10) (fun c => x11 (ix1 c)) (fun c => x12 (ix1 c)) (Hr x0 x1 x2 x3 x4 x5 x6 x7 x8 x9 x10 b n k)

variable
  (hd0 : ∀ b n m, sqDist (X0 x0 b) n m ≠ ⊤)

include hd0

/-- The coordinates the neighbours' rows are read at. -/
theorem lookh_at (b : Fin 4) (n : Fin 2048) (k : Fin 33) :
    val_main_v109 (F := Ideal) x0 (ix4 b n k 0) = BitVec.ofNat 32 b.val ∧ val_main_v109 (F := Ideal) x0 (ix4 b n k 1) = BitVec.ofNat 32 (NBr x0 b n k).val := by
  have h1 := (nb0_at x0 hd0 b n k).2
  unfold val_main_v109 val_main_v107 val_main_v106 val_main_v100 val_main_v97 val_main_v93 val_main_v92 val_main_v96 val_main_c_18 val_main_v99 val_main_v98 val_main_c_19 val_main_v108 val_main_v105 val_main_v102 val_main_v101 val_main_c_20 val_main_v104 val_main_v103 val_main_c_21
  exact lookh_key (val_main_indices (F := Ideal) x0)  b n k (NBr x0 b n k) h1

/-- The neighbours' rows. -/
theorem rowsh_at (b : Fin 4) (n : Fin 2048) (k : Fin 33) (f : Fin 48) :
    val_main_v110 (F := Ideal) x0 x1 x2 x3 x4 (ix4 b n k f) = X2r x0 x1 x2 x3 x4 b (NBr x0 b n k) f := by
  have h := lookh_at x0 hd0 b n k
  unfold X2r
  unfold val_main_v110
  generalize val_main_v91 (F := Ideal) x0 x1 x2 x3 x4 = x at h ⊢
  generalize val_main_v109 (F := Ideal) x0 = y at h ⊢
  exact rows_at (by norm_num) (by norm_num) _ _ _ b n k f b _ h.1 h.2

/-- The scoring features. -/
theorem h_at (b : Fin 4) (n : Fin 2048) (k : Fin 33) (c : Fin 128) :
    val_main_v127 (F := Ideal) x0 x1 x2 x3 x4 x5 x6 x7 x8 x9 x10 (ix4 b n k c) = Hr x0 x1 x2 x3 x4 x5 x6 x7 x8 x9 x10 b n k c := by
  have e2 : ∀ j : Fin 64, val_main_v114 (F := Ideal) x0 x1 x2 x3 x4 x7 x8 (ix4 b n k j)
      = ∑ f : Fin 48, X2r x0 x1 x2 x3 x4 b (NBr x0 b n k) f * x7 (ix2 f j) + x8 (ix1 j) := by
    intro j
    unfold val_main_v114 val_main_v111 val_main_v113 val_main_v112
    refine (lin2_key (val_main_v110 (F := Ideal) x0 x1 x2 x3 x4) x7 x8 b n k j).trans ?_
    simp only [rowsh_at x0 x1 x2 x3 x4 hd0]
  have e1 : ∀ j : Fin 64, val_main_v121 (F := Ideal) x0 x5 x6 (ix4 b n k j)
      = Ideal.exp (-(sqDist (X0 x0 b) n (NBr x0 b n k))) * x5 (ix2 0 j) + x6 (ix1 j) := by
    intro j
    unfold val_main_v121 val_main_v118 val_main_v117 val_main_v116 val_main_v115 val_main_v12 val_main_v120 val_main_v119
    refine (lin1_key (val_main_values (F := Ideal) x0) x5 x6 b n k j).trans ?_
    rw [(nb0_at x0 hd0 b n k).1, neg_neg]
    rfl
  have ec : ∀ j : Fin 64, val_main_v122 (F := Ideal) x0 x1 x2 x3 x4 x5 x6 x7 x8 (ix4 b n k (Fin.castAdd 64 j)) = val_main_v114 (F := Ideal) x0 x1 x2 x3 x4 x7 x8 (ix4 b n k j)
      ∧ val_main_v122 (F := Ideal) x0 x1 x2 x3 x4 x5 x6 x7 x8 (ix4 b n k (Fin.natAdd 64 j)) = val_main_v121 (F := Ideal) x0 x5 x6 (ix4 b n k j) := by
    intro j
    unfold val_main_v122
    exact cat_key (val_main_v114 (F := Ideal) x0 x1 x2 x3 x4 x7 x8) (val_main_v121 (F := Ideal) x0 x5 x6)  b n k j
  unfold val_main_v127 val_main_v124 val_main_v123 val_main_v126 val_main_v125
  refine (conv_key (val_main_v122 (F := Ideal) x0 x1 x2 x3 x4 x5 x6 x7 x8) x9 x10 b n k c).trans ?_
  rw [show (∑ j : Fin 128, val_main_v122 (F := Ideal) x0 x1 x2 x3 x4 x5 x6 x7 x8 (ix4 b n k j) * x9 (ix2 c j)) = _ from Fin.sum_univ_add (M := EReal) (a := 64) (b := 64) _]
  simp only [ec, e1, e2]
  rfl

/-- The scoring features' mean. -/
theorem muh_at (c : Fin 128) :
    val_main_v131 (F := Ideal) x0 x1 x2 x3 x4 x5 x6 x7 x8 x9 x10 (ix4 0 0 0 c) = muH x0 x1 x2 x3 x4 x5 x6 x7 x8 x9 x10 c := by
  unfold val_main_v131 val_main_v129 val_main_v130 val_main_cst_23
  refine (mean3_key (val_main_v128 (F := Ideal) x0 x1 x2 x3 x4 x5 x6 x7 x8 x9 x10)  c).trans ?_
  unfold val_main_v128 val_main_cst_22
  refine congrArg (fun s => Ideal.div s _) ?_
  refine (sum012_at _ _ _ c).trans ?_
  simp only [h_at x0 x1 x2 x3 x4 x5 x6 x7 x8 x9 x10 hd0]

/-- The scoring features' squared deviations. -/
theorem devh_at (b : Fin 4) (n : Fin 2048) (k : Fin 33) (c : Fin 128) :
    val_main_v134 (F := Ideal) x0 x1 x2 x3 x4 x5 x6 x7 x8 x9 x10 (ix4 b n k c) = (Hr x0 x1 x2 x3 x4 x5 x6 x7 x8 x9 x10 b n k c - muH x0 x1 x2 x3 x4 x5 x6 x7 x8 x9 x10 c) * (Hr x0 x1 x2 x3 x4 x5 x6 x7 x8 x9 x10 b n k c - muH x0 x1 x2 x3 x4 x5 x6 x7 x8 x9 x10 c) := by
  unfold val_main_v134 val_main_v133 val_main_v132
  refine (dev3_key (val_main_v127 (F := Ideal) x0 x1 x2 x3 x4 x5 x6 x7 x8 x9 x10) (val_main_v131 (F := Ideal) x0 x1 x2 x3 x4 x5 x6 x7 x8 x9 x10)  b n k c).trans ?_
  rw [h_at x0 x1 x2 x3 x4 x5 x6 x7 x8 x9 x10 hd0, muh_at x0 x1 x2 x3 x4 x5 x6 x7 x8 x9 x10 hd0]

/-- The scoring features' variance. -/
theorem varh_at (c : Fin 128) :
    val_main_v138 (F := Ideal) x0 x1 x2 x3 x4 x5 x6 x7 x8 x9 x10 (ix4 0 0 0 c) = varH x0 x1 x2 x3 x4 x5 x6 x7 x8 x9 x10 c := by
  unfold val_main_v138 val_main_v136 val_main_v137 val_main_cst_25
  refine (var3_key (val_main_v135 (F := Ideal) x0 x1 x2 x3 x4 x5 x6 x7 x8 x9 x10)  c).trans ?_
  unfold val_main_v135 val_main_cst_24
  refine congrArg (fun s => Ideal.div s _) ?_
  refine (sum012_at _ _ _ c).trans ?_
  simp only [devh_at x0 x1 x2 x3 x4 x5 x6 x7 x8 x9 x10 hd0]
  rfl

/-- The normalised scoring features. -/
theorem bnh_at (b : Fin 4) (n : Fin 2048) (k : Fin 33) (c : Fin 128) :
    val_main_v152 (F := Ideal) x0 x1 x2 x3 x4 x5 x6 x7 x8 x9 x10 x11 x12 (ix4 b n k c)
      = bnorm (muH x0 x1 x2 x3 x4 x5 x6 x7 x8 x9 x10 c) (varH x0 x1 x2 x3 x4 x5 x6 x7 x8 x9 x10 c) (x11 (ix1 c)) (x12 (ix1 c)) (Hr x0 x1 x2 x3 x4 x5 x6 x7 x8 x9 x10 b n k c) := by
  unfold val_main_v152 val_main_call4_v1 val_main_v151 val_main_v148 val_main_v145 val_main_v140 val_main_v139 val_main_v144 val_main_v143 val_main_v142 val_main_v141 val_main_cst_26 val_main_v147 val_main_v146 val_main_v150 val_main_v149 val_main_call4_v0 val_main_call4_cst val_main_call4_v4 val_main_call4_v3 val_main_call4_v2 val_main_cst_27
  refine (bn3_key (val_main_v127 (F := Ideal) x0 x1 x2 x3 x4 x5 x6 x7 x8 x9 x10) (val_main_v131 (F := Ideal) x0 x1 x2 x3 x4 x5 x6 x7 x8 x9 x10) (val_main_v138 (F := Ideal) x0 x1 x2 x3 x4 x5 x6 x7 x8 x9 x10) x11 x12 b n k c).trans ?_
  rw [h_at x0 x1 x2 x3 x4 x5 x6 x7 x8 x9 x10 hd0, muh_at x0 x1 x2 x3 x4 x5 x6 x7 x8 x9 x10 hd0, varh_at x0 x1 x2 x3 x4 x5 x6 x7 x8 x9 x10 hd0]

/-- A neighbour's score. -/
theorem score_at (b : Fin 4) (n : Fin 2048) (k : Fin 33) :
    val_main_v153 (F := Ideal) x0 x1 x2 x3 x4 x5 x6 x7 x8 x9 x10 x11 x12 (ix3 b n k) = Sr x0 x1 x2 x3 x4 x5 x6 x7 x8 x9 x10 x11 x12 b n k := by
  unfold val_main_v153 val_main_cst_28
  refine (max3_at _ _ (by decide) _ b n k).trans ?_
  simp only [bnh_at x0 x1 x2 x3 x4 x5 x6 x7 x8 x9 x10 x11 x12 hd0]
  rfl

/-- A negated score. -/
theorem negs_at (b : Fin 4) (n : Fin 2048) (k : Fin 33) :
    val_main_v154 (F := Ideal) x0 x1 x2 x3 x4 x5 x6 x7 x8 x9 x10 x11 x12 (ix3 b n k) = -(Sr x0 x1 x2 x3 x4 x5 x6 x7 x8 x9 x10 x11 x12 b n k) := by
  unfold val_main_v154
  exact (neg_key (val_main_v153 (F := Ideal) x0 x1 x2 x3 x4 x5 x6 x7 x8 x9 x10 x11 x12) _).trans (congrArg Neg.neg (score_at x0 x1 x2 x3 x4 x5 x6 x7 x8 x9 x10 x11 x12 hd0 b n k))

/-- The places of the ten best scores. -/
theorem best_at (hs : ∀ b n k, Sr x0 x1 x2 x3 x4 x5 x6 x7 x8 x9 x10 x11 x12 b n k ≠ ⊥) (b : Fin 4) (n : Fin 2048) (t : Fin 10) :
    val_main_v156 (F := Ideal) x0 x1 x2 x3 x4 x5 x6 x7 x8 x9 x10 x11 x12 (ix3 b n t) = BitVec.ofNat 32 (best (Sr x0 x1 x2 x3 x4 x5 x6 x7 x8 x9 x10 x11 x12 b n) t.val).val := by
  have h := negs_at x0 x1 x2 x3 x4 x5 x6 x7 x8 x9 x10 x11 x12 hd0 b n
  unfold val_main_v156 val_main_v155 val_main_call5_v0
  exact best_key (val_main_v154 (F := Ideal) x0 x1 x2 x3 x4 x5 x6 x7 x8 x9 x10 x11 x12)  b n t _ h (hs b n)

end Cert.ReferenceIdeal.Val

end
-- ==== Proof.Ref4.lean ====
/-
  The reference's ten best neighbours and its perceptron, at an index.
-/
module

public import proofs.«01_k».proof.Proof.Ref3

@[expose] public section

set_option maxRecDepth 16384

noncomputable section

namespace Cert.ReferenceIdeal.Val

open Idealize.ShloMosaic Cert.ReferenceIdeal Cert.ReferenceIdeal.Gen Cert.ReferenceIdeal.Read Cert.Spec

variable (x0 : (⟨S4x2048x3, .f32⟩ : BufTy).Contents (Elt Ideal))
  (x1 : (⟨S6x16, .f32⟩ : BufTy).Contents (Elt Ideal))
  (x2 : (⟨S16, .f32⟩ : BufTy).Contents (Elt Ideal))
  (x3 : (⟨S32x48, .f32⟩ : BufTy).Contents (Elt Ideal))
  (x4 : (⟨S48, .f32⟩ : BufTy).Contents (Elt Ideal))
  (x5 : (⟨S1x64, .f32⟩ : BufTy).Contents (Elt Ideal))
  (x6 : (⟨S64, .f32⟩ : BufTy).Contents (Elt Ideal))
  (x7 : (⟨S48x64, .f32⟩ : BufTy).Contents (Elt Ideal))
  (x8 : (⟨S64, .f32⟩ : BufTy).Contents (Elt Ideal))
  (x9 : (⟨S128x128, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))
  (x13 : (⟨S480x512, .f32⟩ : BufTy).Contents (Elt Ideal))
  (x14 : (⟨S512, .f32⟩ : BufTy).Contents (Elt Ideal))
  (x15 : (⟨S512, .f32⟩ : BufTy).Contents (Elt Ideal))
  (x16 : (⟨S512, .f32⟩ : BufTy).Contents (Elt Ideal))
  (x17 : (⟨S512x512, .f32⟩ : BufTy).Contents (Elt Ideal))
  (x18 : (⟨S512, .f32⟩ : BufTy).Contents (Elt Ideal))
  (x19 : (⟨S512, .f32⟩ : BufTy).Contents (Elt Ideal))
  (x20 : (⟨S512, .f32⟩ : BufTy).Contents (Elt Ideal))

/-- The perceptron's first layer. -/
def Z1r (b : Fin 4) (n : Fin 2048) (o : Fin 512) : EReal :=
  zRow (fun t f o => x13 (ix2 (blkRow t f) o)) (fun o => x14 (ix1 o))
    (fun t f => X2r x0 x1 x2 x3 x4 b (NBr x0 b n (best (Sr x0 x1 x2 x3 x4 x5 x6 x7 x8 x9 x10 x11 x12 b n) t.val)) f) o

/-- The count of the perceptron's normalisations. -/
def cntZ : EReal := Ideal.ofBits .f32 0x46000000#32

/-- The first layer's mean. -/
def muZ1 (o : Fin 512) : EReal := mean cntZ fun p : Fin 4 × Fin 2048 => Z1r x0 x1 x2 x3 x4 x5 x6 x7 x8 x9 x10 x11 x12 x13 x14 p.1 p.2 o

/-- The first layer's variance. -/
def varZ1 (o : Fin 512) : EReal := variance cntZ fun p : Fin 4 × Fin 2048 => Z1r x0 x1 x2 x3 x4 x5 x6 x7 x8 x9 x10 x11 x12 x13 x14 p.1 p.2 o

/-- The perceptron's second layer. -/
def Z2r (b : Fin 4) (n : Fin 2048) (o : Fin 512) : EReal :=
  layer (fun j o => x17 (ix2 j o)) (fun o => x18 (ix1 o))
    (fun j => bnorm (muZ1 x0 x1 x2 x3 x4 x5 x6 x7 x8 x9 x10 x11 x12 x13 x14 j) (varZ1 x0 x1 x2 x3 x4 x5 x6 x7 x8 x9 x10 x11 x12 x13 x14 j) (x15 (ix1 j)) (x16 (ix1 j)) (Z1r x0 x1 x2 x3 x4 x5 x6 x7 x8 x9 x10 x11 x12 x13 x14 b n j)) o

/-- The second layer's mean. -/
def muZ2 (o : Fin 512) : EReal := mean cntZ fun p : Fin 4 × Fin 2048 => Z2r x0 x1 x2 x3 x4 x5 x6 x7 x8 x9 x10 x11 x12 x13 x14 x15 x16 x17 x18 p.1 p.2 o

/-- The second layer's variance. -/
def varZ2 (o : Fin 512) : EReal := variance cntZ fun p : Fin 4 × Fin 2048 => Z2r x0 x1 x2 x3 x4 x5 x6 x7 x8 x9 x10 x11 x12 x13 x14 x15 x16 x17 x18 p.1 p.2 o

variable (hd0 : ∀ b n m, sqDist (X0 x0 b) n m ≠ ⊤) (hs : ∀ b n k, Sr x0 x1 x2 x3 x4 x5 x6 x7 x8 x9 x10 x11 x12 b n k ≠ ⊥)

include hd0 hs

/-- The chosen neighbours. -/
theorem chosen_at (b : Fin 4) (n : Fin 2048) (t : Fin 10) :
    val_main_v178 (F := Ideal) x0 x1 x2 x3 x4 x5 x6 x7 x8 x9 x10 x11 x12 (ix3 b n t) = BitVec.ofNat 32 (NBr x0 b n (best (Sr x0 x1 x2 x3 x4 x5 x6 x7 x8 x9 x10 x11 x12 b n) t.val)).val := by
  have hb := best_at x0 x1 x2 x3 x4 x5 x6 x7 x8 x9 x10 x11 x12 hd0 hs b n t
  have h : val_main_v177 (F := Ideal) x0 x1 x2 x3 x4 x5 x6 x7 x8 x9 x10 x11 x12 (ix4 b n t 0) = BitVec.ofNat 32 b.val ∧ val_main_v177 (F := Ideal) x0 x1 x2 x3 x4 x5 x6 x7 x8 x9 x10 x11 x12 (ix4 b n t 1) = BitVec.ofNat 32 n.val
      ∧ val_main_v177 (F := Ideal) x0 x1 x2 x3 x4 x5 x6 x7 x8 x9 x10 x11 x12 (ix4 b n t 2) = BitVec.ofNat 32 (best (Sr x0 x1 x2 x3 x4 x5 x6 x7 x8 x9 x10 x11 x12 b n) t.val).val := by
    unfold val_main_v177 val_main_v174 val_main_v172 val_main_v161 val_main_v158 val_main_v93 val_main_v92 val_main_v157 val_main_c_29 val_main_v160 val_main_v159 val_main_c_30 val_main_v175 val_main_v173 val_main_v166 val_main_v163 val_main_v95 val_main_v94 val_main_v162 val_main_c_31 val_main_v165 val_main_v164 val_main_c_32 val_main_v176 val_main_v171 val_main_v168 val_main_v167 val_main_c_33 val_main_v170 val_main_v169 val_main_c_34
    exact lookc_key (val_main_v156 (F := Ideal) x0 x1 x2 x3 x4 x5 x6 x7 x8 x9 x10 x11 x12)  b n t _ hb
  refine Eq.trans ?_ (nb0_at x0 hd0 b n (best (Sr x0 x1 x2 x3 x4 x5 x6 x7 x8 x9 x10 x11 x12 b n) t.val)).2
  unfold val_main_v178
  generalize val_main_v177 (F := Ideal) x0 x1 x2 x3 x4 x5 x6 x7 x8 x9 x10 x11 x12 = y at h ⊢
  exact cells_at (by norm_num) (by norm_num) (by norm_num) _ _ _ b n t b n _ h.1 h.2.1 h.2.2

/-- The chosen neighbours' rows. -/
theorem rowsc_at (b : Fin 4) (n : Fin 2048) (t : Fin 10) (f : Fin 48) :
    val_main_v193 (F := Ideal) x0 x1 x2 x3 x4 x5 x6 x7 x8 x9 x10 x11 x12 (ix4 b n t f) = X2r x0 x1 x2 x3 x4 b (NBr x0 b n (best (Sr x0 x1 x2 x3 x4 x5 x6 x7 x8 x9 x10 x11 x12 b n) t.val)) f := by
  have hb := chosen_at x0 x1 x2 x3 x4 x5 x6 x7 x8 x9 x10 x11 x12 hd0 hs b n t
  have h : val_main_v192 (F := Ideal) x0 x1 x2 x3 x4 x5 x6 x7 x8 x9 x10 x11 x12 (ix4 b n t 0) = BitVec.ofNat 32 b.val ∧ val_main_v192 (F := Ideal) x0 x1 x2 x3 x4 x5 x6 x7 x8 x9 x10 x11 x12 (ix4 b n t 1) = BitVec.ofNat 32 (NBr x0 b n (best (Sr x0 x1 x2 x3 x4 x5 x6 x7 x8 x9 x10 x11 x12 b n) t.val)).val := by
    unfold val_main_v192 val_main_v190 val_main_v189 val_main_v183 val_main_v180 val_main_v93 val_main_v92 val_main_v179 val_main_c_35 val_main_v182 val_main_v181 val_main_c_36 val_main_v191 val_main_v188 val_main_v185 val_main_v184 val_main_c_37 val_main_v187 val_main_v186 val_main_c_38
    exact lookr_key (val_main_v178 (F := Ideal) x0 x1 x2 x3 x4 x5 x6 x7 x8 x9 x10 x11 x12)  b n t _ hb
  unfold X2r
  unfold val_main_v193
  generalize val_main_v91 (F := Ideal) x0 x1 x2 x3 x4 = x at h ⊢
  generalize val_main_v192 (F := Ideal) x0 x1 x2 x3 x4 x5 x6 x7 x8 x9 x10 x11 x12 = y at h ⊢
  exact rows_at (by norm_num) (by norm_num) _ _ _ b n t f b _ h.1 h.2

/-- The first layer. -/
theorem z1_at (b : Fin 4) (n : Fin 2048) (o : Fin 512) :
    val_main_v198 (F := Ideal) x0 x1 x2 x3 x4 x5 x6 x7 x8 x9 x10 x11 x12 x13 x14 (ix3 b n o) = Z1r x0 x1 x2 x3 x4 x5 x6 x7 x8 x9 x10 x11 x12 x13 x14 b n o := by
  unfold val_main_v198 val_main_v195 val_main_v194 val_main_v197 val_main_v196
  refine (z1_key (val_main_v193 (F := Ideal) x0 x1 x2 x3 x4 x5 x6 x7 x8 x9 x10 x11 x12) x13 x14 b n o).trans ?_
  simp only [rowsc_at x0 x1 x2 x3 x4 x5 x6 x7 x8 x9 x10 x11 x12 hd0 hs]
  rfl

/-- The first layer's mean. -/
theorem muz1_at (o : Fin 512) :
    val_main_v202 (F := Ideal) x0 x1 x2 x3 x4 x5 x6 x7 x8 x9 x10 x11 x12 x13 x14 (ix3 0 0 o) = muZ1 x0 x1 x2 x3 x4 x5 x6 x7 x8 x9 x10 x11 x12 x13 x14 o := by
  unfold val_main_v202 val_main_v200 val_main_v201 val_main_cst_40
  refine (mean2_key (val_main_v199 (F := Ideal) x0 x1 x2 x3 x4 x5 x6 x7 x8 x9 x10 x11 x12 x13 x14)  o).trans ?_
  unfold val_main_v199 val_main_cst_39
  refine congrArg (fun s => Ideal.div s _) ?_
  refine (sum01_at _ _ _ o).trans ?_
  simp only [z1_at x0 x1 x2 x3 x4 x5 x6 x7 x8 x9 x10 x11 x12 x13 x14 hd0 hs]

/-- The first layer's squared deviations. -/
theorem devz1_at (b : Fin 4) (n : Fin 2048) (o : Fin 512) :
    val_main_v205 (F := Ideal) x0 x1 x2 x3 x4 x5 x6 x7 x8 x9 x10 x11 x12 x13 x14 (ix3 b n o) = (Z1r x0 x1 x2 x3 x4 x5 x6 x7 x8 x9 x10 x11 x12 x13 x14 b n o - muZ1 x0 x1 x2 x3 x4 x5 x6 x7 x8 x9 x10 x11 x12 x13 x14 o) * (Z1r x0 x1 x2 x3 x4 x5 x6 x7 x8 x9 x10 x11 x12 x13 x14 b n o - muZ1 x0 x1 x2 x3 x4 x5 x6 x7 x8 x9 x10 x11 x12 x13 x14 o) := by
  unfold val_main_v205 val_main_v204 val_main_v203
  refine (dev2_key (val_main_v198 (F := Ideal) x0 x1 x2 x3 x4 x5 x6 x7 x8 x9 x10 x11 x12 x13 x14) (val_main_v202 (F := Ideal) x0 x1 x2 x3 x4 x5 x6 x7 x8 x9 x10 x11 x12 x13 x14)  b n o).trans ?_
  rw [z1_at x0 x1 x2 x3 x4 x5 x6 x7 x8 x9 x10 x11 x12 x13 x14 hd0 hs, muz1_at x0 x1 x2 x3 x4 x5 x6 x7 x8 x9 x10 x11 x12 x13 x14 hd0 hs]

/-- The first layer's variance. -/
theorem varz1_at (o : Fin 512) :
    val_main_v209 (F := Ideal) x0 x1 x2 x3 x4 x5 x6 x7 x8 x9 x10 x11 x12 x13 x14 (ix3 0 0 o) = varZ1 x0 x1 x2 x3 x4 x5 x6 x7 x8 x9 x10 x11 x12 x13 x14 o := by
  unfold val_main_v209 val_main_v207 val_main_v208 val_main_cst_42
  refine (var2_key (val_main_v206 (F := Ideal) x0 x1 x2 x3 x4 x5 x6 x7 x8 x9 x10 x11 x12 x13 x14)  o).trans ?_
  unfold val_main_v206 val_main_cst_41
  refine congrArg (fun s => Ideal.div s _) ?_
  refine (sum01_at _ _ _ o).trans ?_
  simp only [devz1_at x0 x1 x2 x3 x4 x5 x6 x7 x8 x9 x10 x11 x12 x13 x14 hd0 hs]
  rfl

/-- The first layer, normalised. -/
theorem bnz1_at (b : Fin 4) (n : Fin 2048) (o : Fin 512) :
    val_main_v223 (F := Ideal) x0 x1 x2 x3 x4 x5 x6 x7 x8 x9 x10 x11 x12 x13 x14 x15 x16 (ix3 b n o) = bnorm (muZ1 x0 x1 x2 x3 x4 x5 x6 x7 x8 x9 x10 x11 x12 x13 x14 o) (varZ1 x0 x1 x2 x3 x4 x5 x6 x7 x8 x9 x10 x11 x12 x13 x14 o) (x15 (ix1 o)) (x16 (ix1 o)) (Z1r x0 x1 x2 x3 x4 x5 x6 x7 x8 x9 x10 x11 x12 x13 x14 b n o) := by
  unfold val_main_v223 val_main_call6_v1 val_main_v222 val_main_v219 val_main_v216 val_main_v211 val_main_v210 val_main_v215 val_main_v214 val_main_v213 val_main_v212 val_main_cst_43 val_main_v218 val_main_v217 val_main_v221 val_main_v220 val_main_call6_v0 val_main_call6_cst val_main_call6_v4 val_main_call6_v3 val_main_call6_v2 val_main_cst_44
  refine (bn2_key (val_main_v198 (F := Ideal) x0 x1 x2 x3 x4 x5 x6 x7 x8 x9 x10 x11 x12 x13 x14) (val_main_v202 (F := Ideal) x0 x1 x2 x3 x4 x5 x6 x7 x8 x9 x10 x11 x12 x13 x14) (val_main_v209 (F := Ideal) x0 x1 x2 x3 x4 x5 x6 x7 x8 x9 x10 x11 x12 x13 x14) x15 x16 b n o).trans ?_
  rw [z1_at x0 x1 x2 x3 x4 x5 x6 x7 x8 x9 x10 x11 x12 x13 x14 hd0 hs, muz1_at x0 x1 x2 x3 x4 x5 x6 x7 x8 x9 x10 x11 x12 x13 x14 hd0 hs, varz1_at x0 x1 x2 x3 x4 x5 x6 x7 x8 x9 x10 x11 x12 x13 x14 hd0 hs]

/-- The second layer. -/
theorem z2_at (b : Fin 4) (n : Fin 2048) (o : Fin 512) :
    val_main_v227 (F := Ideal) x0 x1 x2 x3 x4 x5 x6 x7 x8 x9 x10 x11 x12 x13 x14 x15 x16 x17 x18 (ix3 b n o) = Z2r x0 x1 x2 x3 x4 x5 x6 x7 x8 x9 x10 x11 x12 x13 x14 x15 x16 x17 x18 b n o := by
  unfold val_main_v227 val_main_v224 val_main_v226 val_main_v225
  refine (z2_key (val_main_v223 (F := Ideal) x0 x1 x2 x3 x4 x5 x6 x7 x8 x9 x10 x11 x12 x13 x14 x15 x16) x17 x18 b n o).trans ?_
  simp only [bnz1_at x0 x1 x2 x3 x4 x5 x6 x7 x8 x9 x10 x11 x12 x13 x14 x15 x16 hd0 hs]
  rfl

/-- The second layer's mean. -/
theorem muz2_at (o : Fin 512) :
    val_main_v231 (F := Ideal) x0 x1 x2 x3 x4 x5 x6 x7 x8 x9 x10 x11 x12 x13 x14 x15 x16 x17 x18 (ix3 0 0 o) = muZ2 x0 x1 x2 x3 x4 x5 x6 x7 x8 x9 x10 x11 x12 x13 x14 x15 x16 x17 x18 o := by
  unfold val_main_v231 val_main_v229 val_main_v230 val_main_cst_46
  refine (mean2_key (val_main_v228 (F := Ideal) x0 x1 x2 x3 x4 x5 x6 x7 x8 x9 x10 x11 x12 x13 x14 x15 x16 x17 x18) o).trans ?_
  unfold val_main_v228 val_main_cst_45
  refine congrArg (fun s => Ideal.div s _) ?_
  refine (sum01_at _ _ _ o).trans ?_
  simp only [z2_at x0 x1 x2 x3 x4 x5 x6 x7 x8 x9 x10 x11 x12 x13 x14 x15 x16 x17 x18 hd0 hs]

/-- The second layer's squared deviations. -/
theorem devz2_at (b : Fin 4) (n : Fin 2048) (o : Fin 512) :
    val_main_v234 (F := Ideal) x0 x1 x2 x3 x4 x5 x6 x7 x8 x9 x10 x11 x12 x13 x14 x15 x16 x17 x18 (ix3 b n o) = (Z2r x0 x1 x2 x3 x4 x5 x6 x7 x8 x9 x10 x11 x12 x13 x14 x15 x16 x17 x18 b n o - muZ2 x0 x1 x2 x3 x4 x5 x6 x7 x8 x9 x10 x11 x12 x13 x14 x15 x16 x17 x18 o) * (Z2r x0 x1 x2 x3 x4 x5 x6 x7 x8 x9 x10 x11 x12 x13 x14 x15 x16 x17 x18 b n o - muZ2 x0 x1 x2 x3 x4 x5 x6 x7 x8 x9 x10 x11 x12 x13 x14 x15 x16 x17 x18 o) := by
  unfold val_main_v234 val_main_v233 val_main_v232
  refine (dev2_key (val_main_v227 (F := Ideal) x0 x1 x2 x3 x4 x5 x6 x7 x8 x9 x10 x11 x12 x13 x14 x15 x16 x17 x18) (val_main_v231 (F := Ideal) x0 x1 x2 x3 x4 x5 x6 x7 x8 x9 x10 x11 x12 x13 x14 x15 x16 x17 x18) b n o).trans ?_
  rw [z2_at x0 x1 x2 x3 x4 x5 x6 x7 x8 x9 x10 x11 x12 x13 x14 x15 x16 x17 x18 hd0 hs, muz2_at x0 x1 x2 x3 x4 x5 x6 x7 x8 x9 x10 x11 x12 x13 x14 x15 x16 x17 x18 hd0 hs]

/-- The second layer's variance. -/
theorem varz2_at (o : Fin 512) :
    val_main_v238 (F := Ideal) x0 x1 x2 x3 x4 x5 x6 x7 x8 x9 x10 x11 x12 x13 x14 x15 x16 x17 x18 (ix3 0 0 o) = varZ2 x0 x1 x2 x3 x4 x5 x6 x7 x8 x9 x10 x11 x12 x13 x14 x15 x16 x17 x18 o := by
  unfold val_main_v238 val_main_v236 val_main_v237 val_main_cst_48
  refine (var2_key (val_main_v235 (F := Ideal) x0 x1 x2 x3 x4 x5 x6 x7 x8 x9 x10 x11 x12 x13 x14 x15 x16 x17 x18) o).trans ?_
  unfold val_main_v235 val_main_cst_47
  refine congrArg (fun s => Ideal.div s _) ?_
  refine (sum01_at _ _ _ o).trans ?_
  simp only [devz2_at x0 x1 x2 x3 x4 x5 x6 x7 x8 x9 x10 x11 x12 x13 x14 x15 x16 x17 x18 hd0 hs]
  rfl

/-- The reference's result. -/
theorem out_at (b : Fin 4) (n : Fin 2048) (o : Fin 512) :
    val_main_v252 (F := Ideal) x0 x1 x2 x3 x4 x5 x6 x7 x8 x9 x10 x11 x12 x13 x14 x15 x16 x17 x18 x19 x20 (ix3 b n o) = bnorm (muZ2 x0 x1 x2 x3 x4 x5 x6 x7 x8 x9 x10 x11 x12 x13 x14 x15 x16 x17 x18 o) (varZ2 x0 x1 x2 x3 x4 x5 x6 x7 x8 x9 x10 x11 x12 x13 x14 x15 x16 x17 x18 o) (x19 (ix1 o)) (x20 (ix1 o)) (Z2r x0 x1 x2 x3 x4 x5 x6 x7 x8 x9 x10 x11 x12 x13 x14 x15 x16 x17 x18 b n o) := by
  unfold val_main_v252 val_main_call7_v1 val_main_v251 val_main_v248 val_main_v245 val_main_v240 val_main_v239 val_main_v244 val_main_v243 val_main_v242 val_main_v241 val_main_cst_49 val_main_v247 val_main_v246 val_main_v250 val_main_v249 val_main_call7_v0 val_main_call7_cst val_main_call7_v4 val_main_call7_v3 val_main_call7_v2 val_main_cst_50
  refine (bn2_key (val_main_v227 (F := Ideal) x0 x1 x2 x3 x4 x5 x6 x7 x8 x9 x10 x11 x12 x13 x14 x15 x16 x17 x18) (val_main_v231 (F := Ideal) x0 x1 x2 x3 x4 x5 x6 x7 x8 x9 x10 x11 x12 x13 x14 x15 x16 x17 x18) (val_main_v238 (F := Ideal) x0 x1 x2 x3 x4 x5 x6 x7 x8 x9 x10 x11 x12 x13 x14 x15 x16 x17 x18) x19 x20 b n o).trans ?_
  rw [z2_at x0 x1 x2 x3 x4 x5 x6 x7 x8 x9 x10 x11 x12 x13 x14 x15 x16 x17 x18 hd0 hs, muz2_at x0 x1 x2 x3 x4 x5 x6 x7 x8 x9 x10 x11 x12 x13 x14 x15 x16 x17 x18 hd0 hs, varz2_at x0 x1 x2 x3 x4 x5 x6 x7 x8 x9 x10 x11 x12 x13 x14 x15 x16 x17 x18 hd0 hs]

end Cert.ReferenceIdeal.Val

end
-- ==== Proof.RefReal.lean ====
/-
  With finite points, first matrix and scoring scale and offset: which of the reference's values are finite.
-/
module

public import proofs.«01_k».proof.Proof.Ref4
public import proofs.«01_k».proof.Proof.Channels
public import proofs.«01_k».proof.Proof.Words

@[expose] public section

set_option maxRecDepth 16384

noncomputable section

namespace Cert.ReferenceIdeal.Val

open Idealize.ShloMosaic Cert.ReferenceIdeal Cert.ReferenceIdeal.Gen Cert.ReferenceIdeal.Read Cert.Spec

/-- The points, the first convolution's matrix, and the scoring's scale and offset have finite entries. -/
structure Finite
  (x0 : (⟨S4x2048x3, .f32⟩ : BufTy).Contents (Elt Ideal))
  (x1 : (⟨S6x16, .f32⟩ : BufTy).Contents (Elt Ideal))
  (x11 : (⟨S128, .f32⟩ : BufTy).Contents (Elt Ideal))
  (x12 : (⟨S128, .f32⟩ : BufTy).Contents (Elt Ideal)) : Prop where
  f0 : ∀ i, Re (x0 i)
  f1 : ∀ i, Re (x1 i)
  f11 : ∀ i, Re (x11 i)
  f12 : ∀ i, Re (x12 i)

variable {x0 : (⟨S4x2048x3, .f32⟩ : BufTy).Contents (Elt Ideal)}
  {x1 : (⟨S6x16, .f32⟩ : BufTy).Contents (Elt Ideal)}
  {x2 : (⟨S16, .f32⟩ : BufTy).Contents (Elt Ideal)}
  {x3 : (⟨S32x48, .f32⟩ : BufTy).Contents (Elt Ideal)}
  {x4 : (⟨S48, .f32⟩ : BufTy).Contents (Elt Ideal)}
  {x5 : (⟨S1x64, .f32⟩ : BufTy).Contents (Elt Ideal)}
  {x6 : (⟨S64, .f32⟩ : BufTy).Contents (Elt Ideal)}
  {x7 : (⟨S48x64, .f32⟩ : BufTy).Contents (Elt Ideal)}
  {x8 : (⟨S64, .f32⟩ : BufTy).Contents (Elt Ideal)}
  {x9 : (⟨S128x128, .f32⟩ : BufTy).Contents (Elt Ideal)}
  {x10 : (⟨S128, .f32⟩ : BufTy).Contents (Elt Ideal)}
  {x11 : (⟨S128, .f32⟩ : BufTy).Contents (Elt Ideal)}
  {x12 : (⟨S128, .f32⟩ : BufTy).Contents (Elt Ideal)}

variable (h : Finite x0 x1 x11 x12)
include h

theorem re_X0 (b : Fin 4) (n : Fin 2048) (k : Fin 3) : Re (X0 x0 b n k) := h.f0 _

theorem dist0_ne_top (b : Fin 4) (n m : Fin 2048) : sqDist (X0 x0 b) n m ≠ ⊤ := (Re.sqDist (re_X0 h b) n m).ne_top

/-- The first convolution's features: an infinite bias makes its channel infinite at every point. -/
theorem level_X1 (b : Fin 4) : Level (X1r x0 x1 x2 b) := by
  have e : X1r x0 x1 x2 b = edgeConv (fun c o => x1 (ix2 (Fin.castAdd 3 c) o)) (fun c o => x1 (ix2 (Fin.natAdd 3 c) o)) (fun o => x2 (ix1 o)) (X0 x0 b) := by
    funext n o
    exact x1_at x0 x1 x2 (dist0_ne_top h) b n o
  rw [e]
  exact Level.edgeConv (re_X0 h b) (fun _ _ => h.f1 _) (fun _ _ => h.f1 _)

theorem dist1_ne_top (b : Fin 4) (n m : Fin 2048) : sqDist (X1r x0 x1 x2 b) n m ≠ ⊤ := (level_X1 h b).sqDist_ne_top n m

theorem score_ne_bot (b : Fin 4) (n : Fin 2048) (k : Fin 33) : Sr x0 x1 x2 x3 x4 x5 x6 x7 x8 x9 x10 x11 x12 b n k ≠ ⊥ := by
  unfold Sr muH varH cntH
  rw [bits_270336]
  exact (Re.score_any (by norm_num) (H := fun (p : Fin 4 × Fin 2048 × Fin 33) c => Hr x0 x1 x2 x3 x4 x5 x6 x7 x8 x9 x10 p.1 p.2.1 p.2.2 c)
    (fun _ => h.f11 _) (fun _ => h.f12 _) (b, n, k)).ne_bot

end Cert.ReferenceIdeal.Val

end
-- ==== Proof.Fold1.lean ====
/-
  The kernel's first two regions: the nearest points, their distances and the points' features.
-/
module

public import proofs.«01_k».proof.Proof.Hosts
public import proofs.«01_k».proof.Proof.Array0
public import proofs.«01_k».proof.Proof.Array1
public import proofs.«01_k».proof.Proof.RefReal

@[expose] public section

set_option maxRecDepth 16384

noncomputable section

namespace Cert.KernelIdeal.Val

open Idealize.ShloMosaic Idealize.ShloMosaic.TcCoe Cert.KernelIdeal Cert.KernelIdeal.Gen Cert.Spec
open Cert.ReferenceIdeal.Val (X0 X1r X2r NBr Hr muH varH Sr Z1r muZ1 varZ1 Z2r muZ2 varZ2 cntH cntZ Finite x1_at x2_at dist0_ne_top dist1_ne_top
  re_X0 level_X1)

/-- The arguments in memory. -/
structure Args (m : (ℓ : Loc nD τ sig) → Buf (Elt Ideal) ℓ) (c : Dev nD)
  (x0 : FVec Ideal S4x2048x3 .f32)
  (x1 : FVec Ideal S6x16 .f32)
  (x2 : FVec Ideal S16 .f32)
  (x3 : FVec Ideal S32x48 .f32)
  (x4 : FVec Ideal S48 .f32)
  (x5 : FVec Ideal S1x64 .f32)
  (x6 : FVec Ideal S64 .f32)
  (x7 : FVec Ideal S48x64 .f32)
  (x8 : FVec Ideal S64 .f32)
  (x9 : FVec Ideal S128x128 .f32)
  (x10 : FVec Ideal S128 .f32)
  (x11 : FVec Ideal S128 .f32)
  (x12 : FVec Ideal S128 .f32)
  (x13 : FVec Ideal S480x512 .f32)
  (x14 : FVec Ideal S512 .f32)
  (x15 : FVec Ideal S512 .f32)
  (x16 : FVec Ideal S512 .f32)
  (x17 : FVec Ideal S512x512 .f32)
  (x18 : FVec Ideal S512 .f32)
  (x19 : FVec Ideal S512 .f32)
  (x20 : FVec Ideal S512 .f32) : Prop where
  e0 : ∀ i, (m ((c : Thread nD τ).loc main_arg0) : FVec Ideal S4x2048x3 .f32) i = x0 i
  e1 : ∀ i, (m ((c : Thread nD τ).loc main_arg1) : FVec Ideal S6x16 .f32) i = x1 i
  e2 : ∀ i, (m ((c : Thread nD τ).loc main_arg2) : FVec Ideal S16 .f32) i = x2 i
  e3 : ∀ i, (m ((c : Thread nD τ).loc main_arg3) : FVec Ideal S32x48 .f32) i = x3 i
  e4 : ∀ i, (m ((c : Thread nD τ).loc main_arg4) : FVec Ideal S48 .f32) i = x4 i
  e5 : ∀ i, (m ((c : Thread nD τ).loc main_arg5) : FVec Ideal S1x64 .f32) i = x5 i
  e6 : ∀ i, (m ((c : Thread nD τ).loc main_arg6) : FVec Ideal S64 .f32) i = x6 i
  e7 : ∀ i, (m ((c : Thread nD τ).loc main_arg7) : FVec Ideal S48x64 .f32) i = x7 i
  e8 : ∀ i, (m ((c : Thread nD τ).loc main_arg8) : FVec Ideal S64 .f32) i = x8 i
  e9 : ∀ i, (m ((c : Thread nD τ).loc main_arg9) : FVec Ideal S128x128 .f32) i = x9 i
  e10 : ∀ i, (m ((c : Thread nD τ).loc main_arg10) : FVec Ideal S128 .f32) i = x10 i
  e11 : ∀ i, (m ((c : Thread nD τ).loc main_arg11) : FVec Ideal S128 .f32) i = x11 i
  e12 : ∀ i, (m ((c : Thread nD τ).loc main_arg12) : FVec Ideal S128 .f32) i = x12 i
  e13 : ∀ i, (m ((c : Thread nD τ).loc main_arg13) : FVec Ideal S480x512 .f32) i = x13 i
  e14 : ∀ i, (m ((c : Thread nD τ).loc main_arg14) : FVec Ideal S512 .f32) i = x14 i
  e15 : ∀ i, (m ((c : Thread nD τ).loc main_arg15) : FVec Ideal S512 .f32) i = x15 i
  e16 : ∀ i, (m ((c : Thread nD τ).loc main_arg16) : FVec Ideal S512 .f32) i = x16 i
  e17 : ∀ i, (m ((c : Thread nD τ).loc main_arg17) : FVec Ideal S512x512 .f32) i = x17 i
  e18 : ∀ i, (m ((c : Thread nD τ).loc main_arg18) : FVec Ideal S512 .f32) i = x18 i
  e19 : ∀ i, (m ((c : Thread nD τ).loc main_arg19) : FVec Ideal S512 .f32) i = x19 i
  e20 : ∀ i, (m ((c : Thread nD τ).loc main_arg20) : FVec Ideal S512 .f32) i = x20 i

variable {m : (ℓ : Loc nD τ sig) → Buf (Elt Ideal) ℓ} (ρ : Dev nD → PrngReg) {c : Dev nD}
  {x0 : FVec Ideal S4x2048x3 .f32}
  {x1 : FVec Ideal S6x16 .f32}
  {x2 : FVec Ideal S16 .f32}
  {x3 : FVec Ideal S32x48 .f32}
  {x4 : FVec Ideal S48 .f32}
  {x5 : FVec Ideal S1x64 .f32}
  {x6 : FVec Ideal S64 .f32}
  {x7 : FVec Ideal S48x64 .f32}
  {x8 : FVec Ideal S64 .f32}
  {x9 : FVec Ideal S128x128 .f32}
  {x10 : FVec Ideal S128 .f32}
  {x11 : FVec Ideal S128 .f32}
  {x12 : FVec Ideal S128 .f32}
  {x13 : FVec Ideal S480x512 .f32}
  {x14 : FVec Ideal S512 .f32}
  {x15 : FVec Ideal S512 .f32}
  {x16 : FVec Ideal S512 .f32}
  {x17 : FVec Ideal S512x512 .f32}
  {x18 : FVec Ideal S512 .f32}
  {x19 : FVec Ideal S512 .f32}
  {x20 : FVec Ideal S512 .f32}

variable (A : Args m c x0 x1 x2 x3 x4 x5 x6 x7 x8 x9 x10 x11 x12 x13 x14 x15 x16 x17 x18 x19 x20) (h : Finite x0 x1 x11 x12)

include A in
theorem v1_arg0 (b : Fin 4) (n : Fin 2048) (k : Fin 3) : V1 m ρ c main_arg0 (ix3 b n k) = X0 x0 b n k :=
  (congrFun (W1_args m ρ c main_arg0 (by decide)) _).trans (A.e0 _)

include A in
theorem v1_v0 (b : Fin 4) (k : Fin 3) (n : Fin 2048) : V1 m ρ c main_v0 (ix3 b k n) = X0 x0 b n k :=
  (h0_v0 (W0 m ρ c) b k n).trans ((congrFun (W0_args m ρ c main_arg0 (by decide)) _).trans (A.e0 _))

include A h in
/-- The distances to the nearest points. -/
theorem s2_v2_0 (b : Fin 4) (n : Fin 2048) (k : Fin 33) :
    (W2 m ρ c (Proc.devRef .tc main_v2_0) : FVec Ideal S4x2048x33 .f32) (ix3 b n k) = sqDist (X0 x0 b) n (NBr x0 b n k) :=
  congrFun ((W2_arr m ρ c 5).trans (arr0_5 (V1 m ρ) c (X0 x0) (v1_arg0 ρ A) (v1_v0 ρ A) (dist0_ne_top h))) (ix3 b n k)

include A in
/-- The nearest points. -/
theorem s2_v2_1 (b : Fin 4) (n : Fin 2048) (k : Fin 33) :
    (W2 m ρ c (Proc.devRef .tc main_v2_1) : IVec S4x2048x33 32) (ix3 b n k) = BitVec.ofNat 32 (NBr x0 b n k).val :=
  congrFun ((W2_arr m ρ c 6).trans (arr0_6 (V1 m ρ) c (X0 x0) (v1_arg0 ρ A) (v1_v0 ρ A))) (ix3 b n k)

theorem sub_self_of_re {x : EReal} (hx : Re x) : x - x = 0 := by
  obtain ⟨r, rfl⟩ := hx
  rw [← EReal.coe_sub, sub_self, EReal.coe_zero]

include A h in
/-- The features after the first edge convolution. -/
theorem s2_v2_2 (b : Fin 4) (n : Fin 2048) (o : Fin 16) :
    (W2 m ρ c (Proc.devRef .tc main_v2_2) : FVec Ideal S4x2048x16 .f32) (ix3 b n o) = X1r x0 x1 x2 b n o :=
  (congrFun ((W2_arr m ρ c 7).trans (arr0_7 (V1 m ρ) c (X0 x0) (fun c o => x1 (ix2 (Fin.castAdd 3 c) o))
    (fun c o => x1 (ix2 (Fin.natAdd 3 c) o)) (fun o => x2 (ix1 o)) (v1_arg0 ρ A) (v1_v0 ρ A) (fun b m c => sub_self_of_re (re_X0 h b m c))
    (fun _ _ _ => (congrFun (W1_args m ρ c main_arg1 (by decide)) _).trans (A.e1 _)) (fun _ _ _ => (congrFun (W1_args m ρ c main_arg1 (by decide)) _).trans (A.e1 _)) (fun o => (h0_v1 (W0 m ρ c) o).trans ((congrFun (W0_args m ρ c main_arg2 (by decide)) _).trans (A.e2 _))))) (ix3 b n o)).trans
    (x1_at x0 x1 x2 (dist0_ne_top h) b n o).symm

include A h in
theorem v3_v2_2 (b : Fin 4) (n : Fin 2048) (k : Fin 16) : V3 m ρ c main_v2_2 (ix3 b n k) = X1r x0 x1 x2 b n k :=
  (congrFun (W3_of m ρ c main_v2_2 (by decide)) _).trans (s2_v2_2 ρ A h b n k)

include A h in
theorem v3_v3 (b : Fin 4) (k : Fin 16) (n : Fin 2048) : V3 m ρ c main_v3 (ix3 b k n) = X1r x0 x1 x2 b n k :=
  (h1_v3 (W2 m ρ c) b k n).trans (s2_v2_2 ρ A h b n k)

include A h in
/-- The features after the second edge convolution. -/
theorem s4_v5 (b : Fin 4) (n : Fin 2048) (o : Fin 48) :
    (W4 m ρ c (Proc.devRef .tc main_v5) : FVec Ideal S4x2048x48 .f32) (ix3 b n o) = X2r x0 x1 x2 x3 x4 b n o :=
  (congrFun ((W4_arr m ρ c 5).trans (arr1_5 (V3 m ρ) c (X1r x0 x1 x2) (fun c o => x3 (ix2 (Fin.castAdd 16 c) o))
    (fun c o => x3 (ix2 (Fin.natAdd 16 c) o)) (fun o => x4 (ix1 o)) (v3_v2_2 ρ A h) (v3_v3 ρ A h) (level_X1 h)
    (fun _ _ _ => (congrFun (W3_args m ρ c main_arg3 (by decide)) _).trans (A.e3 _)) (fun _ _ _ => (congrFun (W3_args m ρ c main_arg3 (by decide)) _).trans (A.e3 _)) (fun o => (h1_v4 (W2 m ρ c) o).trans ((congrFun (W2_args m ρ c main_arg4 (by decide)) _).trans (A.e4 _))))) (ix3 b n o)).trans
    (x2_at x0 x1 x2 x3 x4 (dist1_ne_top h) b n o).symm

end Cert.KernelIdeal.Val

end
-- ==== Proof.Score.lean ====
/-
  The scoring network on vectors: one neighbour's features and distance through the two linear maps and the 1×1 convolution
  (`hk`), its normalised maximum over channels (`scoreCol`), and the ten rounds that pick the highest scores and accumulate
  their neighbours' features through the first matrix of the perceptron (`zStep`).
-/
module

public import proofs.«01_k».proof.Proof.Rounds

@[expose] public section

noncomputable section

namespace Cert.KernelIdeal.Val

open Idealize.ShloMosaic Cert.KernelIdeal Cert.KernelIdeal.Gen

variable {F : FTy → Type} [FloatOps F] [Named F]

theorem slices_col : ∀ k : Fin 33, S128x33.Slices ![0, k.val] S128x1 := by decide

/-- One column of a row of thirty-three. -/
def colAt {α : Type} (v : S128x33.Idx → α) (k : Fin 33) : S128x1.Idx → α :=
  extractStridedSlice S128x1 ![0, k.val] v (slices_col k)

/-- A position column marked along rows of `2048`, as a matrix of zeros and ones. -/
def hotOf (p : IVec S128x1 32) : FVec F S128x2048 .bf16 :=
  truncf .bf16 (sitofp .f32 (extui 32 (cmpi .eq posns (broadcastTo S128x2048 p broadcasts_S128x1_S128x2048)) natLt_1_32))
    bitsLt_bf16_f32

/-- The marked rows of a table. -/
def gatherOf (p : IVec S128x1 32) (T : FVec F S2048x48 .bf16) : FVec F S128x48 .bf16 :=
  truncf .bf16 (matmul dot_S128x2048_S2048x48_S128x48_1_0_0_1_n_n none (hotOf p) T (constant S128x48 .f32 0x00000000#32))
    bitsLt_bf16_f32

/-- The weight of a squared distance. -/
def weight (d : FVec F S128x1 .f32) : FVec F S128x1 .f32 :=
  exp (subf (broadcast S128x1 (Scalar.ofBits .f32 0x00000000#32)) d)

/-- Two linear maps side by side, then the 1×1 convolution. -/
def hk (g : FVec F S128x48 .bf16) (e : FVec F S128x1 .f32) (l2W : FVec F S48x64 .bf16) (l2b l1w l1b : FVec F S1x64 .f32)
    (c3WT : FVec F S128x128 .bf16) (c3b : FVec F S1x128 .f32) : FVec F S128x128 .f32 :=
  have knnf : FVec F S128x64 .f32 := addf
    (matmul dot_S128x48_S48x64_S128x64_1_0_0_1_n_n none g l2W (constant S128x64 .f32 0x00000000#32))
    (broadcastTo S128x64 l2b broadcasts_S1x64_S128x64)
  have distf : FVec F S128x64 .f32 := addf
    (mulf (broadcastTo S128x64 e broadcasts_S128x1_S128x64) (broadcastTo S128x64 l1w broadcasts_S1x64_S128x64))
    (broadcastTo S128x64 l1b broadcasts_S1x64_S128x64)
  have feat : FVec F S128x128 .bf16 := truncf .bf16
    (concatenate S128x128 1 [⟨S128x64, knnf⟩, ⟨S128x64, distf⟩] concatenates_S128x64_S128x64_S128x128_d1) bitsLt_bf16_f32
  addf (matmul dot_S128x128_S128x128_S128x128_1_0_0_1_n_n none feat c3WT (constant S128x128 .f32 0x00000000#32))
    (broadcastTo S128x128 c3b broadcasts_S1x128_S128x128)

/-- The normalised, rectified features' maximum over channels. -/
def scoreCol (h : FVec F S128x128 .f32) (mu den g be : FVec F S1x128 .f32) : FVec F S128x1 .f32 :=
  have u : FVec F S128x128 .f32 := addf
    (mulf (divf (subf h (broadcastTo S128x128 mu broadcasts_S1x128_S128x128)) (broadcastTo S128x128 den broadcasts_S1x128_S128x128))
      (broadcastTo S128x128 g broadcasts_S1x128_S128x128)) (broadcastTo S128x128 be broadcasts_S1x128_S128x128)
  have hh : FVec F S128x128 .f32 := select (cmpf .oge u (broadcast S128x128 (Scalar.ofBits .f32 0x00000000#32))) u
    (mulf (broadcast S128x128 (Scalar.ofBits .f32 0x3E4CCCCD#32)) u)
  shapeCast S128x1 (multiReduction .maximumf [1] S128 hh 0xFF800000#32 reduces_S128x128_S128_2 (.inl rfl) rfl)
    shapeCasts_S128_S128x1

/-- The positions along a row of thirty-three. -/
def posns33 : IVec S128x33 32 := iota .tc S128x33 32 [1] iota_S128x33_d1_w32

/-- The least position at which each row of scores holds its maximum, marked. -/
def bestHot (s : FVec F S128x33 .f32) : IVec S128x33 1 :=
  have m : FVec F S128x1 .f32 := shapeCast S128x1
    (multiReduction .maximumf [1] S128 s 0xFF800000#32 reduces_S128x33_S128 (.inl rfl) rfl) shapeCasts_S128_S128x1
  have a : IVec S128x1 32 := shapeCast S128x1 (multiReductionI .minsi [1] S128
    (select (cmpf .oeq s (broadcastTo S128x33 m broadcasts_S128x1_S128x33)) posns33 (broadcast S128x33 33#32)) 2147483647#32
    reduces_S128x33_S128 rfl) shapeCasts_S128_S128x1
  cmpi .eq posns33 (broadcastTo S128x33 a broadcasts_S128x1_S128x33)

/-- The scores with the marked one overwritten by the mask constant. -/
def bestStep (s : FVec F S128x33 .f32) : FVec F S128x33 .f32 :=
  select (bestHot s) (broadcast S128x33 (Named.named κ "nbig" 0xFF61B1E6#32)) s

/-- The scores after `t` rounds. -/
def bests (s : FVec F S128x33 .f32) : ℕ → FVec F S128x33 .f32
  | 0 => s
  | t + 1 => bestStep (bests s t)

/-- The marked neighbour's index. -/
def bestIdx (s : FVec F S128x33 .f32) (idx : IVec S128x33 32) : IVec S128x1 32 :=
  shapeCast S128x1 (multiReductionI .add [1] S128 (select (bestHot s) idx (broadcast S128x33 0#32)) 0#32
    reduces_S128x33_S128 rfl) shapeCasts_S128_S128x1

theorem slices_block : ∀ t : Fin 10, S480x512.Slices ![t.val * 48, 0] S48x512 := by decide

/-- The picked neighbour's features through its block of the matrix, added to the accumulator. -/
def zStep (s : FVec F S128x33 .f32) (idx : IVec S128x33 32) (T : FVec F S2048x48 .bf16) (W : FVec F S480x512 .bf16) (t : Fin 10)
    (acc : FVec F S128x512 .f32) : FVec F S128x512 .f32 :=
  addf acc (matmul dot_S128x48_S48x512_S128x512_1_0_0_1_n_n none (gatherOf (bestIdx s idx) T)
    (extractStridedSlice S48x512 ![t.val * 48, 0] W (slices_block t)) (constant S128x512 .f32 0x00000000#32))

/-- The accumulator after `t` rounds. -/
def zs (s : FVec F S128x33 .f32) (idx : IVec S128x33 32) (T : FVec F S2048x48 .bf16) (W : FVec F S480x512 .bf16) :
    ℕ → FVec F S128x512 .f32
  | 0 => broadcast S128x512 (Scalar.ofBits .f32 0x00000000#32)
  | t + 1 => zStep (bests s t) idx T W (Fin.ofNat 10 t) (zs s idx T W t)

end Cert.KernelIdeal.Val

end
-- ==== Proof.ScoreAt.lean ====
/-
  The scoring network read at an index over the extended reals.
-/
module

public import proofs.«01_k».proof.Proof.Score
public import proofs.«01_k».proof.Proof.RoundsAt
public import proofs.«01_k».proof.Proof.Spec

@[expose] public section

set_option maxRecDepth 16384

noncomputable section

namespace Cert.KernelIdeal.Val

open Idealize.ShloMosaic Cert.KernelIdeal Cert.KernelIdeal.Gen Cert.Spec

/-- The greatest of finitely many, from below. -/
theorem fold_max_eq {n : ℕ} (f : Fin n → EReal) : Finset.univ.fold max ⊥ f = Finset.univ.sup f := rfl

theorem sup_eq_argMin {n : ℕ} [NeZero n] (f : Fin n → EReal) : Finset.univ.sup f = f (argMin fun i => -(f i)) := by
  refine le_antisymm (Finset.sup_le fun i _ => ?_) (Finset.le_sup (Finset.mem_univ _))
  exact EReal.neg_le_neg_iff.mp (argMin_le (fun i => -(f i)) i)

theorem colAt_at {α : Type} (v : S128x33.Idx → α) (k : Fin 33) (r : Fin 128) : colAt v k (ix2 r 0) = v (ix2 r k) := by
  unfold colAt
  pointwise

theorem weight_at (d : FVec Ideal S128x1 .f32) (r : Fin 128) : weight d (ix2 r 0) = Ideal.exp (-(d (ix2 r 0))) := by
  unfold weight
  pointwise
  rw [zero_sub]

theorem hotOf_at (p : IVec S128x1 32) (r : Fin 128) (a n : Fin 2048) (h : p (ix2 r 0) = BitVec.ofNat 32 a.val) :
    hotOf (F := Ideal) p (ix2 r n) = if n = a then (1 : EReal) else 0 := by
  unfold hotOf posns
  pointwise
  rw [h, cmpi_eq_pos n.isLt a.isLt, sitofp_bit]
  simp only [decide_eq_true_eq, Fin.ext_iff]

theorem gatherOf_at (p : IVec S128x1 32) (T : FVec Ideal S2048x48 .bf16) (r : Fin 128) (a : Fin 2048)
    (h : p (ix2 r 0) = BitVec.ofNat 32 a.val) (f : Fin 48) : gatherOf p T (ix2 r f) = T (ix2 a f) := by
  unfold gatherOf
  pointwise
  simp only [hotOf_at p r a _ h]
  exact sum_hot a fun m => T (ix2 m f)

theorem hk_at (g : FVec Ideal S128x48 .bf16) (e : FVec Ideal S128x1 .f32) (l2W : FVec Ideal S48x64 .bf16)
    (l2b l1w l1b : FVec Ideal S1x64 .f32) (c3WT : FVec Ideal S128x128 .bf16) (c3b : FVec Ideal S1x128 .f32) (r : Fin 128) (d : EReal)
    (he : e (ix2 r 0) = Ideal.exp (-d)) (c : Fin 128) :
    hk g e l2W l2b l1w l1b c3WT c3b (ix2 r c) = hRow (fun f j => l2W (ix2 f j)) (fun j => l2b (ix2 0 j)) (fun j => l1w (ix2 0 j))
      (fun j => l1b (ix2 0 j)) (fun c j => c3WT (ix2 j c)) (fun c => c3b (ix2 0 c)) (fun f => g (ix2 r f)) d c := by
  unfold hk
  pointwise
  rw [he]
  rfl

theorem scoreCol_at (h : FVec Ideal S128x128 .f32) (mu den g be : FVec Ideal S1x128 .f32) (r : Fin 128) :
    scoreCol h mu den g be (ix2 r 0)
      = Finset.univ.sup fun c : Fin 128 => leaky (Ideal.div (h (ix2 r c) - mu (ix2 0 c)) (den (ix2 0 c)) * g (ix2 0 c) + be (ix2 0 c)) := by
  unfold scoreCol
  pointwise
  rw [bits_bot]
  rfl

theorem bestHot_at (s : FVec Ideal S128x33 .f32) (r : Fin 128) (n : Fin 33) :
    bestHot s (ix2 r n) = BitVec.ofBool (decide (n = argMin fun n => -(s (ix2 r n)))) := by
  unfold bestHot posns33
  pointwise
  rw [bits_bot, fold_max_eq, sup_eq_argMin]
  rw [fold_minsi_eq (n := 33) (by norm_num) (fun x => s (ix2 r x) = _) (argMin fun n => -(s (ix2 r n))) rfl
    fun j hj => argMin_least _ _ (by rw [hj])]
  rw [cmpi_eq_pos (n.isLt.trans (by norm_num)) ((Fin.isLt _).trans (by norm_num))]
  simp only [Fin.ext_iff]

theorem bestStep_at (s : FVec Ideal S128x33 .f32) (r : Fin 128) (n : Fin 33) :
    bestStep s (ix2 r n) = if n = argMin (fun n => -(s (ix2 r n))) then (⊥ : EReal) else s (ix2 r n) := by
  unfold bestStep
  pointwise
  rw [bestHot_at, named_nbig, select_bit]
  simp only [decide_eq_true_eq]

theorem bests_at (s : FVec Ideal S128x33 .f32) (t : ℕ) (r : Fin 128) (n : Fin 33) :
    -(bests s t (ix2 r n)) = masked (fun n => -(s (ix2 r n))) t n := by
  induction t generalizing n with
  | zero => rfl
  | succ t ih =>
    rw [bests, bestStep_at, masked_succ]
    simp only [ih]
    split <;> simp [← ih]

theorem sum_pick_word (f : Fin 33 → BitVec 32) (a : Fin 33) :
    Finset.univ.fold IntOp.addi 0#32 (fun x => if x = a then f x else 0#32) = f a := by
  have h0 : ∀ S : Finset (Fin 33), a ∉ S → S.fold IntOp.addi 0#32 (fun x => if x = a then f x else 0#32) = 0#32 := by
    intro S
    induction S using Finset.induction with
    | empty => intro _; rfl
    | insert b S hb ih =>
      intro h
      rw [Finset.fold_insert hb, ih fun h' => h (Finset.mem_insert_of_mem h'),
        if_neg fun e => h (by rw [← e]; exact Finset.mem_insert_self _ _)]
      rfl
  rw [← Finset.insert_erase (Finset.mem_univ a), Finset.fold_insert (Finset.notMem_erase _ _), h0 _ (Finset.notMem_erase _ _), if_pos rfl]
  exact BitVec.add_zero _

theorem bestIdx_at (s : FVec Ideal S128x33 .f32) (idx : IVec S128x33 32) (t : ℕ) (r : Fin 128) :
    bestIdx (bests s t) idx (ix2 r 0) = idx (ix2 r (pick (fun n => -(s (ix2 r n))) t)) := by
  unfold bestIdx
  pointwise
  simp only [bestHot_at, select_bit, decide_eq_true_eq, bests_at]
  exact sum_pick_word _ _

theorem zs_at (s : FVec Ideal S128x33 .f32) (idx : IVec S128x33 32) (T : FVec Ideal S2048x48 .bf16) (W : FVec Ideal S480x512 .bf16)
    (nb : Fin 128 → ℕ → Fin 2048) (hid : ∀ r (k : Fin 33), idx (ix2 r k) = BitVec.ofNat 32 (nb r k.val).val)
    (W1 : Fin 10 → Fin 48 → Fin 512 → EReal)
    (hW : ∀ (t : Fin 10) (f : Fin 48) (h : t.val * 48 + f.val < 480) o, W (ix2 ⟨t.val * 48 + f.val, h⟩ o) = W1 t f o) (r : Fin 128) (o : Fin 512) :
    zs s idx T W 10 (ix2 r o)
      = ∑ t : Fin 10, ∑ f : Fin 48, T (ix2 (nb r (pick (fun n => -(s (ix2 r n))) t.val).val) f) * W1 t f o := by
  have key : ∀ n : ℕ, zs s idx T W n (ix2 r o) = ∑ t : Fin n,
      ∑ f : Fin 48, T (ix2 (nb r (pick (fun n => -(s (ix2 r n))) t.val).val) f) * W1 (Fin.ofNat 10 t.val) f o := by
    intro n
    refine sum_of_steps (f := fun t => ∑ f : Fin 48, T (ix2 (nb r (pick (fun n => -(s (ix2 r n))) t).val) f) * W1 (Fin.ofNat 10 t) f o)
      (g := fun t => zs s idx T W t (ix2 r o)) ?_ (fun t => ?_) n
    · rw [zs]; pointwise
    · rw [zs]
      unfold zStep
      pointwise
      refine congrArg _ (Finset.sum_congr rfl fun f _ => ?_)
      rw [gatherOf_at _ _ _ (nb r (pick (fun n => -(s (ix2 r n))) t).val) ((bestIdx_at s idx t r).trans (hid r _)), hW]
  rw [key]
  refine Finset.sum_congr rfl fun t _ => ?_
  have : Fin.ofNat 10 t.val = t := Fin.ext (Nat.mod_eq_of_lt t.isLt)
  rw [this]

end Cert.KernelIdeal.Val

end
-- ==== Proof.Body2.lean ====
/-
  The statistics body folded over the thirty-three neighbours: the planes of gathered features, the column sums of the
  convolved features, and the sums of their squared deviations, which read the features back from the scratch buffer.
-/
module

public import proofs.«01_k».proof.Proof.Score
public import proofs.«01_k».proof.Proof.Gen.KernelIdeal.Frame.Region2
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Cert.KernelIdeal Cert.KernelIdeal.Gen

variable {F : FTy → Type} [FloatOps F] [Named F]

/-- The whole of a window's block, as the rectangle a load reads. -/
abbrev all2_0 : Rect S1x128x33 := Rect.unit ![0, 0, 0] S1x128x33.size (by decide)
abbrev all2_2 : Rect S1x2048x48 := Rect.unit ![0, 0, 0] S1x2048x48.size (by decide)
abbrev all2_3 : Rect S48x64 := Rect.unit ![0, 0] S48x64.size (by decide)
abbrev all2_4 : Rect S1x64 := Rect.unit ![0, 0] S1x64.size (by decide)
abbrev all2_7 : Rect S128x128 := Rect.unit ![0, 0] S128x128.size (by decide)
abbrev all2_8 : Rect S1x128 := Rect.unit ![0, 0] S1x128.size (by decide)
abbrev all2_10 : Rect S1x1x128 := Rect.unit ![0, 0, 0] S1x1x128.size (by decide)

theorem inb_g : ∀ (k : Fin 33) a, (![k.val, 0, 0] : Fin 3 → ℕ) a + S1x128x48.size a ≤ S33x128x48.size a := by decide

theorem inb_h : ∀ (k : Fin 33) a, (![k.val * 128, 0] : Fin 2 → ℕ) a + S128x128.size a ≤ S4224x128.size a := by decide

/-- Where the scratch buffer keeps the `k`-th neighbour's features. -/
abbrev band (k : Fin 33) : Rect S4224x128 := Rect.unit ![k.val * 128, 0] S128x128.size (inb_h k)

/-- Column sums of a tile's rows. -/
def rowSum (h : FVec F S128x128 .f32) : FVec F S1x128 .f32 :=
  shapeCast S1x128 (multiReduction .add [0] S128 h 0x00000000#32 reduces_S128x128_S128 (.inl rfl) rfl) shapeCasts_S128_S1x128

/-- Squared distance of each row's entry from a row of centres. -/
def sqFrom (bm : FVec F S1x128 .f32) (h : FVec F S128x128 .f32) : FVec F S128x128 .f32 :=
  mulf (subf h (broadcastTo S128x128 bm broadcasts_S1x128_S128x128)) (subf h (broadcastTo S128x128 bm broadcasts_S1x128_S128x128))

/-- The column sums of the first `t` of thirty-three tiles, added one after another. -/
def sums (f : Fin 33 → FVec F S128x128 .f32) : ℕ → FVec F S1x128 .f32
  | 0 => broadcast S1x128 (Scalar.ofBits .f32 0x00000000#32)
  | t + 1 => addf (sums f t) (rowSum (f (Fin.ofNat 33 t)))

/-- The block's mean. -/
def bmean (s : FVec F S1x128 .f32) : FVec F S1x128 .f32 := divf s (broadcast S1x128 (Scalar.ofBits .f32 0x45840000#32))

variable (x0 : Vec F S1x128x33 .i32) (x1 : Vec F S1x128x33 .f32) (x2 : Vec F S1x2048x48 .f32) (x3 : Vec F S48x64 .f32)
  (x4 : Vec F S1x64 .f32) (x5 : Vec F S1x64 .f32) (x6 : Vec F S1x64 .f32) (x7 : Vec F S128x128 .f32) (x8 : Vec F S1x128 .f32)

/-- The `k`-th neighbours' features. -/
def gs (k : Fin 33) : FVec F S128x48 .bf16 :=
  gatherOf (colAt (shapeCast S128x33 (View.ld x0 all2_0) shapeCasts_S1x128x33_S128x33) k) (k2_pay2 (View.ld x2 all2_2))

/-- The `k`-th neighbours' convolved features. -/
def hs (k : Fin 33) : FVec F S128x128 .f32 :=
  hk (gs x0 x2 k) (weight (colAt (shapeCast S128x33 (View.ld x1 all2_0) shapeCasts_S1x128x33_S128x33) k))
    (k2_pay3 (View.ld x3 all2_3)) (k2_pay5 (View.ld x4 all2_4)) (View.ld x5 all2_4) (k2_pay6 (View.ld x6 all2_4))
    (k2_pay4 (View.ld x7 all2_7)) (k2_pay7 (View.ld x8 all2_8))

/-- What the body stores in the block of gathered features, last store first. -/
def gPieces : List (View.Piece (Elt F) S33x128x48 .bf16) :=
  List.ofFn fun j : Fin 33 => ⟨Rect.unit ![(Fin.rev j).val, 0, 0] S1x128x48.size (inb_g (Fin.rev j)),
    shapeCast S1x128x48 (gs x0 x2 (Fin.rev j)) shapeCasts_S128x48_S1x128x48⟩

/-- What the body stores in the scratch buffer, last store first. -/
def hPieces : List (View.Piece (Elt F) S4224x128 .f32) :=
  List.ofFn fun j : Fin 33 => ⟨band (Fin.rev j),
    shapeCast S128x128 (hs x0 x1 x2 x3 x4 x5 x6 x7 x8 (Fin.rev j)) shapeCasts_S128x128_S128x128⟩

/-- Reading a neighbour's band of the scratch buffer back gives its features. -/
theorem read_band {sg : RefSig} {κ : Kind} {sp : Space} (v : View sg κ sp S4224x128 .f32) (k : Fin 33) :
    v.readCov (hPieces x0 x1 x2 x3 x4 x5 x6 x7 x8) (band k).toLoadRect = hs x0 x1 x2 x3 x4 x5 x6 x7 x8 k := by
  rw [View.readCov_eq_canon']
  funext x
  unfold hPieces
  refine View.canon_ofFn_unit_eq_of_forall (S := S4224x128) (Val := Elt F) (e := .f32) (fun j : Fin 33 => ![(Fin.rev j).val * 128, 0]) S128x128.size (fun j => inb_h (Fin.rev j))
    (fun j => shapeCast S128x128 (hs x0 x1 x2 x3 x4 x5 x6 x7 x8 (Fin.rev j)) shapeCasts_S128x128_S128x128) _ _
    ⟨Fin.rev k, fun a => ?_⟩ fun j z hz => ?_
  · have h0 : (x 0).val < 128 := (x 0).isLt
    have h1 : (x 1).val < 128 := (x 1).isLt
    simp only [Fin.rev_rev]
    fin_cases a
    · show k.val * 128 ≤ k.val * 128 + 1 * (x 0).val ∧ k.val * 128 + 1 * (x 0).val < k.val * 128 + 128
      omega
    · show 0 ≤ 0 + 1 * (x 1).val ∧ 0 + 1 * (x 1).val < 0 + 128
      omega
  · have h0 : (x 0).val < 128 := (x 0).isLt
    have h1 : (z 0).val < 128 := (z 0).isLt
    have e0 : k.val * 128 + 1 * (x 0).val = (Fin.rev j).val * 128 + (z 0).val := hz 0
    have e1 : 0 + 1 * (x 1).val = 0 + (z 1).val := hz 1
    have hj : Fin.rev j = k := Fin.ext (by omega)
    have hx : z = x := by
      funext a
      refine Fin.ext ?_
      fin_cases a
      · show (z 0).val = (x 0).val
        rw [hj] at e0; omega
      · show (z 1).val = (x 1).val
        omega
    show shapeCast S128x128 (hs x0 x1 x2 x3 x4 x5 x6 x7 x8 (Fin.rev j)) shapeCasts_S128x128_S128x128 z = _
    rw [shapeCast_id, hj, hx]

/-- The planes of gathered features, at an index. -/
theorem gPieces_at (k : Fin 33) (r : Fin 128) (f : Fin 48) : View.canon (gPieces x0 x2) (ix3 k r f) = gs x0 x2 k (ix2 r f) := by
  unfold gPieces
  have hc : ∀ y : FVec F S128x48 .bf16, shapeCast S1x128x48 y shapeCasts_S128x48_S1x128x48 (ix3 0 r f) = y (ix2 r f) := by
    intro y; pointwise
  refine View.canon_ofFn_unit_eq_of_forall (S := S33x128x48) (Val := Elt F) (e := .bf16) (fun j : Fin 33 => ![(Fin.rev j).val, 0, 0]) S1x128x48.size (fun j => inb_g (Fin.rev j))
    (fun j => shapeCast S1x128x48 (gs x0 x2 (Fin.rev j)) shapeCasts_S128x48_S1x128x48) _ _
    ⟨Fin.rev k, fun a => ?_⟩ fun j z hz => ?_
  · have h0 : r.val < 128 := r.isLt
    have h1 : f.val < 48 := f.isLt
    simp only [Fin.rev_rev]
    fin_cases a
    · show k.val ≤ k.val ∧ k.val < k.val + 1
      omega
    · show 0 ≤ r.val ∧ r.val < 0 + 128
      omega
    · show 0 ≤ f.val ∧ f.val < 0 + 48
      omega
  · have h0 : (z 0).val < 1 := (z 0).isLt
    have e0 : k.val = (Fin.rev j).val + (z 0).val := hz 0
    have e1 : r.val = 0 + (z 1).val := hz 1
    have e2 : f.val = 0 + (z 2).val := hz 2
    have hj : Fin.rev j = k := Fin.ext (by omega)
    have hx : z = ix3 0 r f := by
      funext a
      refine Fin.ext ?_
      fin_cases a
      · show (z 0).val = 0
        omega
      · show (z 1).val = r.val
        omega
      · show (z 2).val = f.val
        omega
    show shapeCast S1x128x48 (gs x0 x2 (Fin.rev j)) shapeCasts_S128x48_S1x128x48 z = _
    rw [hx, hc, hj]

variable (V : (c : Dev nD) → (b : Ref sig .tc) → Buf (Elt F) ((c : Thread nD τ).loc b)) (c : Dev nD)

/-- What a load of window `0`'s whole buffer reads back. -/
abbrev y2_0 (t : Fin cfg2.N) : Vec F S1x128x33 .i32 := View.read (Elt F) (ms2_0 t).view ((hs2_0 t).unread (iblk2 V c 0 t))
abbrev y2_1 (t : Fin cfg2.N) : Vec F S1x128x33 .f32 := View.read (Elt F) (ms2_1 t).view ((hs2_1 t).unread (iblk2 V c 1 t))
abbrev y2_2 (t : Fin cfg2.N) : Vec F S1x2048x48 .f32 := View.read (Elt F) (ms2_2 t).view ((hs2_2 t).unread (iblk2 V c 2 t))
abbrev y2_3 (t : Fin cfg2.N) : Vec F S48x64 .f32 := View.read (Elt F) (ms2_3 t).view ((hs2_3 t).unread (iblk2 V c 3 t))
abbrev y2_4 (t : Fin cfg2.N) : Vec F S1x64 .f32 := View.read (Elt F) (ms2_4 t).view ((hs2_4 t).unread (iblk2 V c 4 t))
abbrev y2_5 (t : Fin cfg2.N) : Vec F S1x64 .f32 := View.read (Elt F) (ms2_5 t).view ((hs2_5 t).unread (iblk2 V c 5 t))
abbrev y2_6 (t : Fin cfg2.N) : Vec F S1x64 .f32 := View.read (Elt F) (ms2_6 t).view ((hs2_6 t).unread (iblk2 V c 6 t))
abbrev y2_7 (t : Fin cfg2.N) : Vec F S128x128 .f32 := View.read (Elt F) (ms2_7 t).view ((hs2_7 t).unread (iblk2 V c 7 t))
abbrev y2_8 (t : Fin cfg2.N) : Vec F S1x128 .f32 := View.read (Elt F) (ms2_8 t).view ((hs2_8 t).unread (iblk2 V c 8 t))

/-- The scratch buffer's stores, as the run records them. -/
abbrev scr2 (t : Fin cfg2.N) : List (View.Piece (Elt F) S4224x128 .f32) :=
  kernelRun2_A.sl.HS0_33 c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t)
    (iblk2 V c 0 t) (iblk2 V c 1 t) (iblk2 V c 2 t) (iblk2 V c 3 t) (iblk2 V c 4 t) (iblk2 V c 5 t) (iblk2 V c 6 t) (iblk2 V c 7 t) (iblk2 V c 8 t)

theorem scr2_eq (t : Fin cfg2.N) : scr2 V c t = hPieces (y2_0 V c t) (y2_1 V c t) (y2_2 V c t) (y2_3 V c t) (y2_4 V c t) (y2_5 V c t)
            (y2_6 V c t) (y2_7 V c t) (y2_8 V c t) := by
  rfl

/-- The tile's convolved features, neighbour by neighbour. -/
abbrev hs2 (t : Fin cfg2.N) : Fin 33 → FVec F S128x128 .f32 :=
  hs (iblk2 V c 0 t) (iblk2 V c 1 t) (iblk2 V c 2 t) (iblk2 V c 3 t) (iblk2 V c 4 t) (iblk2 V c 5 t) (iblk2 V c 6 t) (iblk2 V c 7 t) (iblk2 V c 8 t)

theorem hs2_eq (t : Fin cfg2.N) : hs (y2_0 V c t) (y2_1 V c t) (y2_2 V c t) (y2_3 V c t) (y2_4 V c t) (y2_5 V c t)
            (y2_6 V c t) (y2_7 V c t) (y2_8 V c t) = hs2 V c t := by
  simp only [Memref.IsWhole.read_unread]

theorem outsAt2_9 (t : Fin cfg2.N) (k : Fin 33) (r : Fin 128) (f : Fin 48) :
    (outsAt2 V c t).1 (ix3 k r f) = gs (iblk2 V c 0 t) (iblk2 V c 2 t) k (ix2 r f) := by
  have h : (outsAt2 V c t).1
      = VO2_9.read (Elt F) (VO2_9.writes (Elt F) VO2_9.junk (gPieces (y2_0 V c t) (y2_2 V c t))) := by
    unfold outsAt2 out2_A_9 kernelRun2_A; dsimp only
    rfl
  rw [h, View.read_writes_junk_eq_canon, gPieces_at]
  simp only [Memref.IsWhole.read_unread]

theorem outsAt2_10 (t : Fin cfg2.N) : (outsAt2 V c t).2.1
    = View.canon [⟨all2_10, shapeCast S1x1x128 (sums (hs2 V c t) 33) shapeCasts_S1x128_S1x1x128⟩] := by
  have h : (outsAt2 V c t).2.1
      = VO2_10.read (Elt F) (VO2_10.writes (Elt F) VO2_10.junk [⟨all2_10, shapeCast S1x1x128
        (sums (hs (y2_0 V c t) (y2_1 V c t) (y2_2 V c t) (y2_3 V c t) (y2_4 V c t) (y2_5 V c t)
            (y2_6 V c t) (y2_7 V c t) (y2_8 V c t)) 33) shapeCasts_S1x128_S1x1x128⟩]) := by
    unfold outsAt2 out2_A_10 kernelRun2_A; dsimp only
    rfl
  rw [h, View.read_writes_junk_eq_canon, hs2_eq]

set_option maxHeartbeats 2000000 in
theorem outsAt2_11 (t : Fin cfg2.N) : (outsAt2 V c t).2.2
    = View.canon [⟨all2_10, shapeCast S1x1x128
        (sums (fun k => sqFrom (bmean (sums (hs2 V c t) 33)) (hs2 V c t k)) 33) shapeCasts_S1x128_S1x1x128⟩] := by
  have h : (outsAt2 V c t).2.2
      = VO2_11.read (Elt F) (VO2_11.writes (Elt F) VO2_11.junk [⟨all2_10, shapeCast S1x1x128
        (sums (fun k => sqFrom (bmean (sums (hs (y2_0 V c t) (y2_1 V c t) (y2_2 V c t) (y2_3 V c t) (y2_4 V c t) (y2_5 V c t)
            (y2_6 V c t) (y2_7 V c t) (y2_8 V c t)) 33))
          (scM2_0.view.readCov (scr2 V c t) (band k).toLoadRect)) 33) shapeCasts_S1x128_S1x1x128⟩]) := by
    unfold outsAt2 out2_A_11 kernelRun2_A; dsimp only
    rfl
  rw [h, View.read_writes_junk_eq_canon, scr2_eq]
  simp only [read_band]
  rw [hs2_eq]

end Cert.KernelIdeal.Val

end
-- ==== Proof.Tile2.lean ====
/-
  The statistics tile read at an index.
-/
module

public import proofs.«01_k».proof.Proof.ScoreAt
public import proofs.«01_k».proof.Proof.Body2
public import proofs.«01_k».proof.Proof.Spec2
public import proofs.«01_k».proof.Proof.Index

@[expose] public section

set_option maxRecDepth 16384

noncomputable section

namespace Cert.KernelIdeal.Val

open Idealize.ShloMosaic Idealize.ShloMosaic.TcCoe Cert.KernelIdeal Cert.KernelIdeal.Gen Cert.Spec

variable (x0 : Vec Ideal S1x128x33 .i32) (x1 : Vec Ideal S1x128x33 .f32) (x2 : Vec Ideal S1x2048x48 .f32) (x3 : Vec Ideal S48x64 .f32)
  (x4 : Vec Ideal S1x64 .f32) (x5 : Vec Ideal S1x64 .f32) (x6 : Vec Ideal S1x64 .f32) (x7 : Vec Ideal S128x128 .f32)
  (x8 : Vec Ideal S1x128 .f32)

theorem gs_at (nb : Fin 128 → Fin 33 → Fin 2048) (h0 : ∀ r k, x0 (ix3 0 r k) = BitVec.ofNat 32 (nb r k).val)
    (k : Fin 33) (r : Fin 128) (f : Fin 48) : gs x0 x2 k (ix2 r f) = x2 (ix3 0 (nb r k) f) := by
  unfold gs
  rw [gatherOf_at _ _ r (nb r k) ?_ f]
  · unfold k2_pay2
    pointwise
  · rw [colAt_at, ← h0]
    pointwise

/-- A tile's convolved features. -/
def h2 (nb : Fin 128 → Fin 33 → Fin 2048) (r : Fin 128) (k : Fin 33) (c : Fin 128) : EReal :=
  hRow (fun f j => x3 (ix2 f j)) (fun j => x4 (ix2 0 j)) (fun j => x5 (ix2 0 j)) (fun j => x6 (ix2 0 j)) (fun c j => x7 (ix2 j c))
    (fun c => x8 (ix2 0 c)) (fun f => x2 (ix3 0 (nb r k) f)) (x1 (ix3 0 r k)) c

theorem hs_at (nb : Fin 128 → Fin 33 → Fin 2048) (h0 : ∀ r k, x0 (ix3 0 r k) = BitVec.ofNat 32 (nb r k).val)
    (k : Fin 33) (r : Fin 128) (c : Fin 128) :
    hs x0 x1 x2 x3 x4 x5 x6 x7 x8 k (ix2 r c) = h2 x1 x2 x3 x4 x5 x6 x7 x8 nb r k c := by
  unfold hs h2
  have hw : weight (F := Ideal) (colAt (shapeCast S128x33 (View.ld x1 all2_0) shapeCasts_S1x128x33_S128x33) k) (ix2 r 0)
      = Ideal.exp (-(x1 (ix3 0 r k))) := by
    refine (weight_at _ r).trans ?_
    rw [colAt_at]; pointwise
  rw [hk_at _ _ _ _ _ _ _ _ r _ hw c]
  simp only [gs_at x0 x2 nb h0]
  unfold k2_pay3 k2_pay5 k2_pay6 k2_pay4 k2_pay7
  pointwise

theorem sums_at (f : Fin 33 → FVec Ideal S128x128 .f32) (c : Fin 128) (T : ℕ) :
    sums f T (ix2 0 c) = ∑ t : Fin T, ∑ r : Fin 128, f (Fin.ofNat 33 t.val) (ix2 r c) := by
  refine sum_of_steps (f := fun t => ∑ r : Fin 128, f (Fin.ofNat 33 t) (ix2 r c)) (g := fun t => sums f t (ix2 0 c)) ?_ (fun t => ?_) T
  · show broadcast S1x128 (Scalar.ofBits (F := Ideal) .f32 0x00000000#32) (ix2 0 c) = 0
    pointwise
  · show addf (sums f t) (rowSum (f (Fin.ofNat 33 t))) (ix2 0 c) = _
    unfold rowSum
    pointwise

theorem sums33_at (f : Fin 33 → FVec Ideal S128x128 .f32) (c : Fin 128) :
    sums f 33 (ix2 0 c) = bSum fun p : Fin 33 × Fin 128 => f p.1 (ix2 p.2 c) := by
  rw [sums_at]
  unfold bSum
  rw [Fintype.sum_prod_type]
  refine Finset.sum_congr rfl fun t _ => ?_
  have ht : Fin.ofNat 33 t.val = t := Fin.ext (Nat.mod_eq_of_lt t.isLt)
  rw [ht]

theorem devs_at (f : Fin 33 → FVec Ideal S128x128 .f32) (c : Fin 128) :
    sums (fun k => sqFrom (bmean (sums f 33)) (f k)) 33 (ix2 0 c)
      = bDev (Ideal.ofBits .f32 0x45840000#32) fun p : Fin 33 × Fin 128 => f p.1 (ix2 p.2 c) := by
  rw [sums33_at]
  unfold bSum bDev
  refine Finset.sum_congr rfl fun p _ => ?_
  have hm : bmean (sums f 33) (ix2 0 c)
      = Ideal.div (∑ p : Fin 33 × Fin 128, f p.1 (ix2 p.2 c)) (Ideal.ofBits .f32 0x45840000#32) := by
    unfold bmean
    pointwise
    rw [sums33_at]
    rfl
  unfold sqFrom
  pointwise
  rw [hm]

variable (V : (c : Dev nD) → (b : Ref sig .tc) → Buf (Elt Ideal) ((c : Thread nD τ).loc b)) (c : Dev nD)

theorem tile2_10 (t : Fin cfg2.N) (o : Fin 128) : (outsAt2 (F := Ideal) V c t).2.1 (ix3 0 0 o)
    = bSum fun p : Fin 33 × Fin 128 => hs2 V c t p.1 (ix2 p.2 o) := by
  rw [outsAt2_10]
  refine (congrFun (View.canon_unit_zero zero3 _ _) _).trans ?_
  pointwise
  exact sums33_at _ _

theorem tile2_11 (t : Fin cfg2.N) (o : Fin 128) : (outsAt2 (F := Ideal) V c t).2.2 (ix3 0 0 o)
    = bDev (Ideal.ofBits .f32 0x45840000#32) fun p : Fin 33 × Fin 128 => hs2 V c t p.1 (ix2 p.2 o) := by
  rw [outsAt2_11]
  refine (congrFun (View.canon_unit_zero zero3 _ _) _).trans ?_
  pointwise
  exact devs_at _ _

end Cert.KernelIdeal.Val

end
-- ==== Proof.Array2.lean ====
/-
  The third region's arrays after its run: the gathered features, and each block's column sums and squared deviations of the
  convolved features.
-/
module

public import proofs.«01_k».proof.Proof.Tile2
public import proofs.«01_k».proof.Proof.Array0
public import Idealize.ShloMosaic.Lib.Pipeline.ValueKit

@[expose] public section

set_option maxRecDepth 16384

noncomputable section

namespace Cert.Spec

/-- The convolved features of a point's `k`-th neighbour. -/
def hAt (l2W : Fin 48 → Fin 64 → EReal) (l2b l1W l1b : Fin 64 → EReal) (c3W : Fin 128 → Fin 128 → EReal) (c3b : Fin 128 → EReal)
    (NB : Fin 4 → Fin 2048 → Fin 33 → Fin 2048) (D : Fin 4 → Fin 2048 → Fin 33 → EReal) (X2 : Fin 4 → Fin 2048 → Fin 48 → EReal)
    (b : Fin 4) (n : Fin 2048) (k : Fin 33) (c : Fin 128) : EReal :=
  hRow l2W l2b l1W l1b c3W c3b (fun f => X2 b (NB b n k) f) (D b n k) c

end Cert.Spec

namespace Cert.KernelIdeal.Val

open Idealize.ShloMosaic Idealize.ShloMosaic.TcCoe Cert.KernelIdeal Cert.KernelIdeal.Gen Cert.Spec
open Idealize.ShloMosaic.Pipeline (Dat)

variable (V : (c : Dev nD) → (b : Ref sig .tc) → Buf (Elt Ideal) ((c : Thread nD τ).loc b)) (c : Dev nD)
  {NB : Fin 4 → Fin 2048 → Fin 33 → Fin 2048} {D : Fin 4 → Fin 2048 → Fin 33 → EReal} {X2 : Fin 4 → Fin 2048 → Fin 48 → EReal}
  {l2W : Fin 48 → Fin 64 → EReal} {l2b l1W l1b : Fin 64 → EReal} {c3W : Fin 128 → Fin 128 → EReal} {c3b : Fin 128 → EReal}

theorem idx2 : ∀ t : Fin cfg2.N, win2_0.index t = ![(grid2.coords t 0).val, (grid2.coords t 1).val, 0]
    ∧ win2_1.index t = ![(grid2.coords t 0).val, (grid2.coords t 1).val, 0]
    ∧ win2_2.index t = ![(grid2.coords t 0).val, 0, 0]
    ∧ win2_3.index t = ![0, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![0, (grid2.coords t 0).val * 16 + (grid2.coords t 1).val, 0]
    ∧ win2_10.index t = ![(grid2.coords t 0).val * 16 + (grid2.coords t 1).val, 0, 0]
    ∧ win2_11.index t = ![(grid2.coords t 0).val * 16 + (grid2.coords t 1).val, 0, 0] := by
  decide +kernel

/-- The batch of a grid point. -/
def pB2 (t : Fin cfg2.N) : Fin 4 := ⟨(grid2.coords t 0).val, (grid2.coords t 0).isLt⟩
/-- The row block of a grid point. -/
def pQ2 (t : Fin cfg2.N) : Fin 16 := ⟨(grid2.coords t 1).val, (grid2.coords t 1).isLt⟩

variable (hN : ∀ b n k, V c main_v2_1 (ix3 b n k) = BitVec.ofNat 32 (NB b n k).val) (hD : ∀ b n k, V c main_v2_0 (ix3 b n k) = D b n k)
  (hX : ∀ b n f, V c main_v5 (ix3 b n f) = X2 b n f)
  (h2W : ∀ f j, V c main_arg7 (ix2 f j) = l2W f j) (h2b : ∀ j, V c main_v7 (ix2 0 j) = l2b j)
  (h1W : ∀ j, V c main_arg5 (ix2 0 j) = l1W j) (h1b : ∀ j, V c main_v8 (ix2 0 j) = l1b j)
  (h3W : ∀ o j, V c main_v6 (ix2 j o) = c3W o j) (h3b : ∀ o, V c main_v9 (ix2 0 o) = c3b o)

theorem in2_0 (t : Fin cfg2.N) (r : Fin 128) (k : Fin 33) : iblk2 V c 0 t (ix3 0 r k) = V c main_v2_1 (ix3 (pB2 t) (tileRow (pQ2 t) r) k) := by
  blk_ext [iblk2, idx2 t, tileRow, flat, pB2, pQ2]

theorem in2_1 (t : Fin cfg2.N) (r : Fin 128) (k : Fin 33) : iblk2 V c 1 t (ix3 0 r k) = V c main_v2_0 (ix3 (pB2 t) (tileRow (pQ2 t) r) k) := by
  blk_ext [iblk2, idx2 t, tileRow, flat, pB2, pQ2]

theorem in2_2 (t : Fin cfg2.N) (n : Fin 2048) (f : Fin 48) : iblk2 V c 2 t (ix3 0 n f) = V c main_v5 (ix3 (pB2 t) n f) := by
  blk_ext [iblk2, idx2 t, tileRow, flat, pB2, pQ2]

theorem in2_3 (t : Fin cfg2.N) (f : Fin 48) (j : Fin 64) : iblk2 V c 3 t (ix2 f j) = V c main_arg7 (ix2 f j) := by
  blk_ext [iblk2, idx2 t, tileRow, flat, pB2, pQ2]

theorem in2_4 (t : Fin cfg2.N) (j : Fin 64) : iblk2 V c 4 t (ix2 0 j) = V c main_v7 (ix2 0 j) := by
  blk_ext [iblk2, idx2 t, tileRow, flat, pB2, pQ2]

theorem in2_5 (t : Fin cfg2.N) (j : Fin 64) : iblk2 V c 5 t (ix2 0 j) = V c main_arg5 (ix2 0 j) := by
  blk_ext [iblk2, idx2 t, tileRow, flat, pB2, pQ2]

theorem in2_6 (t : Fin cfg2.N) (j : Fin 64) : iblk2 V c 6 t (ix2 0 j) = V c main_v8 (ix2 0 j) := by
  blk_ext [iblk2, idx2 t, tileRow, flat, pB2, pQ2]

theorem in2_8 (t : Fin cfg2.N) (j : Fin 128) : iblk2 V c 8 t (ix2 0 j) = V c main_v9 (ix2 0 j) := by
  blk_ext [iblk2, idx2 t, tileRow, flat, pB2, pQ2]

theorem in2_7 (t : Fin cfg2.N) (j o : Fin 128) : iblk2 V c 7 t (ix2 j o) = V c main_v6 (ix2 j o) := by
  blk_ext [iblk2, idx2 t, tileRow, flat, pB2, pQ2]

include hN in
theorem nb2 (t : Fin cfg2.N) (r : Fin 128) (k : Fin 33) :
    iblk2 V c 0 t (ix3 0 r k) = BitVec.ofNat 32 (NB (pB2 t) (tileRow (pQ2 t) r) k).val :=
  (in2_0 V c t r k).trans (hN _ _ _)

include hN hX in
theorem gath2 (t : Fin cfg2.N) (k : Fin 33) (r : Fin 128) (f : Fin 48) :
    gs (F := Ideal) (iblk2 V c 0 t) (iblk2 V c 2 t) k (ix2 r f) = X2 (pB2 t) (NB (pB2 t) (tileRow (pQ2 t) r) k) f := by
  refine (gs_at _ _ (fun r k => NB (pB2 t) (tileRow (pQ2 t) r) k) (nb2 V c hN t) k r f).trans ?_
  exact (in2_2 V c t _ f).trans (hX _ _ _)

include hN hD hX h2W h2b h1W h1b h3W h3b in
theorem feat2 (t : Fin cfg2.N) (k : Fin 33) (r : Fin 128) (o : Fin 128) :
    hs2 (F := Ideal) V c t k (ix2 r o) = hAt l2W l2b l1W l1b c3W c3b NB D X2 (pB2 t) (tileRow (pQ2 t) r) k o := by
  have e2 := fun n f => (in2_2 V c t n f).trans (hX _ _ _)
  have e1 := fun r k => (in2_1 V c t r k).trans (hD _ _ _)
  have e3 := fun f j => (in2_3 V c t f j).trans (h2W _ _)
  have e4 := fun j => (in2_4 V c t j).trans (h2b _)
  have e5 := fun j => (in2_5 V c t j).trans (h1W _)
  have e6 := fun j => (in2_6 V c t j).trans (h1b _)
  have e7 := fun j o => (in2_7 V c t j o).trans (h3W _ _)
  have e8 := fun j => (in2_8 V c t j).trans (h3b _)
  refine (hs_at _ _ _ _ _ _ _ _ _ (fun r k => NB (pB2 t) (tileRow (pQ2 t) r) k) (nb2 V c hN t) k r o).trans ?_
  unfold h2 hAt
  simp only [e1, e2, e3, e4, e5, e6, e7, e8]

theorem emb2_9 (t : Fin cfg2.N) (k : Fin 33) (r : Fin 128) (f : Fin 48) :
    (win2_9.blk t).view.emb (ix3 k r f) = ix3 k (flat (pB2 t) (tileRow (pQ2 t) r)) f := by
  blk_ext [idx2 t, tileRow, flat, pB2, pQ2]

/-- The array from its blocks. -/
theorem arr2_9_of (G : S33x8192x48.Idx → EReal)
    (h : ∀ (t : Fin cfg2.N) (z : S33x128x48.Idx), (outsAt2 (F := Ideal) V c t).1 z = G ((win2_9.blk t).view.emb z)) :
    (dat2 V c).arrAt 9 cfg2.N = G := by
  refine (dat2 V c).arrAt_eq_of_covers 9 _ (by decide +kernel) fun t hf y => ?_
  blk_simp
  rw [after2_9]
  exact h t y

include hN hX in
/-- The gathered features. -/
theorem arr2_9 : (dat2 V c).arrAt 9 cfg2.N
    = fun j : S33x8192x48.Idx => X2 (fB (j 1)) (NB (fB (j 1)) (fN (j 1)) (j 0)) (j 2) := by
  refine arr2_9_of V c _ fun t z => ?_
  obtain ⟨k, r, f, rfl⟩ : ∃ (k : Fin 33) (r : Fin 128) (f : Fin 48), z = ix3 k r f := ⟨z 0, z 1, z 2, eq_ix3 z⟩
  rw [emb2_9 t k r f, outsAt2_9]
  refine (gath2 V c hN hX t k r f).trans ?_
  show _ = X2 (fB (flat (pB2 t) (tileRow (pQ2 t) r))) (NB (fB (flat (pB2 t) (tileRow (pQ2 t) r))) (fN (flat (pB2 t) (tileRow (pQ2 t) r))) k) f
  rw [fB_flat, fN_flat]

theorem emb2_10 (t : Fin cfg2.N) (o : Fin 128) :
    (win2_10.blk t).view.emb (ix3 0 0 o) = ix3 (tileNo (pB2 t) (pQ2 t)) 0 o := by
  blk_ext [idx2 t, tileNo, pB2, pQ2]

/-- The array from its blocks. -/
theorem arr2_10_of (G : S64x1x128.Idx → EReal) (h : ∀ (t : Fin cfg2.N) (z : S1x1x128.Idx), (outsAt2 (F := Ideal) V c t).2.1 z = G ((win2_10.blk t).view.emb z)) :
    (dat2 V c).arrAt 10 cfg2.N = G := by
  refine (dat2 V c).arrAt_eq_of_covers 10 _ (by decide +kernel) fun t hf y => ?_
  blk_simp
  rw [after2_10]
  exact h t y

include hN hD hX h2W h2b h1W h1b h3W h3b in
/-- The blocks' sums. -/
theorem arr2_10 : (dat2 V c).arrAt 10 cfg2.N
    = fun j : S64x1x128.Idx => bSum fun p : Fin 33 × Fin 128 =>
      hAt l2W l2b l1W l1b c3W c3b NB D X2 (tB (j 0)) (tileRow (tQ (j 0)) p.2) p.1 (j 2) := by
  refine arr2_10_of V c _ fun t z => ?_
  obtain ⟨a, b, o, rfl⟩ : ∃ (a b : Fin 1) (o : Fin 128), z = ix3 a b o := ⟨z 0, z 1, z 2, eq_ix3 z⟩
  obtain rfl : a = 0 := Subsingleton.elim _ _
  obtain rfl : b = 0 := Subsingleton.elim _ _
  rw [emb2_10 t o]
  refine (tile2_10 V c t o).trans ?_
  show _ = bSum fun p : Fin 33 × Fin 128 =>
      hAt l2W l2b l1W l1b c3W c3b NB D X2 (tB (tileNo (pB2 t) (pQ2 t))) (tileRow (tQ (tileNo (pB2 t) (pQ2 t))) p.2) p.1 o
  rw [tB_tileNo, tQ_tileNo]
  exact congrArg (bSum) (funext fun p => feat2 V c hN hD hX h2W h2b h1W h1b h3W h3b t p.1 p.2 o)

theorem emb2_11 (t : Fin cfg2.N) (o : Fin 128) :
    (win2_11.blk t).view.emb (ix3 0 0 o) = ix3 (tileNo (pB2 t) (pQ2 t)) 0 o := by
  blk_ext [idx2 t, tileNo, pB2, pQ2]

/-- The array from its blocks. -/
theorem arr2_11_of (G : S64x1x128.Idx → EReal) (h : ∀ (t : Fin cfg2.N) (z : S1x1x128.Idx), (outsAt2 (F := Ideal) V c t).2.2 z = G ((win2_11.blk t).view.emb z)) :
    (dat2 V c).arrAt 11 cfg2.N = G := by
  refine (dat2 V c).arrAt_eq_of_covers 11 _ (by decide +kernel) fun t hf y => ?_
  blk_simp
  rw [after2_11]
  exact h t y

include hN hD hX h2W h2b h1W h1b h3W h3b in
/-- The blocks' squared deviations. -/
theorem arr2_11 : (dat2 V c).arrAt 11 cfg2.N
    = fun j : S64x1x128.Idx => bDev (Ideal.ofBits .f32 0x45840000#32) fun p : Fin 33 × Fin 128 =>
      hAt l2W l2b l1W l1b c3W c3b NB D X2 (tB (j 0)) (tileRow (tQ (j 0)) p.2) p.1 (j 2) := by
  refine arr2_11_of V c _ fun t z => ?_
  obtain ⟨a, b, o, rfl⟩ : ∃ (a b : Fin 1) (o : Fin 128), z = ix3 a b o := ⟨z 0, z 1, z 2, eq_ix3 z⟩
  obtain rfl : a = 0 := Subsingleton.elim _ _
  obtain rfl : b = 0 := Subsingleton.elim _ _
  rw [emb2_11 t o]
  refine (tile2_11 V c t o).trans ?_
  show _ = bDev (Ideal.ofBits .f32 0x45840000#32) fun p : Fin 33 × Fin 128 =>
      hAt l2W l2b l1W l1b c3W c3b NB D X2 (tB (tileNo (pB2 t) (pQ2 t))) (tileRow (tQ (tileNo (pB2 t) (pQ2 t))) p.2) p.1 o
  rw [tB_tileNo, tQ_tileNo]
  exact congrArg (bDev (Ideal.ofBits .f32 0x45840000#32)) (funext fun p => feat2 V c hN hD hX h2W h2b h1W h1b h3W h3b t p.1 p.2 o)

end Cert.KernelIdeal.Val

end
-- ==== Proof.Chan.lean ====
/-
  The mean and the variance from block sums and block deviations, and the blocks' numbering.
-/
module

public import proofs.«01_k».proof.Proof.Infinite
public import proofs.«01_k».proof.Proof.Index

@[expose] public section

noncomputable section

namespace Cert.Spec

open Idealize.ShloMosaic

/-- The mean does not depend on the numbering. -/
theorem mean_equiv {ι κ : Type} [Fintype ι] [Fintype κ] (e : ι ≃ κ) (cnt : EReal) (h : κ → EReal) :
    mean cnt (fun i => h (e i)) = mean cnt h := by
  unfold mean
  rw [Equiv.sum_comp e]

/-- Nor does the variance. -/
theorem variance_equiv {ι κ : Type} [Fintype ι] [Fintype κ] (e : ι ≃ κ) (cnt : EReal) (h : κ → EReal) :
    variance cnt (fun i => h (e i)) = variance cnt h := by
  unfold variance
  rw [mean_equiv e cnt h]
  exact mean_equiv e cnt fun i => (h i - mean cnt h) * (h i - mean cnt h)

/-- The mean from the blocks' sums. -/
theorem cMean_eq {ι κ : Type} [Fintype ι] [Fintype κ] (cnt : EReal) (h : ι → κ → EReal) :
    cMean cnt (fun b => bSum (h b)) = mean cnt fun p : ι × κ => h p.1 p.2 := by
  unfold cMean bSum mean
  rw [Fintype.sum_prod_type]

/-- The squared deviations of one block about any number, from those about its own mean. -/
theorem block_dev {κ : Type} [Fintype κ] (m : ℝ) (hm : m ≠ 0) (hk : (Fintype.card κ : ℝ) = m) (r : κ → ℝ) (mu : ℝ) :
    ∑ i, (r i - mu) * (r i - mu)
      = ∑ i, (r i - (∑ j, r j) / m) * (r i - (∑ j, r j) / m) + m * (((∑ j, r j) / m - mu) * ((∑ j, r j) / m - mu)) := by
  obtain ⟨S, hS⟩ : ∃ S, S = ∑ j, r j := ⟨_, rfl⟩
  have hc : ∀ u : ℝ, ∑ i, (r i - u) * (r i - u) = ∑ i, r i * r i - 2 * u * S + m * (u * u) := by
    intro u
    have : ∀ i, (r i - u) * (r i - u) = r i * r i - 2 * u * r i + u * u := fun i => by ring
    simp only [this, Finset.sum_add_distrib, Finset.sum_sub_distrib, ← Finset.mul_sum, Finset.sum_const, Finset.card_univ,
      nsmul_eq_mul, hk, ← hS]
    ring
  rw [← hS, hc, hc]
  field_simp
  ring

/-- The variance from the blocks' sums and deviations, all numbers real. -/
theorem cVar_real {ι κ : Type} [Fintype ι] [Fintype κ] (m cnt : ℝ) (hm : m ≠ 0) (hc : cnt ≠ 0) (hk : (Fintype.card κ : ℝ) = m)
    (h : ι → κ → EReal) (hh : ∀ b i, Re (h b i)) :
    cVar (m : EReal) (cnt : EReal) (fun b => bSum (h b)) (fun b => bDev (m : EReal) (h b))
      = variance (cnt : EReal) fun p : ι × κ => h p.1 p.2 := by
  obtain ⟨mu, hmu⟩ := Re.mean hc (h := fun p : ι × κ => h p.1 p.2) fun p => hh p.1 p.2
  unfold cVar variance
  rw [cMean_eq, hmu]
  choose r hr using hh
  unfold bSum bDev mean
  refine congrArg (fun s => Ideal.div s _) ?_
  simp only [hr]
  have hs : ∀ b, (∑ i, (r b i : EReal)) = ((∑ i, r b i : ℝ) : EReal) := fun b => (coe_sum _ _).symm
  simp only [hs, div_real _ hm]
  rw [Fintype.sum_prod_type]
  have e : (∑ b, ∑ i, (r b i - mu) * (r b i - mu) : ℝ)
      = ∑ b, ∑ i, (r b i - (∑ j, r b j) / m) * (r b i - (∑ j, r b j) / m)
        + m * ∑ b, ((∑ j, r b j) / m - mu) * ((∑ j, r b j) / m - mu) := by
    rw [Finset.mul_sum, ← Finset.sum_add_distrib]
    exact Finset.sum_congr rfl fun b _ => block_dev m hm hk (r b) mu
  have := congrArg (fun x : ℝ => (x : EReal)) e
  simp only [EReal.coe_add, EReal.coe_mul, coe_sum, EReal.coe_sub] at this ⊢
  exact this.symm

/-- The variance from the blocks' sums and deviations. With an infinite number both are infinite. -/
theorem cVar_eq {ι κ : Type} [Fintype ι] [Fintype κ] (m cnt : ℝ) (hm : 0 < m) (hc : 0 < cnt) (hk : (Fintype.card κ : ℝ) = m)
    (h : ι → κ → EReal) :
    cVar (m : EReal) (cnt : EReal) (fun b => bSum (h b)) (fun b => bDev (m : EReal) (h b))
      = variance (cnt : EReal) fun p : ι × κ => h p.1 p.2 := by
  by_cases hh : ∀ b i, Re (h b i)
  · exact cVar_real m cnt hm.ne' hc.ne' hk h hh
  · push Not at hh
    obtain ⟨b, i, hi⟩ := hh
    rw [variance_top hc (h := fun p : ι × κ => h p.1 p.2) (i := (b, i)) hi, cVar_top hm hc h b]
    rw [cMean_eq]
    exact mean_inf hc (i := (b, i)) hi

end Cert.Spec

end
-- ==== Proof.Array4.lean ====
/-
  The fifth region's arrays after its run: the perceptron's second layer, each block's column sums and squared deviations.
-/
module

public import proofs.«01_k».proof.Proof.Spec2
public import proofs.«01_k».proof.Proof.RoundsAt
public import proofs.«01_k».proof.Proof.Gen.KernelIdeal.Frame.Region4
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.Spec
open Idealize.ShloMosaic.Pipeline (Dat)

/-- A block's rows. -/
def row512 (q : Fin 16) (i : Fin 512) : Fin 8192 := ⟨q.val * 512 + i.val, by omega⟩

section Tile

variable (x0 : Vec Ideal S512x512 .f32) (x1 x2 x3 x4 : Vec Ideal S1x512 .f32) (x5 : Vec Ideal S512x512 .f32) (x6 : Vec Ideal S1x512 .f32)

/-- The tile's rows of the second layer. -/
def z2Rows (r o : Fin 512) : EReal := layer (fun i o => x5 (ix2 i o)) (fun o => x6 (ix2 0 o))
  (fun j => bnorm (x1 (ix2 0 j)) (x2 (ix2 0 j)) (x3 (ix2 0 j)) (x4 (ix2 0 j)) (x0 (ix2 r j))) o

theorem pay4_3 (r o : Fin 512) : k4_pay3 (View.ld x2 r4_0) (View.ld x0 r4_1) (View.ld x1 r4_0) (View.ld x3 r4_0) (View.ld x4 r4_0)
    (View.ld x5 r4_1) (View.ld x6 r4_0) (ix2 r o) = z2Rows x0 x1 x2 x3 x4 x5 x6 r o := by
  unfold k4_pay3
  pointwise
  rfl

theorem pay4_5 (o : Fin 512) : k4_pay5 x0 x1 x2 x3 x4 x5 x6 (ix2 0 o) = bSum fun r => z2Rows x0 x1 x2 x3 x4 x5 x6 r o := by
  unfold k4_pay5 k4_pay4
  pointwise
  simp only [pay4_3]
  rfl

theorem tile4_7 (r o : Fin 512) : out4_7 x0 x1 x2 x3 x4 x5 x6 (ix2 r o) = z2Rows x0 x1 x2 x3 x4 x5 x6 r o := by
  rw [out4_7]
  refine (congrFun (View.canon_unit_zero zero2 _ _) _).trans ?_
  exact pay4_3 x0 x1 x2 x3 x4 x5 x6 r o

theorem tile4_8 (o : Fin 512) : out4_8 x0 x1 x2 x3 x4 x5 x6 (ix3 0 0 o) = bSum fun r => z2Rows x0 x1 x2 x3 x4 x5 x6 r o := by
  rw [out4_8]
  refine (congrFun (View.canon_unit_zero zero3 _ _) _).trans ?_
  unfold k4_pay1
  pointwise
  exact pay4_5 x0 x1 x2 x3 x4 x5 x6 o

theorem tile4_9 (o : Fin 512) : out4_9 x0 x1 x2 x3 x4 x5 x6 (ix3 0 0 o)
    = bDev (Ideal.ofBits .f32 0x44000000#32) fun r => z2Rows x0 x1 x2 x3 x4 x5 x6 r o := by
  rw [out4_9]
  refine (congrFun (View.canon_unit_zero zero3 _ _) _).trans ?_
  unfold k4_pay2
  pointwise
  simp only [pay4_3, pay4_5]
  rfl

end Tile

variable (V : (c : Dev nD) → (b : Ref sig .tc) → Buf (Elt Ideal) ((c : Thread nD τ).loc b)) (c : Dev nD)
  {Z : Fin 8192 → Fin 512 → EReal} {mu var g be b2 : Fin 512 → EReal} {W2 : Fin 512 → Fin 512 → EReal}

theorem idx4 : ∀ t : Fin cfg4.N, win4_0.index t = ![(grid4.coords t 0).val, 0]
    ∧ win4_1.index t = ![0, 0] ∧ win4_2.index t = ![0, 0] ∧ win4_3.index t = ![0, 0] ∧ win4_4.index t = ![0, 0]
    ∧ win4_5.index t = ![0, 0] ∧ win4_6.index t = ![0, 0]
    ∧ win4_7.index t = ![(grid4.coords t 0).val, 0]
    ∧ win4_8.index t = ![(grid4.coords t 0).val, 0, 0] ∧ win4_9.index t = ![(grid4.coords t 0).val, 0, 0] := by
  decide +kernel

/-- The block of a grid point. -/
def pQ4 (t : Fin cfg4.N) : Fin 16 := ⟨(grid4.coords t 0).val, (grid4.coords t 0).isLt⟩

variable (hZ : ∀ n j, V c main_v37_0 (ix2 n j) = Z n j) (hmu : ∀ j, V c main_v43 (ix2 0 j) = mu j)
  (hvar : ∀ j, V c main_v57 (ix2 0 j) = var j) (hg : ∀ j, V c main_v58 (ix2 0 j) = g j) (hbe : ∀ j, V c main_v59 (ix2 0 j) = be j)
  (hW : ∀ i o, V c main_arg17 (ix2 i o) = W2 i o) (hb : ∀ o, V c main_v60 (ix2 0 o) = b2 o)

theorem in4_0 (t : Fin cfg4.N) (r j : Fin 512) : iblk4 V c 0 t (ix2 r j) = V c main_v37_0 (ix2 (row512 (pQ4 t) r) j) := by
  blk_ext [iblk4, idx4 t, row512, pQ4]

theorem in4_5 (t : Fin cfg4.N) (i o : Fin 512) : iblk4 V c 5 t (ix2 i o) = V c main_arg17 (ix2 i o) := by
  blk_ext [iblk4, idx4 t]

theorem in4_1 (t : Fin cfg4.N) (j : Fin 512) : iblk4 V c 1 t (ix2 0 j) = V c main_v43 (ix2 0 j) := by
  blk_ext [iblk4, idx4 t]

theorem in4_2 (t : Fin cfg4.N) (j : Fin 512) : iblk4 V c 2 t (ix2 0 j) = V c main_v57 (ix2 0 j) := by
  blk_ext [iblk4, idx4 t]

theorem in4_3 (t : Fin cfg4.N) (j : Fin 512) : iblk4 V c 3 t (ix2 0 j) = V c main_v58 (ix2 0 j) := by
  blk_ext [iblk4, idx4 t]

theorem in4_4 (t : Fin cfg4.N) (j : Fin 512) : iblk4 V c 4 t (ix2 0 j) = V c main_v59 (ix2 0 j) := by
  blk_ext [iblk4, idx4 t]

theorem in4_6 (t : Fin cfg4.N) (j : Fin 512) : iblk4 V c 6 t (ix2 0 j) = V c main_v60 (ix2 0 j) := by
  blk_ext [iblk4, idx4 t]

include hZ hmu hvar hg hbe hW hb in
theorem rows4 (t : Fin cfg4.N) (r o : Fin 512) :
    z2Rows (iblk4 V c 0 t) (iblk4 V c 1 t) (iblk4 V c 2 t) (iblk4 V c 3 t) (iblk4 V c 4 t) (iblk4 V c 5 t) (iblk4 V c 6 t) r o
      = layer W2 b2 (fun i => bnorm (mu i) (var i) (g i) (be i) (Z (row512 (pQ4 t) r) i)) o := by
  have e0 := fun j => (in4_0 V c t r j).trans (hZ _ j)
  have e1 := fun j => (in4_1 V c t j).trans (hmu j)
  have e2 := fun j => (in4_2 V c t j).trans (hvar j)
  have e3 := fun j => (in4_3 V c t j).trans (hg j)
  have e4 := fun j => (in4_4 V c t j).trans (hbe j)
  have e5 := fun i o => (in4_5 V c t i o).trans (hW i o)
  have e6 := fun j => (in4_6 V c t j).trans (hb j)
  unfold z2Rows layer
  simp only [e0, e1, e2, e3, e4, e5, e6]

theorem emb4_7 (t : Fin cfg4.N) (r o : Fin 512) :
    (win4_7.blk t).view.emb (ix2 r o) = ix2 (row512 (pQ4 t) r) o := by
  blk_ext [idx4 t, row512, pQ4]

/-- The array from its blocks. -/
theorem arr4_7_of (G : S8192x512.Idx → EReal) (h : ∀ (t : Fin cfg4.N) (z : S512x512.Idx), out4_7 (iblk4 V c 0 t) (iblk4 V c 1 t) (iblk4 V c 2 t) (iblk4 V c 3 t)
      (iblk4 V c 4 t) (iblk4 V c 5 t) (iblk4 V c 6 t) z = G ((win4_7.blk t).view.emb z)) :
    (dat4 V c).arrAt 7 cfg4.N = G := by
  refine (dat4 V c).arrAt_eq_of_covers 7 _ (by decide +kernel) fun t hf y => ?_
  blk_simp
  rw [after4_7]
  exact h t y

include hZ hmu hvar hg hbe hW hb in
/-- The second layer. -/
theorem arr4_7 : (dat4 V c).arrAt 7 cfg4.N = fun j : S8192x512.Idx => layer W2 b2 (fun i => bnorm (mu i) (var i) (g i) (be i) (Z (j 0) i)) (j 1) := by
  refine arr4_7_of V c _ fun t z => ?_
  obtain ⟨r, o, rfl⟩ : ∃ (r o : Fin 512), z = ix2 r o := ⟨z 0, z 1, eq_ix2 z⟩
  rw [emb4_7 t r o]
  refine (tile4_7 _ _ _ _ _ _ _ r o).trans ?_
  exact rows4 V c hZ hmu hvar hg hbe hW hb t r o

theorem emb4_8 (t : Fin cfg4.N) (o : Fin 512) :
    (win4_8.blk t).view.emb (ix3 0 0 o) = ix3 (pQ4 t) 0 o := by
  blk_ext [idx4 t, pQ4]

/-- The array from its blocks. -/
theorem arr4_8_of (G : S16x1x512.Idx → EReal) (h : ∀ (t : Fin cfg4.N) (z : S1x1x512.Idx), out4_8 (iblk4 V c 0 t) (iblk4 V c 1 t) (iblk4 V c 2 t) (iblk4 V c 3 t)
      (iblk4 V c 4 t) (iblk4 V c 5 t) (iblk4 V c 6 t) z = G ((win4_8.blk t).view.emb z)) :
    (dat4 V c).arrAt 8 cfg4.N = G := by
  refine (dat4 V c).arrAt_eq_of_covers 8 _ (by decide +kernel) fun t hf y => ?_
  blk_simp
  rw [after4_8]
  exact h t y

include hZ hmu hvar hg hbe hW hb in
/-- Its blocks' sums. -/
theorem arr4_8 : (dat4 V c).arrAt 8 cfg4.N
    = fun j : S16x1x512.Idx => bSum fun r : Fin 512 => layer W2 b2 (fun i => bnorm (mu i) (var i) (g i) (be i) (Z (row512 (j 0) r) i)) (j 2) := by
  refine arr4_8_of V c _ fun t z => ?_
  obtain ⟨a, b, o, rfl⟩ : ∃ (a b : Fin 1) (o : Fin 512), z = ix3 a b o := ⟨z 0, z 1, z 2, eq_ix3 z⟩
  obtain rfl : a = 0 := Subsingleton.elim _ _
  obtain rfl : b = 0 := Subsingleton.elim _ _
  rw [emb4_8 t o]
  refine (tile4_8 _ _ _ _ _ _ _ o).trans ?_
  exact congrArg (bSum ) (funext fun r => rows4 V c hZ hmu hvar hg hbe hW hb t r o)

theorem emb4_9 (t : Fin cfg4.N) (o : Fin 512) :
    (win4_9.blk t).view.emb (ix3 0 0 o) = ix3 (pQ4 t) 0 o := by
  blk_ext [idx4 t, pQ4]

/-- The array from its blocks. -/
theorem arr4_9_of (G : S16x1x512.Idx → EReal) (h : ∀ (t : Fin cfg4.N) (z : S1x1x512.Idx), out4_9 (iblk4 V c 0 t) (iblk4 V c 1 t) (iblk4 V c 2 t) (iblk4 V c 3 t)
      (iblk4 V c 4 t) (iblk4 V c 5 t) (iblk4 V c 6 t) z = G ((win4_9.blk t).view.emb z)) :
    (dat4 V c).arrAt 9 cfg4.N = G := by
  refine (dat4 V c).arrAt_eq_of_covers 9 _ (by decide +kernel) fun t hf y => ?_
  blk_simp
  rw [after4_9]
  exact h t y

include hZ hmu hvar hg hbe hW hb in
/-- Its blocks' squared deviations. -/
theorem arr4_9 : (dat4 V c).arrAt 9 cfg4.N
    = fun j : S16x1x512.Idx => bDev (Ideal.ofBits .f32 0x44000000#32) fun r : Fin 512 => layer W2 b2 (fun i => bnorm (mu i) (var i) (g i) (be i) (Z (row512 (j 0) r) i)) (j 2) := by
  refine arr4_9_of V c _ fun t z => ?_
  obtain ⟨a, b, o, rfl⟩ : ∃ (a b : Fin 1) (o : Fin 512), z = ix3 a b o := ⟨z 0, z 1, z 2, eq_ix3 z⟩
  obtain rfl : a = 0 := Subsingleton.elim _ _
  obtain rfl : b = 0 := Subsingleton.elim _ _
  rw [emb4_9 t o]
  refine (tile4_9 _ _ _ _ _ _ _ o).trans ?_
  exact congrArg (bDev (Ideal.ofBits .f32 0x44000000#32) ) (funext fun r => rows4 V c hZ hmu hvar hg hbe hW hb t r o)

end Cert.KernelIdeal.Val

end
-- ==== Proof.Blocks.lean ====
/-
  The blocks the kernel sums over, numbered by cloud, point and neighbour.
-/
module

public import proofs.«01_k».proof.Proof.Chan
public import proofs.«01_k».proof.Proof.Array0
public import proofs.«01_k».proof.Proof.Array4

@[expose] public section

noncomputable section

namespace Cert.Spec

open Idealize.ShloMosaic Cert.KernelIdeal.Val

/-- Tiles of 128 points with all their neighbours. -/
def blkH : Fin 64 × (Fin 33 × Fin 128) ≃ Fin 4 × Fin 2048 × Fin 33 where
  toFun x := (tB x.1, tileRow (tQ x.1) x.2.2, x.2.1)
  invFun y := (tileNo y.1 ⟨y.2.1.val / 128, by omega⟩, (y.2.2, ⟨y.2.1.val % 128, by omega⟩))
  left_inv := by
    rintro ⟨p, k, r⟩
    refine Prod.ext (Fin.ext ?_) (Prod.ext rfl (Fin.ext ?_)) <;> simp only [tileNo, tB, tQ, tileRow] <;> omega
  right_inv := by
    rintro ⟨b, n, k⟩
    refine Prod.ext (Fin.ext ?_) (Prod.ext (Fin.ext ?_) rfl) <;> simp only [tileNo, tB, tQ, tileRow] <;> omega

/-- Tiles of 128 points. -/
def blkP : Fin 64 × Fin 128 ≃ Fin 4 × Fin 2048 where
  toFun x := (tB x.1, tileRow (tQ x.1) x.2)
  invFun y := (tileNo y.1 ⟨y.2.val / 128, by omega⟩, ⟨y.2.val % 128, by omega⟩)
  left_inv := by
    rintro ⟨p, r⟩
    refine Prod.ext (Fin.ext ?_) (Fin.ext ?_) <;> simp only [tileNo, tB, tQ, tileRow] <;> omega
  right_inv := by
    rintro ⟨b, n⟩
    refine Prod.ext (Fin.ext ?_) (Fin.ext ?_) <;> simp only [tileNo, tB, tQ, tileRow] <;> omega

/-- Blocks of 512 flat rows. -/
def blkR : Fin 16 × Fin 512 ≃ Fin 4 × Fin 2048 where
  toFun x := (fB (row512 x.1 x.2), fN (row512 x.1 x.2))
  invFun y := (⟨(flat y.1 y.2).val / 512, by omega⟩, ⟨(flat y.1 y.2).val % 512, by omega⟩)
  left_inv := by
    rintro ⟨p, r⟩
    refine Prod.ext (Fin.ext ?_) (Fin.ext ?_) <;> simp only [flat, fB, fN, row512] <;> omega
  right_inv := by
    rintro ⟨b, n⟩
    refine Prod.ext (Fin.ext ?_) (Fin.ext ?_) <;> simp only [flat, fB, fN, row512] <;> omega

section H

variable (h : Fin 4 → Fin 2048 → Fin 33 → EReal)

theorem meanH_eq (cnt : EReal) :
    cMean cnt (fun b : Fin 64 => bSum fun p : Fin 33 × Fin 128 => h (tB b) (tileRow (tQ b) p.2) p.1)
      = mean cnt fun p : Fin 4 × Fin 2048 × Fin 33 => h p.1 p.2.1 p.2.2 :=
  (cMean_eq cnt fun (b : Fin 64) (p : Fin 33 × Fin 128) => h (tB b) (tileRow (tQ b) p.2) p.1).trans
    (mean_equiv blkH cnt fun p : Fin 4 × Fin 2048 × Fin 33 => h p.1 p.2.1 p.2.2)

theorem varH_eq :
    cVar (Ideal.ofBits .f32 0x45840000#32) (Ideal.ofBits .f32 0x48840000#32)
        (fun b : Fin 64 => bSum fun p : Fin 33 × Fin 128 => h (tB b) (tileRow (tQ b) p.2) p.1)
        (fun b : Fin 64 => bDev (Ideal.ofBits .f32 0x45840000#32) fun p : Fin 33 × Fin 128 => h (tB b) (tileRow (tQ b) p.2) p.1)
      = variance (Ideal.ofBits .f32 0x48840000#32) fun p : Fin 4 × Fin 2048 × Fin 33 => h p.1 p.2.1 p.2.2 := by
  rw [bits_4224, bits_270336]
  exact (cVar_eq 4224 270336 (by norm_num) (by norm_num) (by simp)
    (fun (b : Fin 64) (p : Fin 33 × Fin 128) => h (tB b) (tileRow (tQ b) p.2) p.1)).trans
    (variance_equiv blkH _ fun p : Fin 4 × Fin 2048 × Fin 33 => h p.1 p.2.1 p.2.2)

end H

section Z

variable (h : Fin 4 → Fin 2048 → EReal)

theorem meanP_eq (cnt : EReal) :
    cMean cnt (fun b : Fin 64 => bSum fun r : Fin 128 => h (tB b) (tileRow (tQ b) r))
      = mean cnt fun p : Fin 4 × Fin 2048 => h p.1 p.2 :=
  (cMean_eq cnt fun (b : Fin 64) (r : Fin 128) => h (tB b) (tileRow (tQ b) r)).trans
    (mean_equiv blkP cnt fun p : Fin 4 × Fin 2048 => h p.1 p.2)

theorem varP_eq :
    cVar (Ideal.ofBits .f32 0x43000000#32) (Ideal.ofBits .f32 0x46000000#32)
        (fun b : Fin 64 => bSum fun r : Fin 128 => h (tB b) (tileRow (tQ b) r))
        (fun b : Fin 64 => bDev (Ideal.ofBits .f32 0x43000000#32) fun r : Fin 128 => h (tB b) (tileRow (tQ b) r))
      = variance (Ideal.ofBits .f32 0x46000000#32) fun p : Fin 4 × Fin 2048 => h p.1 p.2 := by
  rw [bits_128, bits_8192]
  exact (cVar_eq 128 8192 (by norm_num) (by norm_num) (by simp)
    (fun (b : Fin 64) (r : Fin 128) => h (tB b) (tileRow (tQ b) r))).trans
    (variance_equiv blkP _ fun p : Fin 4 × Fin 2048 => h p.1 p.2)

theorem meanR_eq (cnt : EReal) :
    cMean cnt (fun b : Fin 16 => bSum fun r : Fin 512 => h (fB (row512 b r)) (fN (row512 b r)))
      = mean cnt fun p : Fin 4 × Fin 2048 => h p.1 p.2 :=
  (cMean_eq cnt fun (b : Fin 16) (r : Fin 512) => h (fB (row512 b r)) (fN (row512 b r))).trans
    (mean_equiv blkR cnt fun p : Fin 4 × Fin 2048 => h p.1 p.2)

theorem varR_eq :
    cVar (Ideal.ofBits .f32 0x44000000#32) (Ideal.ofBits .f32 0x46000000#32)
        (fun b : Fin 16 => bSum fun r : Fin 512 => h (fB (row512 b r)) (fN (row512 b r)))
        (fun b : Fin 16 => bDev (Ideal.ofBits .f32 0x44000000#32) fun r : Fin 512 => h (fB (row512 b r)) (fN (row512 b r)))
      = variance (Ideal.ofBits .f32 0x46000000#32) fun p : Fin 4 × Fin 2048 => h p.1 p.2 := by
  rw [bits_512, bits_8192]
  exact (cVar_eq 512 8192 (by norm_num) (by norm_num) (by simp)
    (fun (b : Fin 16) (r : Fin 512) => h (fB (row512 b r)) (fN (row512 b r)))).trans
    (variance_equiv blkR _ fun p : Fin 4 × Fin 2048 => h p.1 p.2)

end Z

end Cert.Spec

end
-- ==== Proof.Fold2.lean ====
/-
  The statistics region: the gathered features and the scoring features' mean and variance.
-/
module

public import proofs.«01_k».proof.Proof.Fold1
public import proofs.«01_k».proof.Proof.Array2
public import proofs.«01_k».proof.Proof.Blocks

@[expose] public section

set_option maxRecDepth 16384

noncomputable section

namespace Cert.KernelIdeal.Val

open Idealize.ShloMosaic Idealize.ShloMosaic.TcCoe Cert.KernelIdeal Cert.KernelIdeal.Gen Cert.Spec
open Cert.ReferenceIdeal.Val (X0 X1r X2r NBr Hr muH varH Sr Z1r muZ1 varZ1 Z2r muZ2 varZ2 cntH cntZ Finite x1_at x2_at dist0_ne_top dist1_ne_top
  re_X0 level_X1)

variable {m : (ℓ : Loc nD τ sig) → Buf (Elt Ideal) ℓ} (ρ : Dev nD → PrngReg) {c : Dev nD}
  {x0 : FVec Ideal S4x2048x3 .f32}
  {x1 : FVec Ideal S6x16 .f32}
  {x2 : FVec Ideal S16 .f32}
  {x3 : FVec Ideal S32x48 .f32}
  {x4 : FVec Ideal S48 .f32}
  {x5 : FVec Ideal S1x64 .f32}
  {x6 : FVec Ideal S64 .f32}
  {x7 : FVec Ideal S48x64 .f32}
  {x8 : FVec Ideal S64 .f32}
  {x9 : FVec Ideal S128x128 .f32}
  {x10 : FVec Ideal S128 .f32}
  {x11 : FVec Ideal S128 .f32}
  {x12 : FVec Ideal S128 .f32}
  {x13 : FVec Ideal S480x512 .f32}
  {x14 : FVec Ideal S512 .f32}
  {x15 : FVec Ideal S512 .f32}
  {x16 : FVec Ideal S512 .f32}
  {x17 : FVec Ideal S512x512 .f32}
  {x18 : FVec Ideal S512 .f32}
  {x19 : FVec Ideal S512 .f32}
  {x20 : FVec Ideal S512 .f32}

variable (A : Args m c x0 x1 x2 x3 x4 x5 x6 x7 x8 x9 x10 x11 x12 x13 x14 x15 x16 x17 x18 x19 x20) (h : Finite x0 x1 x11 x12)

include A h in
theorem v5_v2_0 (b : Fin 4) (n : Fin 2048) (k : Fin 33) : V5 m ρ c main_v2_0 (ix3 b n k) = sqDist (X0 x0 b) n (NBr x0 b n k) :=
  (congrFun (W5_of m ρ c main_v2_0 (by decide)) _).trans ((congrFun (W4_of m ρ c main_v2_0 (by decide)) _).trans ((congrFun (W3_of m ρ c main_v2_0 (by decide)) _).trans (s2_v2_0 ρ A h b n k)))

include A in
theorem v5_v2_1 (b : Fin 4) (n : Fin 2048) (k : Fin 33) : V5 m ρ c main_v2_1 (ix3 b n k) = BitVec.ofNat 32 (NBr x0 b n k).val :=
  (congrFun (W5_of m ρ c main_v2_1 (by decide)) _).trans ((congrFun (W4_of m ρ c main_v2_1 (by decide)) _).trans ((congrFun (W3_of m ρ c main_v2_1 (by decide)) _).trans (s2_v2_1 ρ A b n k)))

include A h in
theorem v5_v5 (b : Fin 4) (n : Fin 2048) (f : Fin 48) : V5 m ρ c main_v5 (ix3 b n f) = X2r x0 x1 x2 x3 x4 b n f :=
  (congrFun (W5_of m ρ c main_v5 (by decide)) _).trans (s4_v5 ρ A h b n f)

include A in
theorem v5_v6 (o j : Fin 128) : V5 m ρ c main_v6 (ix2 j o) = x9 (ix2 o j) := (h2_v6 (W4 m ρ c) j o).trans ((congrFun (W4_args m ρ c main_arg9 (by decide)) _).trans (A.e9 _))

include A h in
/-- The gathered features. -/
theorem s6_v10_0 (b : Fin 4) (n : Fin 2048) (k : Fin 33) (f : Fin 48) :
    (W6 m ρ c (Proc.devRef .tc main_v10_0) : FVec Ideal S33x8192x48 .f32) (ix3 k (flat b n) f) = X2r x0 x1 x2 x3 x4 b (NBr x0 b n k) f := by
  refine (congrFun ((W6_arr m ρ c 9).trans (arr2_9 (V5 m ρ) c (NB := NBr x0) (X2 := X2r x0 x1 x2 x3 x4) (v5_v2_1 ρ A) (v5_v5 ρ A h))) (ix3 k (flat b n) f)).trans ?_
  show X2r x0 x1 x2 x3 x4 (fB (flat b n)) (NBr x0 (fB (flat b n)) (fN (flat b n)) k) f = _
  rw [fB_flat, fN_flat]

include A h in
/-- The blocks' sums of the scoring features. -/
theorem s6_v10_1 (b : Fin 64) (o : Fin 128) :
    (W6 m ρ c (Proc.devRef .tc main_v10_1) : FVec Ideal S64x1x128 .f32) (ix3 b 0 o) = bSum fun p : Fin 33 × Fin 128 => Hr x0 x1 x2 x3 x4 x5 x6 x7 x8 x9 x10 (tB b) (tileRow (tQ b) p.2) p.1 o :=
  congrFun ((W6_arr m ρ c 10).trans (arr2_10 (V5 m ρ) c (NB := NBr x0) (D := fun b n k => sqDist (X0 x0 b) n (NBr x0 b n k)) (X2 := X2r x0 x1 x2 x3 x4)
    (l2W := fun f j => x7 (ix2 f j)) (l2b := fun j => x8 (ix1 j)) (l1W := fun j => x5 (ix2 0 j)) (l1b := fun j => x6 (ix1 j))
    (c3W := fun o j => x9 (ix2 o j)) (c3b := fun o => x10 (ix1 o))
    (v5_v2_1 ρ A) (v5_v2_0 ρ A h) (v5_v5 ρ A h) (fun _ _ => (congrFun (W5_args m ρ c main_arg7 (by decide)) _).trans (A.e7 _)) (fun j => (h2_v7 (W4 m ρ c) j).trans ((congrFun (W4_args m ρ c main_arg8 (by decide)) _).trans (A.e8 _)))
    (fun _ => (congrFun (W5_args m ρ c main_arg5 (by decide)) _).trans (A.e5 _)) (fun j => (h2_v8 (W4 m ρ c) j).trans ((congrFun (W4_args m ρ c main_arg6 (by decide)) _).trans (A.e6 _))) (v5_v6 ρ A) (fun o => (h2_v9 (W4 m ρ c) o).trans ((congrFun (W4_args m ρ c main_arg10 (by decide)) _).trans (A.e10 _))))) (ix3 b 0 o)

include A h in
/-- The blocks' squared deviations of the scoring features. -/
theorem s6_v10_2 (b : Fin 64) (o : Fin 128) :
    (W6 m ρ c (Proc.devRef .tc main_v10_2) : FVec Ideal S64x1x128 .f32) (ix3 b 0 o) = bDev (Ideal.ofBits .f32 0x45840000#32) fun p : Fin 33 × Fin 128 => Hr x0 x1 x2 x3 x4 x5 x6 x7 x8 x9 x10 (tB b) (tileRow (tQ b) p.2) p.1 o :=
  congrFun ((W6_arr m ρ c 11).trans (arr2_11 (V5 m ρ) c (NB := NBr x0) (D := fun b n k => sqDist (X0 x0 b) n (NBr x0 b n k)) (X2 := X2r x0 x1 x2 x3 x4)
    (l2W := fun f j => x7 (ix2 f j)) (l2b := fun j => x8 (ix1 j)) (l1W := fun j => x5 (ix2 0 j)) (l1b := fun j => x6 (ix1 j))
    (c3W := fun o j => x9 (ix2 o j)) (c3b := fun o => x10 (ix1 o))
    (v5_v2_1 ρ A) (v5_v2_0 ρ A h) (v5_v5 ρ A h) (fun _ _ => (congrFun (W5_args m ρ c main_arg7 (by decide)) _).trans (A.e7 _)) (fun j => (h2_v7 (W4 m ρ c) j).trans ((congrFun (W4_args m ρ c main_arg8 (by decide)) _).trans (A.e8 _)))
    (fun _ => (congrFun (W5_args m ρ c main_arg5 (by decide)) _).trans (A.e5 _)) (fun j => (h2_v8 (W4 m ρ c) j).trans ((congrFun (W4_args m ρ c main_arg6 (by decide)) _).trans (A.e6 _))) (v5_v6 ρ A) (fun o => (h2_v9 (W4 m ρ c) o).trans ((congrFun (W4_args m ρ c main_arg10 (by decide)) _).trans (A.e10 _))))) (ix3 b 0 o)

include A h in
/-- The scoring features' mean. -/
theorem v7_v16 (o : Fin 128) : V7 m ρ c main_v16 (ix2 0 o) = muH x0 x1 x2 x3 x4 x5 x6 x7 x8 x9 x10 o :=
  ((h3_v16 (W6 m ρ c) o).trans (congrArg (cMean _) (funext fun b => s6_v10_1 ρ A h b o))).trans
    (meanH_eq (fun b n k => Hr x0 x1 x2 x3 x4 x5 x6 x7 x8 x9 x10 b n k o) _)

include A h in
/-- The scoring features' variance. -/
theorem v7_v30 (o : Fin 128) : V7 m ρ c main_v30 (ix2 0 o) = varH x0 x1 x2 x3 x4 x5 x6 x7 x8 x9 x10 o :=
  ((h3_v30 (W6 m ρ c) o).trans (congrArg₂ (cVar _ _) (funext fun b => s6_v10_1 ρ A h b o) (funext fun b => s6_v10_2 ρ A h b o))).trans
    (varH_eq (fun b n k => Hr x0 x1 x2 x3 x4 x5 x6 x7 x8 x9 x10 b n k o))

end Cert.KernelIdeal.Val

end
-- ==== Proof.Body3.lean ====
/-
  The scoring body folded into the rounds of `Score`.
-/
module

public import proofs.«01_k».proof.Proof.Score
public import proofs.«01_k».proof.Proof.Gen.KernelIdeal.Frame.Region3

@[expose] public section

set_option maxRecDepth 16384

noncomputable section

namespace Cert.KernelIdeal.Val

open Idealize.ShloMosaic Cert.KernelIdeal Cert.KernelIdeal.Gen

variable {F : FTy → Type} [FloatOps F] [Named F]

theorem inb_plane : ∀ (k : Fin 33) a, (![k.val, 0, 0] : Fin 3 → ℕ) a + S1x128x48.size a ≤ S33x128x48.size a := by decide

/-- One neighbour's plane of gathered features. -/
def plane (x : Vec F S33x128x48 .bf16) (k : Fin 33) : FVec F S128x48 .bf16 :=
  shapeCast S128x48 (View.ld x (Rect.unit (s := S33x128x48) ![k.val, 0, 0] S1x128x48.size (inb_plane k)))
    shapeCasts_S1x128x48_S128x48

variable (x0 : Vec F S33x128x48 .bf16) (x1 : Vec F S1x128x33 .i32) (x2 : Vec F S1x128x33 .f32) (x3 : Vec F S1x2048x48 .f32)
  (x4 : Vec F S48x64 .f32) (x5 : Vec F S1x64 .f32) (x6 : Vec F S1x64 .f32) (x7 : Vec F S1x64 .f32) (x8 : Vec F S128x128 .f32)
  (x9 : Vec F S1x128 .f32) (x10 : Vec F S1x128 .f32) (x11 : Vec F S1x128 .f32) (x12 : Vec F S1x128 .f32)
  (x13 : Vec F S1x128 .f32) (x14 : Vec F S480x512 .f32) (x15 : Vec F S1x512 .f32)

/-- The thirty-three scores of a tile's rows. -/
def scores : FVec F S128x33 .f32 := cols fun t =>
  scoreCol (hk (plane x0 (Fin.ofNat 33 t))
      (weight (colAt (shapeCast S128x33 (View.ld x2 r3_5) shapeCasts_S1x128x33_S128x33) (Fin.ofNat 33 t)))
      (k3_pay2 (View.ld x4 r3_0)) (k3_pay4 (View.ld x5 r3_2)) (View.ld x6 r3_2) (k3_pay5 (View.ld x7 r3_2))
      (k3_pay3 (View.ld x8 r3_1)) (k3_pay6 (View.ld x9 r3_3)))
    (k3_pay7 (View.ld x10 r3_3)) (k3_pay8 (View.ld x11 r3_3)) (k3_pay9 (View.ld x12 r3_3)) (k3_pay10 (View.ld x13 r3_3))

/-- The tile's rows of the perceptron's first layer. -/
def zRows : FVec F S128x512 .f32 :=
  addf (zs (scores x0 x2 x4 x5 x6 x7 x8 x9 x10 x11 x12 x13) (k3_pay72 (View.ld x1 r3_5)) (k3_pay73 (View.ld x3 r3_38))
      (k3_pay74 (View.ld x14 r3_39)) 10)
    (broadcastTo S128x512 (shapeCast S1x512 (View.ld x15 r3_40) shapeCasts_S1x512_S1x512) broadcasts_S1x512_S128x512)

/-- Its column sums. -/
def zSums (z : FVec F S128x512 .f32) : FVec F S1x512 .f32 :=
  shapeCast S1x512 (multiReduction .add [0] S512 z 0x00000000#32 reduces_S128x512_S512 (.inl rfl) rfl) shapeCasts_S512_S1x512

theorem out3_16_eq : out3_16 x0 x1 x2 x3 x4 x5 x6 x7 x8 x9 x10 x11 x12 x13 x14 x15
    = View.canon [⟨r3_41, zRows x0 x1 x2 x3 x4 x5 x6 x7 x8 x9 x10 x11 x12 x13 x14 x15⟩] := by
  rfl

theorem out3_17_eq : out3_17 x0 x1 x2 x3 x4 x5 x6 x7 x8 x9 x10 x11 x12 x13 x14 x15
    = View.canon [⟨r3_42, shapeCast S1x1x512 (zSums (zRows x0 x1 x2 x3 x4 x5 x6 x7 x8 x9 x10 x11 x12 x13 x14 x15))
        shapeCasts_S1x512_S1x1x512⟩] := by
  rfl

theorem out3_18_eq : out3_18 x0 x1 x2 x3 x4 x5 x6 x7 x8 x9 x10 x11 x12 x13 x14 x15
    = View.canon [⟨r3_42, k3_pay1 (zRows x0 x1 x2 x3 x4 x5 x6 x7 x8 x9 x10 x11 x12 x13 x14 x15)
        (zSums (zRows x0 x1 x2 x3 x4 x5 x6 x7 x8 x9 x10 x11 x12 x13 x14 x15))⟩] := by
  rfl

end Cert.KernelIdeal.Val

end
-- ==== Proof.Tile3.lean ====
/-
  The scoring tile read at an index.
-/
module

public import proofs.«01_k».proof.Proof.ScoreAt
public import proofs.«01_k».proof.Proof.Body3
public import proofs.«01_k».proof.Proof.Spec2
public import proofs.«01_k».proof.Proof.Index

@[expose] public section

set_option maxRecDepth 16384

noncomputable section

namespace Cert.KernelIdeal.Val

open Idealize.ShloMosaic Cert.KernelIdeal Cert.KernelIdeal.Gen Cert.Spec

theorem plane_at (x : Vec Ideal S33x128x48 .bf16) (k : Fin 33) (r : Fin 128) (f : Fin 48) : plane x k (ix2 r f) = x (ix3 k r f) := by
  unfold plane
  have h : ∀ y : Vec Ideal S1x128x48 .bf16, shapeCast S128x48 y shapeCasts_S1x128x48_S128x48 (ix2 r f) = y (ix3 0 r f) := by
    intro y; pointwise
  refine (h _).trans ?_
  refine congrArg x ?_
  funext a
  refine Fin.ext ?_
  fin_cases a
  · show k.val + 1 * 0 = k.val; omega
  · show 0 + 1 * r.val = r.val; omega
  · show 0 + 1 * f.val = f.val; omega

variable (x0 : Vec Ideal S33x128x48 .bf16) (x1 : Vec Ideal S1x128x33 .i32) (x2 : Vec Ideal S1x128x33 .f32) (x3 : Vec Ideal S1x2048x48 .f32)
  (x4 : Vec Ideal S48x64 .f32) (x5 : Vec Ideal S1x64 .f32) (x6 : Vec Ideal S1x64 .f32) (x7 : Vec Ideal S1x64 .f32) (x8 : Vec Ideal S128x128 .f32)
  (x9 : Vec Ideal S1x128 .f32) (x10 : Vec Ideal S1x128 .f32) (x11 : Vec Ideal S1x128 .f32) (x12 : Vec Ideal S1x128 .f32)
  (x13 : Vec Ideal S1x128 .f32) (x14 : Vec Ideal S480x512 .f32) (x15 : Vec Ideal S1x512 .f32)

/-- A tile's scores. -/
def sc3 (r : Fin 128) (k : Fin 33) : EReal :=
  score (fun c => x10 (ix2 0 c)) (fun c => x11 (ix2 0 c)) (fun c => x12 (ix2 0 c)) (fun c => x13 (ix2 0 c))
    (hRow (fun f j => x4 (ix2 f j)) (fun j => x5 (ix2 0 j)) (fun j => x6 (ix2 0 j)) (fun j => x7 (ix2 0 j)) (fun c j => x8 (ix2 j c))
      (fun c => x9 (ix2 0 c)) (fun f => x0 (ix3 k r f)) (x2 (ix3 0 r k)))

theorem scores_at (r : Fin 128) (k : Fin 33) : scores x0 x2 x4 x5 x6 x7 x8 x9 x10 x11 x12 x13 (ix2 r k)
    = sc3 x0 x2 x4 x5 x6 x7 x8 x9 x10 x11 x12 x13 r k := by
  have hk' : Fin.ofNat 33 k.val = k := Fin.ext (Nat.mod_eq_of_lt k.isLt)
  unfold scores
  rw [cols_at, hk', scoreCol_at]
  unfold sc3 score
  refine congrArg (Finset.univ.sup) (funext fun c => ?_)
  have hw : weight (F := Ideal) (colAt (shapeCast S128x33 (View.ld x2 r3_5) shapeCasts_S1x128x33_S128x33) k) (ix2 r 0)
      = Ideal.exp (-(x2 (ix3 0 r k))) := by
    refine (weight_at _ r).trans ?_
    rw [colAt_at]; pointwise
  rw [hk_at _ _ _ _ _ _ _ _ r _ hw c]
  simp only [plane_at]
  unfold k3_pay2 k3_pay4 k3_pay5 k3_pay3 k3_pay6 k3_pay7 k3_pay8 k3_pay9 k3_pay10
  pointwise
  rfl

variable {x0 x1 x2 x3 x4 x5 x6 x7 x8 x9 x10 x11 x12 x13 x14 x15}

theorem zRows_at (nb : Fin 128 → Fin 33 → Fin 2048) (h1 : ∀ r k, x1 (ix3 0 r k) = BitVec.ofNat 32 (nb r k).val) (r : Fin 128) (o : Fin 512) :
    zRows x0 x1 x2 x3 x4 x5 x6 x7 x8 x9 x10 x11 x12 x13 x14 x15 (ix2 r o)
      = zRow (fun t f o => x14 (ix2 (blkRow t f) o)) (fun o => x15 (ix2 0 o))
          (fun t f => x3 (ix3 0 (nb r (best (sc3 x0 x2 x4 x5 x6 x7 x8 x9 x10 x11 x12 x13 r) t.val)) f)) o := by
  unfold zRows zRow
  pointwise
  rw [zs_at _ _ _ _ (fun r k => nb r (Fin.ofNat 33 k)) (fun r k => ?_) (fun t f o => x14 (ix2 (blkRow t f) o)) (fun t f h o => ?_)]
  · simp only [scores_at]
    refine congrArg (· + _) (Finset.sum_congr rfl fun t _ => Finset.sum_congr rfl fun f _ => ?_)
    unfold k3_pay73
    pointwise
    have : ∀ k : Fin 33, Fin.ofNat 33 k.val = k := fun k => Fin.ext (Nat.mod_eq_of_lt k.isLt)
    rw [this]
    rfl
  · have hk' : Fin.ofNat 33 k.val = k := Fin.ext (Nat.mod_eq_of_lt k.isLt)
    rw [hk', ← h1]
    unfold k3_pay72
    pointwise
  · unfold k3_pay74
    pointwise
    rfl

theorem zSums_at (z : FVec Ideal S128x512 .f32) (o : Fin 512) : zSums z (ix2 0 o) = bSum fun r => z (ix2 r o) := by
  unfold zSums
  pointwise
  rfl

theorem pay3_1_at (z : FVec Ideal S128x512 .f32) (o : Fin 512) :
    k3_pay1 z (zSums z) (ix3 0 0 o) = bDev (Ideal.ofBits .f32 0x43000000#32) fun r => z (ix2 r o) := by
  unfold k3_pay1
  pointwise
  simp only [zSums_at]
  rfl

end Cert.KernelIdeal.Val

end
-- ==== Proof.Array3.lean ====
/-
  The fourth region's arrays after its run: the perceptron's first layer, and each block's column sums and squared deviations.
-/
module

public import proofs.«01_k».proof.Proof.Tile3
public import proofs.«01_k».proof.Proof.Array2
public import Idealize.ShloMosaic.Lib.Pipeline.ValueKit

@[expose] public section

set_option maxRecDepth 16384

noncomputable section

namespace Cert.Spec

/-- A point's row of the perceptron's first layer: its ten best neighbours' features through the matrix. -/
def zAt (W1 : Fin 10 → Fin 48 → Fin 512 → EReal) (b1 : Fin 512 → EReal) (mu var g be : Fin 128 → EReal)
    (H : Fin 4 → Fin 2048 → Fin 33 → Fin 128 → EReal)
    (NB : Fin 4 → Fin 2048 → Fin 33 → Fin 2048) (X2 : Fin 4 → Fin 2048 → Fin 48 → EReal)
    (b : Fin 4) (n : Fin 2048) (o : Fin 512) : EReal :=
  zRow W1 b1 (fun t f => X2 b (NB b n (best (fun k => score mu var g be (H b n k)) t.val)) f) o

end Cert.Spec

namespace Cert.KernelIdeal.Val

open Idealize.ShloMosaic Idealize.ShloMosaic.TcCoe Cert.KernelIdeal Cert.KernelIdeal.Gen Cert.Spec
open Idealize.ShloMosaic.Pipeline (Dat)

variable (V : (c : Dev nD) → (b : Ref sig .tc) → Buf (Elt Ideal) ((c : Thread nD τ).loc b)) (c : Dev nD)
  {NB : Fin 4 → Fin 2048 → Fin 33 → Fin 2048} {D : Fin 4 → Fin 2048 → Fin 33 → EReal} {X2 : Fin 4 → Fin 2048 → Fin 48 → EReal}
  {l2W : Fin 48 → Fin 64 → EReal} {l2b l1W l1b : Fin 64 → EReal} {c3W : Fin 128 → Fin 128 → EReal} {c3b : Fin 128 → EReal}
  {mu var g be : Fin 128 → EReal} {W1 : Fin 10 → Fin 48 → Fin 512 → EReal} {b1 : Fin 512 → EReal}

theorem idx3 : ∀ t : Fin cfg3.N, win3_0.index t = ![0, (grid3.coords t 0).val * 16 + (grid3.coords t 1).val, 0]
    ∧ win3_1.index t = ![(grid3.coords t 0).val, (grid3.coords t 1).val, 0]
    ∧ win3_2.index t = ![(grid3.coords t 0).val, (grid3.coords t 1).val, 0]
    ∧ win3_3.index t = ![(grid3.coords t 0).val, 0, 0]
    ∧ win3_4.index t = ![0, 0]
    ∧ win3_5.index t = ![0, 0]
    ∧ win3_6.index t = ![0, 0]
    ∧ win3_7.index t = ![0, 0]
    ∧ win3_8.index t = ![0, 0]
    ∧ win3_9.index t = ![0, 0]
    ∧ win3_10.index t = ![0, 0]
    ∧ win3_11.index t = ![0, 0]
    ∧ win3_12.index t = ![0, 0]
    ∧ win3_13.index t = ![0, 0]
    ∧ win3_14.index t = ![0, 0]
    ∧ win3_15.index t = ![0, 0]
    ∧ win3_16.index t = ![(grid3.coords t 0).val * 16 + (grid3.coords t 1).val, 0]
    ∧ win3_17.index t = ![(grid3.coords t 0).val * 16 + (grid3.coords t 1).val, 0, 0]
    ∧ win3_18.index t = ![(grid3.coords t 0).val * 16 + (grid3.coords t 1).val, 0, 0] := by
  decide +kernel

/-- The batch of a grid point. -/
def pB3 (t : Fin cfg3.N) : Fin 4 := ⟨(grid3.coords t 0).val, (grid3.coords t 0).isLt⟩
/-- The row block of a grid point. -/
def pQ3 (t : Fin cfg3.N) : Fin 16 := ⟨(grid3.coords t 1).val, (grid3.coords t 1).isLt⟩

variable (hG : ∀ b n k f, V c main_v10_0 (ix3 k (flat b n) f) = X2 b (NB b n k) f)
  (hN : ∀ b n k, V c main_v2_1 (ix3 b n k) = BitVec.ofNat 32 (NB b n k).val) (hD : ∀ b n k, V c main_v2_0 (ix3 b n k) = D b n k)
  (hX : ∀ b n f, V c main_v5 (ix3 b n f) = X2 b n f)
  (h2W : ∀ f j, V c main_arg7 (ix2 f j) = l2W f j) (h2b : ∀ j, V c main_v31 (ix2 0 j) = l2b j)
  (h1W : ∀ j, V c main_arg5 (ix2 0 j) = l1W j) (h1b : ∀ j, V c main_v32 (ix2 0 j) = l1b j)
  (h3W : ∀ o j, V c main_v6 (ix2 j o) = c3W o j) (h3b : ∀ o, V c main_v33 (ix2 0 o) = c3b o)
  (hmu : ∀ o, V c main_v16 (ix2 0 o) = mu o) (hvar : ∀ o, V c main_v30 (ix2 0 o) = var o)
  (hg : ∀ o, V c main_v34 (ix2 0 o) = g o) (hbe : ∀ o, V c main_v35 (ix2 0 o) = be o)
  (hW1 : ∀ t f o, V c main_arg13 (ix2 (blkRow t f) o) = W1 t f o) (hb1 : ∀ o, V c main_v36 (ix2 0 o) = b1 o)

theorem in3_0 (t : Fin cfg3.N) (k : Fin 33) (r : Fin 128) (f : Fin 48) : iblk3 V c 0 t (ix3 k r f) = V c main_v10_0 (ix3 k (flat (pB3 t) (tileRow (pQ3 t) r)) f) := by
  blk_ext [iblk3, idx3 t, tileRow, flat, pB3, pQ3]

theorem in3_1 (t : Fin cfg3.N) (r : Fin 128) (k : Fin 33) : iblk3 V c 1 t (ix3 0 r k) = V c main_v2_1 (ix3 (pB3 t) (tileRow (pQ3 t) r) k) := by
  blk_ext [iblk3, idx3 t, tileRow, flat, pB3, pQ3]

theorem in3_2 (t : Fin cfg3.N) (r : Fin 128) (k : Fin 33) : iblk3 V c 2 t (ix3 0 r k) = V c main_v2_0 (ix3 (pB3 t) (tileRow (pQ3 t) r) k) := by
  blk_ext [iblk3, idx3 t, tileRow, flat, pB3, pQ3]

theorem in3_3 (t : Fin cfg3.N) (n : Fin 2048) (f : Fin 48) : iblk3 V c 3 t (ix3 0 n f) = V c main_v5 (ix3 (pB3 t) n f) := by
  blk_ext [iblk3, idx3 t, tileRow, flat, pB3, pQ3]

theorem in3_4 (t : Fin cfg3.N) (f : Fin 48) (j : Fin 64) : iblk3 V c 4 t (ix2 f j) = V c main_arg7 (ix2 f j) := by
  blk_ext [iblk3, idx3 t, tileRow, flat, pB3, pQ3]

theorem in3_8 (t : Fin cfg3.N) (j o : Fin 128) : iblk3 V c 8 t (ix2 j o) = V c main_v6 (ix2 j o) := by
  blk_ext [iblk3, idx3 t, tileRow, flat, pB3, pQ3]

theorem in3_14 (t : Fin cfg3.N) (j : Fin 480) (o : Fin 512) : iblk3 V c 14 t (ix2 j o) = V c main_arg13 (ix2 j o) := by
  blk_ext [iblk3, idx3 t, tileRow, flat, pB3, pQ3]

theorem in3_5 (t : Fin cfg3.N) (j : Fin 64) : iblk3 V c 5 t (ix2 0 j) = V c main_v31 (ix2 0 j) := by
  blk_ext [iblk3, idx3 t, tileRow, flat, pB3, pQ3]

theorem in3_6 (t : Fin cfg3.N) (j : Fin 64) : iblk3 V c 6 t (ix2 0 j) = V c main_arg5 (ix2 0 j) := by
  blk_ext [iblk3, idx3 t, tileRow, flat, pB3, pQ3]

theorem in3_7 (t : Fin cfg3.N) (j : Fin 64) : iblk3 V c 7 t (ix2 0 j) = V c main_v32 (ix2 0 j) := by
  blk_ext [iblk3, idx3 t, tileRow, flat, pB3, pQ3]

theorem in3_9 (t : Fin cfg3.N) (j : Fin 128) : iblk3 V c 9 t (ix2 0 j) = V c main_v33 (ix2 0 j) := by
  blk_ext [iblk3, idx3 t, tileRow, flat, pB3, pQ3]

theorem in3_10 (t : Fin cfg3.N) (j : Fin 128) : iblk3 V c 10 t (ix2 0 j) = V c main_v16 (ix2 0 j) := by
  blk_ext [iblk3, idx3 t, tileRow, flat, pB3, pQ3]

theorem in3_11 (t : Fin cfg3.N) (j : Fin 128) : iblk3 V c 11 t (ix2 0 j) = V c main_v30 (ix2 0 j) := by
  blk_ext [iblk3, idx3 t, tileRow, flat, pB3, pQ3]

theorem in3_12 (t : Fin cfg3.N) (j : Fin 128) : iblk3 V c 12 t (ix2 0 j) = V c main_v34 (ix2 0 j) := by
  blk_ext [iblk3, idx3 t, tileRow, flat, pB3, pQ3]

theorem in3_13 (t : Fin cfg3.N) (j : Fin 128) : iblk3 V c 13 t (ix2 0 j) = V c main_v35 (ix2 0 j) := by
  blk_ext [iblk3, idx3 t, tileRow, flat, pB3, pQ3]

theorem in3_15 (t : Fin cfg3.N) (j : Fin 512) : iblk3 V c 15 t (ix2 0 j) = V c main_v36 (ix2 0 j) := by
  blk_ext [iblk3, idx3 t, tileRow, flat, pB3, pQ3]

include hG hN hD hX h2W h2b h1W h1b h3W h3b hmu hvar hg hbe hW1 hb1 in
theorem rows3 (t : Fin cfg3.N) (r : Fin 128) (o : Fin 512) :
    zRows (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (ix2 r o)
      = zAt W1 b1 mu var g be (hAt l2W l2b l1W l1b c3W c3b NB D X2) NB X2 (pB3 t) (tileRow (pQ3 t) r) o := by
  have e0 := fun k r f => (in3_0 V c t k r f).trans (hG _ _ _ _)
  have e1 := fun r k => (in3_1 V c t r k).trans (hN _ _ _)
  have e2 := fun r k => (in3_2 V c t r k).trans (hD _ _ _)
  have e3 := fun n f => (in3_3 V c t n f).trans (hX _ _ _)
  have e4 := fun f j => (in3_4 V c t f j).trans (h2W _ _)
  have e5 := fun j => (in3_5 V c t j).trans (h2b _)
  have e6 := fun j => (in3_6 V c t j).trans (h1W _)
  have e7 := fun j => (in3_7 V c t j).trans (h1b _)
  have e8 := fun j o => (in3_8 V c t j o).trans (h3W _ _)
  have e9 := fun j => (in3_9 V c t j).trans (h3b _)
  have e10 := fun j => (in3_10 V c t j).trans (hmu _)
  have e11 := fun j => (in3_11 V c t j).trans (hvar _)
  have e12 := fun j => (in3_12 V c t j).trans (hg _)
  have e13 := fun j => (in3_13 V c t j).trans (hbe _)
  have e14 := fun a f o => (in3_14 V c t (blkRow a f) o).trans (hW1 _ _ _)
  have e15 := fun j => (in3_15 V c t j).trans (hb1 _)
  refine (zRows_at (fun r k => NB (pB3 t) (tileRow (pQ3 t) r) k) e1 r o).trans ?_
  have hs : sc3 (iblk3 V c 0 t) (iblk3 V c 2 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) r
      = fun k => score mu var g be (hAt l2W l2b l1W l1b c3W c3b NB D X2 (pB3 t) (tileRow (pQ3 t) r) k) := by
    funext k
    unfold sc3 hAt
    simp only [e0, e2, e4, e5, e6, e7, e8, e9, e10, e11, e12, e13]
  rw [hs]
  unfold zAt
  simp only [e3, e14, e15]

theorem emb3_16 (t : Fin cfg3.N) (r : Fin 128) (o : Fin 512) :
    (win3_16.blk t).view.emb (ix2 r o) = ix2 (flat (pB3 t) (tileRow (pQ3 t) r)) o := by
  blk_ext [idx3 t, tileRow, flat, pB3, pQ3]

/-- The array from its blocks. -/
theorem arr3_16_of (G : S8192x512.Idx → EReal)
    (h : ∀ (t : Fin cfg3.N) (z : S128x512.Idx), out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) z = G ((win3_16.blk t).view.emb z)) :
    (dat3 V c).arrAt 16 cfg3.N = G := by
  refine (dat3 V c).arrAt_eq_of_covers 16 _ (by decide +kernel) fun t hf y => ?_
  blk_simp
  rw [after3_16]
  exact h t y

include hG hN hD hX h2W h2b h1W h1b h3W h3b hmu hvar hg hbe hW1 hb1 in
/-- The perceptron's first layer. -/
theorem arr3_16 : (dat3 V c).arrAt 16 cfg3.N
    = fun j : S8192x512.Idx => zAt W1 b1 mu var g be (hAt l2W l2b l1W l1b c3W c3b NB D X2) NB X2 (fB (j 0)) (fN (j 0)) (j 1) := by
  refine arr3_16_of V c _ fun t z => ?_
  obtain ⟨r, o, rfl⟩ : ∃ (r : Fin 128) (o : Fin 512), z = ix2 r o := ⟨z 0, z 1, eq_ix2 z⟩
  rw [emb3_16 t r o, out3_16_eq]
  refine (congrFun (View.canon_unit_zero zero2 _ _) _).trans ?_
  refine (rows3 V c hG hN hD hX h2W h2b h1W h1b h3W h3b hmu hvar hg hbe hW1 hb1 t r o).trans ?_
  show _ = zAt W1 b1 mu var g be (hAt l2W l2b l1W l1b c3W c3b NB D X2) NB X2 (fB (flat (pB3 t) (tileRow (pQ3 t) r))) (fN (flat (pB3 t) (tileRow (pQ3 t) r))) o
  rw [fB_flat, fN_flat]

theorem tile3_17 {x0 x1 x2 x3 x4 x5 x6 x7 x8 x9 x10 x11 x12 x13 x14 x15} (o : Fin 512) :
    out3_17 (F := Ideal) x0 x1 x2 x3 x4 x5 x6 x7 x8 x9 x10 x11 x12 x13 x14 x15 (ix3 0 0 o)
      = bSum fun r : Fin 128 => zRows (F := Ideal) x0 x1 x2 x3 x4 x5 x6 x7 x8 x9 x10 x11 x12 x13 x14 x15 (ix2 r o) := by
  rw [out3_17_eq]
  refine (congrFun (View.canon_unit_zero zero3 _ _) _).trans ?_
  refine Eq.trans ?_ (zSums_at _ o)
  pointwise

theorem tile3_18 {x0 x1 x2 x3 x4 x5 x6 x7 x8 x9 x10 x11 x12 x13 x14 x15} (o : Fin 512) :
    out3_18 (F := Ideal) x0 x1 x2 x3 x4 x5 x6 x7 x8 x9 x10 x11 x12 x13 x14 x15 (ix3 0 0 o)
      = bDev (Ideal.ofBits .f32 0x43000000#32) fun r : Fin 128 => zRows (F := Ideal) x0 x1 x2 x3 x4 x5 x6 x7 x8 x9 x10 x11 x12 x13 x14 x15 (ix2 r o) := by
  rw [out3_18_eq]
  refine (congrFun (View.canon_unit_zero zero3 _ _) _).trans ?_
  exact pay3_1_at _ o

theorem emb3_17 (t : Fin cfg3.N) (o : Fin 512) :
    (win3_17.blk t).view.emb (ix3 0 0 o) = ix3 (tileNo (pB3 t) (pQ3 t)) 0 o := by
  blk_ext [idx3 t, tileNo, pB3, pQ3]

/-- The array from its blocks. -/
theorem arr3_17_of (G : S64x1x512.Idx → EReal) (h : ∀ (t : Fin cfg3.N) (z : S1x1x512.Idx), out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) z = G ((win3_17.blk t).view.emb z)) :
    (dat3 V c).arrAt 17 cfg3.N = G := by
  refine (dat3 V c).arrAt_eq_of_covers 17 _ (by decide +kernel) fun t hf y => ?_
  blk_simp
  rw [after3_17]
  exact h t y

include hG hN hD hX h2W h2b h1W h1b h3W h3b hmu hvar hg hbe hW1 hb1 in
/-- The blocks' sums. -/
theorem arr3_17 : (dat3 V c).arrAt 17 cfg3.N
    = fun j : S64x1x512.Idx => bSum fun r : Fin 128 =>
      zAt W1 b1 mu var g be (hAt l2W l2b l1W l1b c3W c3b NB D X2) NB X2 (tB (j 0)) (tileRow (tQ (j 0)) r) (j 2) := by
  refine arr3_17_of V c _ fun t z => ?_
  obtain ⟨a, b, o, rfl⟩ : ∃ (a b : Fin 1) (o : Fin 512), z = ix3 a b o := ⟨z 0, z 1, z 2, eq_ix3 z⟩
  obtain rfl : a = 0 := Subsingleton.elim _ _
  obtain rfl : b = 0 := Subsingleton.elim _ _
  rw [emb3_17 t o]
  refine (tile3_17 o).trans ?_
  show _ = bSum fun r : Fin 128 =>
      zAt W1 b1 mu var g be (hAt l2W l2b l1W l1b c3W c3b NB D X2) NB X2 (tB (tileNo (pB3 t) (pQ3 t))) (tileRow (tQ (tileNo (pB3 t) (pQ3 t))) r) o
  rw [tB_tileNo, tQ_tileNo]
  exact congrArg (bSum) (funext fun r => rows3 V c hG hN hD hX h2W h2b h1W h1b h3W h3b hmu hvar hg hbe hW1 hb1 t r o)

theorem emb3_18 (t : Fin cfg3.N) (o : Fin 512) :
    (win3_18.blk t).view.emb (ix3 0 0 o) = ix3 (tileNo (pB3 t) (pQ3 t)) 0 o := by
  blk_ext [idx3 t, tileNo, pB3, pQ3]

/-- The array from its blocks. -/
theorem arr3_18_of (G : S64x1x512.Idx → EReal) (h : ∀ (t : Fin cfg3.N) (z : S1x1x512.Idx), out3_18 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) z = G ((win3_18.blk t).view.emb z)) :
    (dat3 V c).arrAt 18 cfg3.N = G := by
  refine (dat3 V c).arrAt_eq_of_covers 18 _ (by decide +kernel) fun t hf y => ?_
  blk_simp
  rw [after3_18]
  exact h t y

include hG hN hD hX h2W h2b h1W h1b h3W h3b hmu hvar hg hbe hW1 hb1 in
/-- The blocks' squared deviations. -/
theorem arr3_18 : (dat3 V c).arrAt 18 cfg3.N
    = fun j : S64x1x512.Idx => bDev (Ideal.ofBits .f32 0x43000000#32) fun r : Fin 128 =>
      zAt W1 b1 mu var g be (hAt l2W l2b l1W l1b c3W c3b NB D X2) NB X2 (tB (j 0)) (tileRow (tQ (j 0)) r) (j 2) := by
  refine arr3_18_of V c _ fun t z => ?_
  obtain ⟨a, b, o, rfl⟩ : ∃ (a b : Fin 1) (o : Fin 512), z = ix3 a b o := ⟨z 0, z 1, z 2, eq_ix3 z⟩
  obtain rfl : a = 0 := Subsingleton.elim _ _
  obtain rfl : b = 0 := Subsingleton.elim _ _
  rw [emb3_18 t o]
  refine (tile3_18 o).trans ?_
  show _ = bDev (Ideal.ofBits .f32 0x43000000#32) fun r : Fin 128 =>
      zAt W1 b1 mu var g be (hAt l2W l2b l1W l1b c3W c3b NB D X2) NB X2 (tB (tileNo (pB3 t) (pQ3 t))) (tileRow (tQ (tileNo (pB3 t) (pQ3 t))) r) o
  rw [tB_tileNo, tQ_tileNo]
  exact congrArg (bDev (Ideal.ofBits .f32 0x43000000#32)) (funext fun r => rows3 V c hG hN hD hX h2W h2b h1W h1b h3W h3b hmu hvar hg hbe hW1 hb1 t r o)

end Cert.KernelIdeal.Val

end
-- ==== Proof.Fold3.lean ====
/-
  The scoring region: the perceptron's first layer and its statistics.
-/
module

public import proofs.«01_k».proof.Proof.Fold2
public import proofs.«01_k».proof.Proof.Array3

@[expose] public section

set_option maxRecDepth 16384

noncomputable section

namespace Cert.KernelIdeal.Val

open Idealize.ShloMosaic Idealize.ShloMosaic.TcCoe Cert.KernelIdeal Cert.KernelIdeal.Gen Cert.Spec
open Cert.ReferenceIdeal.Val (X0 X1r X2r NBr Hr muH varH Sr Z1r muZ1 varZ1 Z2r muZ2 varZ2 cntH cntZ Finite x1_at x2_at dist0_ne_top dist1_ne_top
  re_X0 level_X1)

variable {m : (ℓ : Loc nD τ sig) → Buf (Elt Ideal) ℓ} (ρ : Dev nD → PrngReg) {c : Dev nD}
  {x0 : FVec Ideal S4x2048x3 .f32}
  {x1 : FVec Ideal S6x16 .f32}
  {x2 : FVec Ideal S16 .f32}
  {x3 : FVec Ideal S32x48 .f32}
  {x4 : FVec Ideal S48 .f32}
  {x5 : FVec Ideal S1x64 .f32}
  {x6 : FVec Ideal S64 .f32}
  {x7 : FVec Ideal S48x64 .f32}
  {x8 : FVec Ideal S64 .f32}
  {x9 : FVec Ideal S128x128 .f32}
  {x10 : FVec Ideal S128 .f32}
  {x11 : FVec Ideal S128 .f32}
  {x12 : FVec Ideal S128 .f32}
  {x13 : FVec Ideal S480x512 .f32}
  {x14 : FVec Ideal S512 .f32}
  {x15 : FVec Ideal S512 .f32}
  {x16 : FVec Ideal S512 .f32}
  {x17 : FVec Ideal S512x512 .f32}
  {x18 : FVec Ideal S512 .f32}
  {x19 : FVec Ideal S512 .f32}
  {x20 : FVec Ideal S512 .f32}

variable (A : Args m c x0 x1 x2 x3 x4 x5 x6 x7 x8 x9 x10 x11 x12 x13 x14 x15 x16 x17 x18 x19 x20) (h : Finite x0 x1 x11 x12)

include A h in
theorem v7_v10_0 (b : Fin 4) (n : Fin 2048) (k : Fin 33) (f : Fin 48) :
    V7 m ρ c main_v10_0 (ix3 k (flat b n) f) = X2r x0 x1 x2 x3 x4 b (NBr x0 b n k) f :=
  (congrFun (W7_of m ρ c main_v10_0 (by decide)) _).trans (s6_v10_0 ρ A h b n k f)

include A h in
theorem v7_v2_0 (b : Fin 4) (n : Fin 2048) (k : Fin 33) : V7 m ρ c main_v2_0 (ix3 b n k) = sqDist (X0 x0 b) n (NBr x0 b n k) :=
  (congrFun (W7_of m ρ c main_v2_0 (by decide)) _).trans ((congrFun (W6_of m ρ c main_v2_0 (by decide)) _).trans (v5_v2_0 ρ A h b n k))

include A in
theorem v7_v2_1 (b : Fin 4) (n : Fin 2048) (k : Fin 33) : V7 m ρ c main_v2_1 (ix3 b n k) = BitVec.ofNat 32 (NBr x0 b n k).val :=
  (congrFun (W7_of m ρ c main_v2_1 (by decide)) _).trans ((congrFun (W6_of m ρ c main_v2_1 (by decide)) _).trans (v5_v2_1 ρ A b n k))

include A h in
theorem v7_v5 (b : Fin 4) (n : Fin 2048) (f : Fin 48) : V7 m ρ c main_v5 (ix3 b n f) = X2r x0 x1 x2 x3 x4 b n f :=
  (congrFun (W7_of m ρ c main_v5 (by decide)) _).trans ((congrFun (W6_of m ρ c main_v5 (by decide)) _).trans (v5_v5 ρ A h b n f))

include A in
theorem v7_v6 (o j : Fin 128) : V7 m ρ c main_v6 (ix2 j o) = x9 (ix2 o j) :=
  (congrFun (W7_of m ρ c main_v6 (by decide)) _).trans ((congrFun (W6_of m ρ c main_v6 (by decide)) _).trans (v5_v6 ρ A o j))

include A h in
/-- The perceptron's first layer. -/
theorem s8_v37_0 (n : Fin 8192) (o : Fin 512) : (W8 m ρ c (Proc.devRef .tc main_v37_0) : FVec Ideal S8192x512 .f32) (ix2 n o) = Z1r x0 x1 x2 x3 x4 x5 x6 x7 x8 x9 x10 x11 x12 x13 x14 (fB n) (fN n) o :=
  congrFun ((W8_arr m ρ c 16).trans (arr3_16 (V7 m ρ) c (NB := NBr x0) (D := fun b n k => sqDist (X0 x0 b) n (NBr x0 b n k)) (X2 := X2r x0 x1 x2 x3 x4)
    (l2W := fun f j => x7 (ix2 f j)) (l2b := fun j => x8 (ix1 j)) (l1W := fun j => x5 (ix2 0 j)) (l1b := fun j => x6 (ix1 j))
    (c3W := fun o j => x9 (ix2 o j)) (c3b := fun o => x10 (ix1 o))
    (mu := muH x0 x1 x2 x3 x4 x5 x6 x7 x8 x9 x10) (var := varH x0 x1 x2 x3 x4 x5 x6 x7 x8 x9 x10) (g := fun o => x11 (ix1 o)) (be := fun o => x12 (ix1 o))
    (W1 := fun t f o => x13 (ix2 (blkRow t f) o)) (b1 := fun o => x14 (ix1 o))
    (v7_v10_0 ρ A h) (v7_v2_1 ρ A) (v7_v2_0 ρ A h) (v7_v5 ρ A h) (fun _ _ => (congrFun (W7_args m ρ c main_arg7 (by decide)) _).trans (A.e7 _)) (fun o => (h3_v31 (W6 m ρ c) o).trans ((congrFun (W6_args m ρ c main_arg8 (by decide)) _).trans (A.e8 _)))
    (fun _ => (congrFun (W7_args m ρ c main_arg5 (by decide)) _).trans (A.e5 _)) (fun o => (h3_v32 (W6 m ρ c) o).trans ((congrFun (W6_args m ρ c main_arg6 (by decide)) _).trans (A.e6 _))) (v7_v6 ρ A) (fun o => (h3_v33 (W6 m ρ c) o).trans ((congrFun (W6_args m ρ c main_arg10 (by decide)) _).trans (A.e10 _)))
    (v7_v16 ρ A h) (v7_v30 ρ A h) (fun o => (h3_v34 (W6 m ρ c) o).trans ((congrFun (W6_args m ρ c main_arg11 (by decide)) _).trans (A.e11 _)))
    (fun o => (h3_v35 (W6 m ρ c) o).trans ((congrFun (W6_args m ρ c main_arg12 (by decide)) _).trans (A.e12 _))) (fun _ _ _ => (congrFun (W7_args m ρ c main_arg13 (by decide)) _).trans (A.e13 _))
    (fun o => (h3_v36 (W6 m ρ c) o).trans ((congrFun (W6_args m ρ c main_arg14 (by decide)) _).trans (A.e14 _))))) (ix2 n o)

include A h in
/-- The blocks' sums of the first layer. -/
theorem s8_v37_1 (b : Fin 64) (o : Fin 512) :
    (W8 m ρ c (Proc.devRef .tc main_v37_1) : FVec Ideal S64x1x512 .f32) (ix3 b 0 o) = bSum fun r : Fin 128 => Z1r x0 x1 x2 x3 x4 x5 x6 x7 x8 x9 x10 x11 x12 x13 x14 (tB b) (tileRow (tQ b) r) o :=
  congrFun ((W8_arr m ρ c 17).trans (arr3_17 (V7 m ρ) c (NB := NBr x0) (D := fun b n k => sqDist (X0 x0 b) n (NBr x0 b n k)) (X2 := X2r x0 x1 x2 x3 x4)
    (l2W := fun f j => x7 (ix2 f j)) (l2b := fun j => x8 (ix1 j)) (l1W := fun j => x5 (ix2 0 j)) (l1b := fun j => x6 (ix1 j))
    (c3W := fun o j => x9 (ix2 o j)) (c3b := fun o => x10 (ix1 o))
    (mu := muH x0 x1 x2 x3 x4 x5 x6 x7 x8 x9 x10) (var := varH x0 x1 x2 x3 x4 x5 x6 x7 x8 x9 x10) (g := fun o => x11 (ix1 o)) (be := fun o => x12 (ix1 o))
    (W1 := fun t f o => x13 (ix2 (blkRow t f) o)) (b1 := fun o => x14 (ix1 o))
    (v7_v10_0 ρ A h) (v7_v2_1 ρ A) (v7_v2_0 ρ A h) (v7_v5 ρ A h) (fun _ _ => (congrFun (W7_args m ρ c main_arg7 (by decide)) _).trans (A.e7 _)) (fun o => (h3_v31 (W6 m ρ c) o).trans ((congrFun (W6_args m ρ c main_arg8 (by decide)) _).trans (A.e8 _)))
    (fun _ => (congrFun (W7_args m ρ c main_arg5 (by decide)) _).trans (A.e5 _)) (fun o => (h3_v32 (W6 m ρ c) o).trans ((congrFun (W6_args m ρ c main_arg6 (by decide)) _).trans (A.e6 _))) (v7_v6 ρ A) (fun o => (h3_v33 (W6 m ρ c) o).trans ((congrFun (W6_args m ρ c main_arg10 (by decide)) _).trans (A.e10 _)))
    (v7_v16 ρ A h) (v7_v30 ρ A h) (fun o => (h3_v34 (W6 m ρ c) o).trans ((congrFun (W6_args m ρ c main_arg11 (by decide)) _).trans (A.e11 _)))
    (fun o => (h3_v35 (W6 m ρ c) o).trans ((congrFun (W6_args m ρ c main_arg12 (by decide)) _).trans (A.e12 _))) (fun _ _ _ => (congrFun (W7_args m ρ c main_arg13 (by decide)) _).trans (A.e13 _))
    (fun o => (h3_v36 (W6 m ρ c) o).trans ((congrFun (W6_args m ρ c main_arg14 (by decide)) _).trans (A.e14 _))))) (ix3 b 0 o)

include A h in
/-- The blocks' squared deviations of the first layer. -/
theorem s8_v37_2 (b : Fin 64) (o : Fin 512) :
    (W8 m ρ c (Proc.devRef .tc main_v37_2) : FVec Ideal S64x1x512 .f32) (ix3 b 0 o) = bDev (Ideal.ofBits .f32 0x43000000#32) fun r : Fin 128 => Z1r x0 x1 x2 x3 x4 x5 x6 x7 x8 x9 x10 x11 x12 x13 x14 (tB b) (tileRow (tQ b) r) o :=
  congrFun ((W8_arr m ρ c 18).trans (arr3_18 (V7 m ρ) c (NB := NBr x0) (D := fun b n k => sqDist (X0 x0 b) n (NBr x0 b n k)) (X2 := X2r x0 x1 x2 x3 x4)
    (l2W := fun f j => x7 (ix2 f j)) (l2b := fun j => x8 (ix1 j)) (l1W := fun j => x5 (ix2 0 j)) (l1b := fun j => x6 (ix1 j))
    (c3W := fun o j => x9 (ix2 o j)) (c3b := fun o => x10 (ix1 o))
    (mu := muH x0 x1 x2 x3 x4 x5 x6 x7 x8 x9 x10) (var := varH x0 x1 x2 x3 x4 x5 x6 x7 x8 x9 x10) (g := fun o => x11 (ix1 o)) (be := fun o => x12 (ix1 o))
    (W1 := fun t f o => x13 (ix2 (blkRow t f) o)) (b1 := fun o => x14 (ix1 o))
    (v7_v10_0 ρ A h) (v7_v2_1 ρ A) (v7_v2_0 ρ A h) (v7_v5 ρ A h) (fun _ _ => (congrFun (W7_args m ρ c main_arg7 (by decide)) _).trans (A.e7 _)) (fun o => (h3_v31 (W6 m ρ c) o).trans ((congrFun (W6_args m ρ c main_arg8 (by decide)) _).trans (A.e8 _)))
    (fun _ => (congrFun (W7_args m ρ c main_arg5 (by decide)) _).trans (A.e5 _)) (fun o => (h3_v32 (W6 m ρ c) o).trans ((congrFun (W6_args m ρ c main_arg6 (by decide)) _).trans (A.e6 _))) (v7_v6 ρ A) (fun o => (h3_v33 (W6 m ρ c) o).trans ((congrFun (W6_args m ρ c main_arg10 (by decide)) _).trans (A.e10 _)))
    (v7_v16 ρ A h) (v7_v30 ρ A h) (fun o => (h3_v34 (W6 m ρ c) o).trans ((congrFun (W6_args m ρ c main_arg11 (by decide)) _).trans (A.e11 _)))
    (fun o => (h3_v35 (W6 m ρ c) o).trans ((congrFun (W6_args m ρ c main_arg12 (by decide)) _).trans (A.e12 _))) (fun _ _ _ => (congrFun (W7_args m ρ c main_arg13 (by decide)) _).trans (A.e13 _))
    (fun o => (h3_v36 (W6 m ρ c) o).trans ((congrFun (W6_args m ρ c main_arg14 (by decide)) _).trans (A.e14 _))))) (ix3 b 0 o)

include A h in
/-- The first layer's mean. -/
theorem v9_v43 (o : Fin 512) : V9 m ρ c main_v43 (ix2 0 o) = muZ1 x0 x1 x2 x3 x4 x5 x6 x7 x8 x9 x10 x11 x12 x13 x14 o :=
  ((h4_v43 (W8 m ρ c) o).trans (congrArg (cMean _) (funext fun b => s8_v37_1 ρ A h b o))).trans
    (meanP_eq (fun b n => Z1r x0 x1 x2 x3 x4 x5 x6 x7 x8 x9 x10 x11 x12 x13 x14 b n o) _)

include A h in
/-- The first layer's variance. -/
theorem v9_v57 (o : Fin 512) : V9 m ρ c main_v57 (ix2 0 o) = varZ1 x0 x1 x2 x3 x4 x5 x6 x7 x8 x9 x10 x11 x12 x13 x14 o :=
  ((h4_v57 (W8 m ρ c) o).trans (congrArg₂ (cVar _ _) (funext fun b => s8_v37_1 ρ A h b o) (funext fun b => s8_v37_2 ρ A h b o))).trans
    (varP_eq (fun b n => Z1r x0 x1 x2 x3 x4 x5 x6 x7 x8 x9 x10 x11 x12 x13 x14 b n o))

end Cert.KernelIdeal.Val

end
-- ==== Proof.Array5.lean ====
/-
  The last region's array after its run: the perceptron's output normalised and rectified.
-/
module

public import proofs.«01_k».proof.Proof.Spec2
public import proofs.«01_k».proof.Proof.RoundsAt
public import proofs.«01_k».proof.Proof.Gen.KernelIdeal.Frame.Region5
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.Spec
open Idealize.ShloMosaic.Pipeline (Dat)

theorem tile5_5 (x0 : Vec Ideal S512x512 .f32) (x1 x2 x3 x4 : Vec Ideal S1x512 .f32) (r o : Fin 512) :
    out5_5 x0 x1 x2 x3 x4 (ix2 r o) = bnorm (x1 (ix2 0 o)) (x2 (ix2 0 o)) (x3 (ix2 0 o)) (x4 (ix2 0 o)) (x0 (ix2 r o)) := by
  rw [out5_5]
  refine (congrFun (View.canon_unit_zero zero2 _ _) _).trans ?_
  unfold k5_pay1
  pointwise
  rfl

variable (V : (c : Dev nD) → (b : Ref sig .tc) → Buf (Elt Ideal) ((c : Thread nD τ).loc b)) (c : Dev nD)
  {Z : Fin 8192 → Fin 512 → EReal} {mu var g be : Fin 512 → EReal}

theorem idx5 : ∀ t : Fin cfg5.N, win5_0.index t = ![(grid5.coords t 0).val, 0]
    ∧ win5_1.index t = ![0, 0] ∧ win5_2.index t = ![0, 0] ∧ win5_3.index t = ![0, 0] ∧ win5_4.index t = ![0, 0]
    ∧ win5_5.index t = ![(grid5.coords t 0).val, 0] := by
  decide +kernel

/-- A grid point's rows. -/
def row5 (t : Fin cfg5.N) (r : Fin 512) : Fin 8192 := ⟨(grid5.coords t 0).val * 512 + r.val, by
  have : (grid5.coords t 0).val < 16 := (grid5.coords t 0).isLt
  omega⟩

theorem emb5_5 (t : Fin cfg5.N) (r o : Fin 512) : (win5_5.blk t).view.emb (ix2 r o) = ix2 (row5 t r) o := by
  blk_ext [idx5 t, row5]

theorem pt5_5 (hZ : ∀ n j, V c main_v61_0 (ix2 n j) = Z n j) (hmu : ∀ j, V c main_v67 (ix2 0 j) = mu j)
    (hvar : ∀ j, V c main_v81 (ix2 0 j) = var j) (hg : ∀ j, V c main_v82 (ix2 0 j) = g j) (hbe : ∀ j, V c main_v83 (ix2 0 j) = be j) (t : Fin cfg5.N) (r o : Fin 512) :
    out5_5 (iblk5 V c 0 t) (iblk5 V c 1 t) (iblk5 V c 2 t) (iblk5 V c 3 t) (iblk5 V c 4 t) (ix2 r o)
      = bnorm (mu o) (var o) (g o) (be o) (Z (row5 t r) o) := by
  have e0 : iblk5 V c 0 t (ix2 r o) = Z (row5 t r) o := by refine Eq.trans ?_ (hZ _ _); blk_ext [iblk5, idx5 t, row5]
  have e1 : iblk5 V c 1 t (ix2 0 o) = mu o := by refine Eq.trans ?_ (hmu _); blk_ext [iblk5, idx5 t]
  have e2 : iblk5 V c 2 t (ix2 0 o) = var o := by refine Eq.trans ?_ (hvar _); blk_ext [iblk5, idx5 t]
  have e3 : iblk5 V c 3 t (ix2 0 o) = g o := by refine Eq.trans ?_ (hg _); blk_ext [iblk5, idx5 t]
  have e4 : iblk5 V c 4 t (ix2 0 o) = be o := by refine Eq.trans ?_ (hbe _); blk_ext [iblk5, idx5 t]
  rw [tile5_5, e0, e1, e2, e3, e4]

/-- The array from its blocks. -/
theorem arr5_5_of (G : S8192x512.Idx → EReal) (h : ∀ (t : Fin cfg5.N) (z : S512x512.Idx), out5_5 (iblk5 V c 0 t) (iblk5 V c 1 t)
    (iblk5 V c 2 t) (iblk5 V c 3 t) (iblk5 V c 4 t) z = G ((win5_5.blk t).view.emb z)) : (dat5 V c).arrAt 5 cfg5.N = G := by
  refine (dat5 V c).arrAt_eq_of_covers 5 _ (by decide +kernel) fun t hf y => ?_
  blk_simp
  rw [after5_5]
  exact h t y

/-- The normalised output. -/
theorem arr5_5 (hZ : ∀ n j, V c main_v61_0 (ix2 n j) = Z n j) (hmu : ∀ j, V c main_v67 (ix2 0 j) = mu j)
    (hvar : ∀ j, V c main_v81 (ix2 0 j) = var j) (hg : ∀ j, V c main_v82 (ix2 0 j) = g j) (hbe : ∀ j, V c main_v83 (ix2 0 j) = be j) :
    (dat5 V c).arrAt 5 cfg5.N = fun j : S8192x512.Idx => bnorm (mu (j 1)) (var (j 1)) (g (j 1)) (be (j 1)) (Z (j 0) (j 1)) := by
  refine arr5_5_of V c _ fun t z => ?_
  obtain ⟨r, o, rfl⟩ : ∃ (r o : Fin 512), z = ix2 r o := ⟨z 0, z 1, eq_ix2 z⟩
  rw [emb5_5 t r o]
  exact pt5_5 V c hZ hmu hvar hg hbe t r o

end Cert.KernelIdeal.Val

end
-- ==== Proof.Fold4.lean ====
/-
  The last two regions: the perceptron's second layer, its statistics, and the kernel's result.
-/
module

public import proofs.«01_k».proof.Proof.Fold3
public import proofs.«01_k».proof.Proof.Array4
public import proofs.«01_k».proof.Proof.Array5

@[expose] public section

set_option maxRecDepth 16384

noncomputable section

namespace Cert.KernelIdeal.Val

open Idealize.ShloMosaic Idealize.ShloMosaic.TcCoe Cert.KernelIdeal Cert.KernelIdeal.Gen Cert.Spec
open Cert.ReferenceIdeal.Val (X0 X1r X2r NBr Hr muH varH Sr Z1r muZ1 varZ1 Z2r muZ2 varZ2 cntH cntZ Finite x1_at x2_at dist0_ne_top dist1_ne_top
  re_X0 level_X1)

variable {m : (ℓ : Loc nD τ sig) → Buf (Elt Ideal) ℓ} (ρ : Dev nD → PrngReg) {c : Dev nD}
  {x0 : FVec Ideal S4x2048x3 .f32}
  {x1 : FVec Ideal S6x16 .f32}
  {x2 : FVec Ideal S16 .f32}
  {x3 : FVec Ideal S32x48 .f32}
  {x4 : FVec Ideal S48 .f32}
  {x5 : FVec Ideal S1x64 .f32}
  {x6 : FVec Ideal S64 .f32}
  {x7 : FVec Ideal S48x64 .f32}
  {x8 : FVec Ideal S64 .f32}
  {x9 : FVec Ideal S128x128 .f32}
  {x10 : FVec Ideal S128 .f32}
  {x11 : FVec Ideal S128 .f32}
  {x12 : FVec Ideal S128 .f32}
  {x13 : FVec Ideal S480x512 .f32}
  {x14 : FVec Ideal S512 .f32}
  {x15 : FVec Ideal S512 .f32}
  {x16 : FVec Ideal S512 .f32}
  {x17 : FVec Ideal S512x512 .f32}
  {x18 : FVec Ideal S512 .f32}
  {x19 : FVec Ideal S512 .f32}
  {x20 : FVec Ideal S512 .f32}

variable (A : Args m c x0 x1 x2 x3 x4 x5 x6 x7 x8 x9 x10 x11 x12 x13 x14 x15 x16 x17 x18 x19 x20) (h : Finite x0 x1 x11 x12)

include A h in
theorem v9_v37_0 (n : Fin 8192) (o : Fin 512) : V9 m ρ c main_v37_0 (ix2 n o) = Z1r x0 x1 x2 x3 x4 x5 x6 x7 x8 x9 x10 x11 x12 x13 x14 (fB n) (fN n) o :=
  (congrFun (W9_of m ρ c main_v37_0 (by decide)) _).trans (s8_v37_0 ρ A h n o)

include A h in
/-- The perceptron's second layer. -/
theorem s10_v61_0 (n : Fin 8192) (o : Fin 512) : (W10 m ρ c (Proc.devRef .tc main_v61_0) : FVec Ideal S8192x512 .f32) (ix2 n o) = Z2r x0 x1 x2 x3 x4 x5 x6 x7 x8 x9 x10 x11 x12 x13 x14 x15 x16 x17 x18 (fB n) (fN n) o :=
  congrFun ((W10_arr m ρ c 7).trans (arr4_7 (V9 m ρ) c (Z := fun n j => Z1r x0 x1 x2 x3 x4 x5 x6 x7 x8 x9 x10 x11 x12 x13 x14 (fB n) (fN n) j) (mu := muZ1 x0 x1 x2 x3 x4 x5 x6 x7 x8 x9 x10 x11 x12 x13 x14) (var := varZ1 x0 x1 x2 x3 x4 x5 x6 x7 x8 x9 x10 x11 x12 x13 x14) (g := fun j => x15 (ix1 j)) (be := fun j => x16 (ix1 j))
    (W2 := fun j o => x17 (ix2 j o)) (b2 := fun o => x18 (ix1 o)) (v9_v37_0 ρ A h) (v9_v43 ρ A h) (v9_v57 ρ A h)
    (fun o => (h4_v58 (W8 m ρ c) o).trans ((congrFun (W8_args m ρ c main_arg15 (by decide)) _).trans (A.e15 _))) (fun o => (h4_v59 (W8 m ρ c) o).trans ((congrFun (W8_args m ρ c main_arg16 (by decide)) _).trans (A.e16 _)))
    (fun _ _ => (congrFun (W9_args m ρ c main_arg17 (by decide)) _).trans (A.e17 _)) (fun o => (h4_v60 (W8 m ρ c) o).trans ((congrFun (W8_args m ρ c main_arg18 (by decide)) _).trans (A.e18 _))))) (ix2 n o)

include A h in
/-- The blocks' sums of the second layer. -/
theorem s10_v61_1 (b : Fin 16) (o : Fin 512) :
    (W10 m ρ c (Proc.devRef .tc main_v61_1) : FVec Ideal S16x1x512 .f32) (ix3 b 0 o) = bSum fun r : Fin 512 => Z2r x0 x1 x2 x3 x4 x5 x6 x7 x8 x9 x10 x11 x12 x13 x14 x15 x16 x17 x18 (fB (row512 b r)) (fN (row512 b r)) o :=
  congrFun ((W10_arr m ρ c 8).trans (arr4_8 (V9 m ρ) c (Z := fun n j => Z1r x0 x1 x2 x3 x4 x5 x6 x7 x8 x9 x10 x11 x12 x13 x14 (fB n) (fN n) j) (mu := muZ1 x0 x1 x2 x3 x4 x5 x6 x7 x8 x9 x10 x11 x12 x13 x14) (var := varZ1 x0 x1 x2 x3 x4 x5 x6 x7 x8 x9 x10 x11 x12 x13 x14) (g := fun j => x15 (ix1 j)) (be := fun j => x16 (ix1 j))
    (W2 := fun j o => x17 (ix2 j o)) (b2 := fun o => x18 (ix1 o)) (v9_v37_0 ρ A h) (v9_v43 ρ A h) (v9_v57 ρ A h)
    (fun o => (h4_v58 (W8 m ρ c) o).trans ((congrFun (W8_args m ρ c main_arg15 (by decide)) _).trans (A.e15 _))) (fun o => (h4_v59 (W8 m ρ c) o).trans ((congrFun (W8_args m ρ c main_arg16 (by decide)) _).trans (A.e16 _)))
    (fun _ _ => (congrFun (W9_args m ρ c main_arg17 (by decide)) _).trans (A.e17 _)) (fun o => (h4_v60 (W8 m ρ c) o).trans ((congrFun (W8_args m ρ c main_arg18 (by decide)) _).trans (A.e18 _))))) (ix3 b 0 o)

include A h in
/-- The blocks' squared deviations of the second layer. -/
theorem s10_v61_2 (b : Fin 16) (o : Fin 512) :
    (W10 m ρ c (Proc.devRef .tc main_v61_2) : FVec Ideal S16x1x512 .f32) (ix3 b 0 o) = bDev (Ideal.ofBits .f32 0x44000000#32) fun r : Fin 512 => Z2r x0 x1 x2 x3 x4 x5 x6 x7 x8 x9 x10 x11 x12 x13 x14 x15 x16 x17 x18 (fB (row512 b r)) (fN (row512 b r)) o :=
  congrFun ((W10_arr m ρ c 9).trans (arr4_9 (V9 m ρ) c (Z := fun n j => Z1r x0 x1 x2 x3 x4 x5 x6 x7 x8 x9 x10 x11 x12 x13 x14 (fB n) (fN n) j) (mu := muZ1 x0 x1 x2 x3 x4 x5 x6 x7 x8 x9 x10 x11 x12 x13 x14) (var := varZ1 x0 x1 x2 x3 x4 x5 x6 x7 x8 x9 x10 x11 x12 x13 x14) (g := fun j => x15 (ix1 j)) (be := fun j => x16 (ix1 j))
    (W2 := fun j o => x17 (ix2 j o)) (b2 := fun o => x18 (ix1 o)) (v9_v37_0 ρ A h) (v9_v43 ρ A h) (v9_v57 ρ A h)
    (fun o => (h4_v58 (W8 m ρ c) o).trans ((congrFun (W8_args m ρ c main_arg15 (by decide)) _).trans (A.e15 _))) (fun o => (h4_v59 (W8 m ρ c) o).trans ((congrFun (W8_args m ρ c main_arg16 (by decide)) _).trans (A.e16 _)))
    (fun _ _ => (congrFun (W9_args m ρ c main_arg17 (by decide)) _).trans (A.e17 _)) (fun o => (h4_v60 (W8 m ρ c) o).trans ((congrFun (W8_args m ρ c main_arg18 (by decide)) _).trans (A.e18 _))))) (ix3 b 0 o)

include A h in
/-- The second layer's mean. -/
theorem v11_v67 (o : Fin 512) : V11 m ρ c main_v67 (ix2 0 o) = muZ2 x0 x1 x2 x3 x4 x5 x6 x7 x8 x9 x10 x11 x12 x13 x14 x15 x16 x17 x18 o :=
  ((h5_v67 (W10 m ρ c) o).trans (congrArg (cMean _) (funext fun b => s10_v61_1 ρ A h b o))).trans
    (meanR_eq (fun b n => Z2r x0 x1 x2 x3 x4 x5 x6 x7 x8 x9 x10 x11 x12 x13 x14 x15 x16 x17 x18 b n o) _)

include A h in
/-- The second layer's variance. -/
theorem v11_v81 (o : Fin 512) : V11 m ρ c main_v81 (ix2 0 o) = varZ2 x0 x1 x2 x3 x4 x5 x6 x7 x8 x9 x10 x11 x12 x13 x14 x15 x16 x17 x18 o :=
  ((h5_v81 (W10 m ρ c) o).trans (congrArg₂ (cVar _ _) (funext fun b => s10_v61_1 ρ A h b o) (funext fun b => s10_v61_2 ρ A h b o))).trans
    (varR_eq (fun b n => Z2r x0 x1 x2 x3 x4 x5 x6 x7 x8 x9 x10 x11 x12 x13 x14 x15 x16 x17 x18 b n o))

include A h in
theorem v11_v61_0 (n : Fin 8192) (o : Fin 512) : V11 m ρ c main_v61_0 (ix2 n o) = Z2r x0 x1 x2 x3 x4 x5 x6 x7 x8 x9 x10 x11 x12 x13 x14 x15 x16 x17 x18 (fB n) (fN n) o :=
  (congrFun (W11_of m ρ c main_v61_0 (by decide)) _).trans (s10_v61_0 ρ A h n o)

include A h in
/-- The normalised second layer. -/
theorem s12_v84 (n : Fin 8192) (o : Fin 512) : (W12 m ρ c (Proc.devRef .tc main_v84) : FVec Ideal S8192x512 .f32) (ix2 n o)
    = bnorm (muZ2 x0 x1 x2 x3 x4 x5 x6 x7 x8 x9 x10 x11 x12 x13 x14 x15 x16 x17 x18 o) (varZ2 x0 x1 x2 x3 x4 x5 x6 x7 x8 x9 x10 x11 x12 x13 x14 x15 x16 x17 x18 o) (x19 (ix1 o)) (x20 (ix1 o)) (Z2r x0 x1 x2 x3 x4 x5 x6 x7 x8 x9 x10 x11 x12 x13 x14 x15 x16 x17 x18 (fB n) (fN n) o) :=
  congrFun ((W12_arr m ρ c 5).trans (arr5_5 (V11 m ρ) c (Z := fun n j => Z2r x0 x1 x2 x3 x4 x5 x6 x7 x8 x9 x10 x11 x12 x13 x14 x15 x16 x17 x18 (fB n) (fN n) j) (mu := muZ2 x0 x1 x2 x3 x4 x5 x6 x7 x8 x9 x10 x11 x12 x13 x14 x15 x16 x17 x18) (var := varZ2 x0 x1 x2 x3 x4 x5 x6 x7 x8 x9 x10 x11 x12 x13 x14 x15 x16 x17 x18)
    (g := fun j => x19 (ix1 j)) (be := fun j => x20 (ix1 j)) (v11_v61_0 ρ A h) (v11_v67 ρ A h) (v11_v81 ρ A h)
    (fun o => (h5_v82 (W10 m ρ c) o).trans ((congrFun (W10_args m ρ c main_arg19 (by decide)) _).trans (A.e19 _)))
    (fun o => (h5_v83 (W10 m ρ c) o).trans ((congrFun (W10_args m ρ c main_arg20 (by decide)) _).trans (A.e20 _))))) (ix2 n o)

include A h in
/-- The kernel's result. -/
theorem s13_v85 (b : Fin 4) (n : Fin 2048) (o : Fin 512) : (W13 m ρ c (Proc.devRef .tc main_v85) : FVec Ideal S4x2048x512 .f32) (ix3 b n o)
    = bnorm (muZ2 x0 x1 x2 x3 x4 x5 x6 x7 x8 x9 x10 x11 x12 x13 x14 x15 x16 x17 x18 o) (varZ2 x0 x1 x2 x3 x4 x5 x6 x7 x8 x9 x10 x11 x12 x13 x14 x15 x16 x17 x18 o) (x19 (ix1 o)) (x20 (ix1 o)) (Z2r x0 x1 x2 x3 x4 x5 x6 x7 x8 x9 x10 x11 x12 x13 x14 x15 x16 x17 x18 b n o) := by
  refine ((h6_v85 (W12 m ρ c) b n o).trans (s12_v84 ρ A h (flat b n) o)).trans ?_
  rw [fB_flat, fN_flat]

end Cert.KernelIdeal.Val

end
-- ==== Proof.Run.lean ====
/-
  The whole run of the program: every buffer ends at the contents the chain of its host stretches and regions computes from
  the launch memory. The launch follows the generated frame; only the final statement differs.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that lives to the end holds the last boundary's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c b hb => h c b hb)

end Cert.KernelIdeal.Val

end
-- ==== Proof.Agree.lean ====
/-
  The kernel and the reference agree over the reals where the precondition holds.
-/
module

public import proofs.«01_k».proof.Defs
public import proofs.«01_k».proof.Proof.Fold4
public import proofs.«01_k».proof.Proof.PreFacts
public import proofs.«01_k».proof.Proof.Run
public import proofs.«01_k».proof.Proof.Gen.ReferenceIdeal.Run
public import proofs.«01_k».proof.Proof.Gen.ReferenceIdeal.Read

@[expose] public section

set_option maxRecDepth 16384

noncomputable section

namespace Cert.Agree

open Idealize.ShloMosaic Idealize.ShloMosaic.TcCoe Idealize.SL.Sem Cert.Spec
open Cert.KernelIdeal (nD τ sig main_v85)
open Cert.KernelIdeal.Gen (W13 W13_args mem_uc)
open Cert.KernelIdeal.Val (Args s13_v85)
open Cert.ReferenceIdeal.Val (Finite out_at dist0_ne_top score_ne_bot)

/-- The reference's result on the kernel's arguments is what the kernel leaves. -/
theorem value_eq {m : (ℓ : Loc nD τ sig) → Buf (Elt Ideal) ℓ} (ρ : Dev nD → PrngReg) {c : Dev nD}
  {x0 : FVec Ideal Cert.KernelIdeal.S4x2048x3 .f32}
  {x1 : FVec Ideal Cert.KernelIdeal.S6x16 .f32}
  {x2 : FVec Ideal Cert.KernelIdeal.S16 .f32}
  {x3 : FVec Ideal Cert.KernelIdeal.S32x48 .f32}
  {x4 : FVec Ideal Cert.KernelIdeal.S48 .f32}
  {x5 : FVec Ideal Cert.KernelIdeal.S1x64 .f32}
  {x6 : FVec Ideal Cert.KernelIdeal.S64 .f32}
  {x7 : FVec Ideal Cert.KernelIdeal.S48x64 .f32}
  {x8 : FVec Ideal Cert.KernelIdeal.S64 .f32}
  {x9 : FVec Ideal Cert.KernelIdeal.S128x128 .f32}
  {x10 : FVec Ideal Cert.KernelIdeal.S128 .f32}
  {x11 : FVec Ideal Cert.KernelIdeal.S128 .f32}
  {x12 : FVec Ideal Cert.KernelIdeal.S128 .f32}
  {x13 : FVec Ideal Cert.KernelIdeal.S480x512 .f32}
  {x14 : FVec Ideal Cert.KernelIdeal.S512 .f32}
  {x15 : FVec Ideal Cert.KernelIdeal.S512 .f32}
  {x16 : FVec Ideal Cert.KernelIdeal.S512 .f32}
  {x17 : FVec Ideal Cert.KernelIdeal.S512x512 .f32}
  {x18 : FVec Ideal Cert.KernelIdeal.S512 .f32}
  {x19 : FVec Ideal Cert.KernelIdeal.S512 .f32}
  {x20 : FVec Ideal Cert.KernelIdeal.S512 .f32}
    (A : Args m c x0 x1 x2 x3 x4 x5 x6 x7 x8 x9 x10 x11 x12 x13 x14 x15 x16 x17 x18 x19 x20) (h : Finite x0 x1 x11 x12) :
    (Cert.ReferenceIdeal.Read.val_main_v252 (F := Ideal) x0 x1 x2 x3 x4 x5 x6 x7 x8 x9 x10 x11 x12 x13 x14 x15 x16 x17 x18 x19 x20 : FVec Ideal Cert.KernelIdeal.S4x2048x512 .f32)
      = (W13 m ρ c (Proc.devRef .tc main_v85) : FVec Ideal Cert.KernelIdeal.S4x2048x512 .f32) := by
  funext i
  obtain ⟨b, n, o, rfl⟩ : ∃ (b : Fin 4) (n : Fin 2048) (o : Fin 512), i = ix3 b n o := ⟨i 0, i 1, i 2, eq_ix3 i⟩
  exact (out_at x0 x1 x2 x3 x4 x5 x6 x7 x8 x9 x10 x11 x12 x13 x14 x15 x16 x17 x18 x19 x20 (dist0_ne_top h) (score_ne_bot h) b n o).trans (s13_v85 ρ A h b n o).symm

/-- The kernel's results are the reference's, and both leave their arguments unchanged. -/
theorem algebraic : Cert.algebraic_KernelIdeal_ReferenceIdeal_pre_finite_core (hKernelIdeal := Cert.KernelIdeal.Gen.facts)
    (hReferenceIdeal := Cert.ReferenceIdeal.Gen.facts) (hPre_finite_core := Cert.PreFacts.facts) := by
  intro m ρ m' ρ' hpre hargs
  refine ⟨fun c => W13 m ρ c (Proc.devRef .tc main_v85), ?_, ?_⟩
  · refine (θ_run Cert.KernelIdeal.defs _ _).mono (fun r hr c => ?_) (Cert.KernelIdeal.Val.run (F := Ideal) m ρ)
    exact ⟨hr c _ (mem_uc main_v85 (by decide)),
      (hr c _ (mem_uc Cert.KernelIdeal.main_arg0 (by decide))).trans (W13_args m ρ c _ (by decide)),
      (hr c _ (mem_uc Cert.KernelIdeal.main_arg1 (by decide))).trans (W13_args m ρ c _ (by decide)),
      (hr c _ (mem_uc Cert.KernelIdeal.main_arg2 (by decide))).trans (W13_args m ρ c _ (by decide)),
      (hr c _ (mem_uc Cert.KernelIdeal.main_arg3 (by decide))).trans (W13_args m ρ c _ (by decide)),
      (hr c _ (mem_uc Cert.KernelIdeal.main_arg4 (by decide))).trans (W13_args m ρ c _ (by decide)),
      (hr c _ (mem_uc Cert.KernelIdeal.main_arg5 (by decide))).trans (W13_args m ρ c _ (by decide)),
      (hr c _ (mem_uc Cert.KernelIdeal.main_arg6 (by decide))).trans (W13_args m ρ c _ (by decide)),
      (hr c _ (mem_uc Cert.KernelIdeal.main_arg7 (by decide))).trans (W13_args m ρ c _ (by decide)),
      (hr c _ (mem_uc Cert.KernelIdeal.main_arg8 (by decide))).trans (W13_args m ρ c _ (by decide)),
      (hr c _ (mem_uc Cert.KernelIdeal.main_arg9 (by decide))).trans (W13_args m ρ c _ (by decide)),
      (hr c _ (mem_uc Cert.KernelIdeal.main_arg10 (by decide))).trans (W13_args m ρ c _ (by decide)),
      (hr c _ (mem_uc Cert.KernelIdeal.main_arg11 (by decide))).trans (W13_args m ρ c _ (by decide)),
      (hr c _ (mem_uc Cert.KernelIdeal.main_arg12 (by decide))).trans (W13_args m ρ c _ (by decide)),
      (hr c _ (mem_uc Cert.KernelIdeal.main_arg13 (by decide))).trans (W13_args m ρ c _ (by decide)),
      (hr c _ (mem_uc Cert.KernelIdeal.main_arg14 (by decide))).trans (W13_args m ρ c _ (by decide)),
      (hr c _ (mem_uc Cert.KernelIdeal.main_arg15 (by decide))).trans (W13_args m ρ c _ (by decide)),
      (hr c _ (mem_uc Cert.KernelIdeal.main_arg16 (by decide))).trans (W13_args m ρ c _ (by decide)),
      (hr c _ (mem_uc Cert.KernelIdeal.main_arg17 (by decide))).trans (W13_args m ρ c _ (by decide)),
      (hr c _ (mem_uc Cert.KernelIdeal.main_arg18 (by decide))).trans (W13_args m ρ c _ (by decide)),
      (hr c _ (mem_uc Cert.KernelIdeal.main_arg19 (by decide))).trans (W13_args m ρ c _ (by decide)),
      (hr c _ (mem_uc Cert.KernelIdeal.main_arg20 (by decide))).trans (W13_args m ρ c _ (by decide))⟩
  · refine (θ_run Cert.ReferenceIdeal.defs _ _).mono (fun r hr c => ?_) (Cert.ReferenceIdeal.Value.run (F := Ideal) m' ρ')
    obtain ⟨p0, p1, p11, p12⟩ := hpre c
    obtain ⟨q0, q1, q2, q3, q4, q5, q6, q7, q8, q9, q10, q11, q12, q13, q14, q15, q16, q17, q18, q19, q20⟩ := hargs c
    refine ⟨(hr c).1.trans ((Cert.ReferenceIdeal.Read.val_main_v252_eq _).trans ?_), (hr c).2⟩
    exact value_eq ρ
      (A := ⟨fun i => (congrFun q0 i).symm, fun i => (congrFun q1 i).symm, fun i => (congrFun q2 i).symm, fun i => (congrFun q3 i).symm, fun i => (congrFun q4 i).symm, fun i => (congrFun q5 i).symm, fun i => (congrFun q6 i).symm, fun i => (congrFun q7 i).symm, fun i => (congrFun q8 i).symm, fun i => (congrFun q9 i).symm, fun i => (congrFun q10 i).symm, fun i => (congrFun q11 i).symm, fun i => (congrFun q12 i).symm, fun i => (congrFun q13 i).symm, fun i => (congrFun q14 i).symm, fun i => (congrFun q15 i).symm, fun i => (congrFun q16 i).symm, fun i => (congrFun q17 i).symm, fun i => (congrFun q18 i).symm, fun i => (congrFun q19 i).symm, fun i => (congrFun q20 i).symm⟩)
      (h := ⟨fun i => (congrArg Re (congrFun q0 i)).mpr (PreFacts.re_of_lt _ _ p0 i),
        fun i => (congrArg Re (congrFun q1 i)).mpr (PreFacts.re_of_lt _ _ p1 i),
        fun i => (congrArg Re (congrFun q11 i)).mpr (PreFacts.re_of_lt _ _ p11 i),
        fun i => (congrArg Re (congrFun q12 i)).mpr (PreFacts.re_of_lt _ _ p12 i)⟩)

end Cert.Agree

end
-- ==== Proof.lean ====
/- The certificate's claims, put together. -/
module

public import proofs.«01_k».proof.Defs
public import proofs.«01_k».proof.Proof.Frames
public import proofs.«01_k».proof.Proof.PreFacts
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

theorem claim : Cert.Claim :=
  ⟨Cert.Kernel.Gen.facts, Cert.KernelIdeal.Gen.facts, Cert.ReferenceIdeal.Gen.facts, Cert.PreFacts.facts,
    Cert.Frames.kernel, Cert.Frames.kernelIdeal, fun m ρ _ => Cert.KernelIdeal.Gen.frame m ρ,
    Cert.Frames.referenceIdeal, fun m ρ _ => Cert.Frames.referenceIdeal m ρ trivial, Cert.Frames.preserves, Cert.Agree.algebraic⟩

end Cert.Proof

end
